-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_l [hPre_finite_l : Cert.Pre_finite_l.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_l.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_l [hPre_finite_l : Cert.Pre_finite_l.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_l.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite_l [hKernel3Ideal : Cert.Kernel3Ideal.Facts] [hPre_finite_l : Cert.Pre_finite_l.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_l m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite_l [hReference3Ideal : Cert.Reference3Ideal.Facts] [hPre_finite_l : Cert.Pre_finite_l.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_l m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  IdealRules.named_const.Statement Cert.KernelIdeal.κ "slope0" .f32 0xBF129195#32 ((-((13316085 / 33554432) * (Real.log 2)⁻¹) : ℝ) : EReal)
  ∧ IdealRules.named_const.Statement Cert.KernelIdeal.κ "mask" .f32 0xF149F2CA#32 ⊥
  ∧ IdealRules.named_const.Statement Cert.KernelIdeal.κ "slope1" .f32 0xBEB8AA3B#32 ((-((1 / 4) * (Real.log 2)⁻¹) : ℝ) : EReal)
  ∧ IdealRules.named_const.Statement Cert.KernelIdeal.κ "slope2" .f32 0xBE68A9CD#32 ((-((1321123 / 8388608) * (Real.log 2)⁻¹) : ℝ) : EReal)
  ∧ IdealRules.named_const.Statement Cert.KernelIdeal.κ "slope3" .f32 0xBE129195#32 ((-((13316085 / 134217728) * (Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_l [hKernel3Ideal : Cert.Kernel3Ideal.Facts] [hReference3Ideal : Cert.Reference3Ideal.Facts] [hPre_finite_l : Cert.Pre_finite_l.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_l m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v28)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts) (hPre_finite_l : Cert.Pre_finite_l.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_l (hKernel3Ideal := hKernel3Ideal) (hPre_finite_l := hPre_finite_l)
    ∧ quiescent_Reference3Ideal (hReference3Ideal := hReference3Ideal)
    ∧ quiescent_Reference3Ideal_pre_finite_l (hReference3Ideal := hReference3Ideal) (hPre_finite_l := hPre_finite_l)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_l (hKernel3Ideal := hKernel3Ideal) (hReference3Ideal := hReference3Ideal) (hPre_finite_l := hPre_finite_l)
-- ==== Pre_finite_l.lean ====
abbrev S8x2048x1024 : Shape := ⟨3, ![8, 2048, 1024]⟩
abbrev S1024 : Shape := ⟨1, ![1024]⟩
abbrev S8x2048x512 : Shape := ⟨3, ![8, 2048, 512]⟩
abbrev S8x2048x4x128 : Shape := ⟨4, ![8, 2048, 4, 128]⟩
abbrev S8x2048x4 : Shape := ⟨3, ![8, 2048, 4]⟩
abbrev S1024x8960 : Shape := ⟨2, ![1024, 8960]⟩
abbrev S3x1024 : Shape := ⟨2, ![3, 1024]⟩
abbrev S3x512x1024 : Shape := ⟨3, ![3, 512, 1024]⟩
abbrev S1024x1024 : Shape := ⟨2, ![1024, 1024]⟩
abbrev S_ : Shape := ⟨0, ![]⟩

class Facts : Prop where
  bcast_S_S8x2048x4 : S_.BroadcastsInDim S8x2048x4 (![] : Fin 0 → Fin S8x2048x4.rank)

variable [Facts]

def fn {F : FTy → Type} [FloatOps F] (main_arg0 : FVec F S8x2048x1024 .f32) (main_arg1 : FVec F S1024 .f32) (main_arg2 : FVec F S8x2048x512 .f32) (main_arg3 : FVec F S8x2048x4x128 .f32) (main_arg4 : FVec F S8x2048x4x128 .f32) (main_arg5 : FVec F S8x2048x4x128 .f32) (main_arg6 : FVec F S8x2048x4 .f32) (main_arg7 : FVec F S8x2048x4 .f32) (main_arg8 : FVec F S8x2048x4 .f32) (main_arg9 : FVec F S8x2048x512 .f32) (main_arg10 : FVec F S1024x8960 .f32) (main_arg11 : FVec F S3x1024 .f32) (main_arg12 : FVec F S3x512x1024 .f32) (main_arg13 : FVec F S1024x1024 .f32) : IVec S8x2048x4 1 :=
  let main_v0 : FVec F S8x2048x4 .f32 := Host.absf main_arg6
  let main_cst : FVec F S_ .f32 := constant S_ .f32 0x7F800000#32
  let main_v1 : FVec F S8x2048x4 .f32 := broadcastInDim S8x2048x4 ![] bcast_S_S8x2048x4 main_cst
  let main_v2 : IVec S8x2048x4 1 := cmpf .olt main_v0 main_v1
  let main_v3 : FVec F S8x2048x4 .f32 := Host.absf main_arg7
  let main_cst_0 : FVec F S_ .f32 := constant S_ .f32 0x7F800000#32
  let main_v4 : FVec F S8x2048x4 .f32 := broadcastInDim S8x2048x4 ![] bcast_S_S8x2048x4 main_cst_0
  let main_v5 : IVec S8x2048x4 1 := cmpf .olt main_v3 main_v4
  let main_v6 : IVec S8x2048x4 1 := andi main_v2 main_v5
  let main_v7 : FVec F S8x2048x4 .f32 := Host.absf main_arg8
  let main_cst_1 : FVec F S_ .f32 := constant S_ .f32 0x7F800000#32
  let main_v8 : FVec F S8x2048x4 .f32 := broadcastInDim S8x2048x4 ![] bcast_S_S8x2048x4 main_cst_1
  let main_v9 : IVec S8x2048x4 1 := cmpf .olt main_v7 main_v8
  let main_v10 : IVec S8x2048x4 1 := andi main_v6 main_v9
  main_v10
-- ==== Pre_finite_qk.lean ====
abbrev S8x2048x4x128 : Shape := ⟨4, ![8, 2048, 4, 128]⟩
abbrev S1x128 : Shape := ⟨2, ![1, 128]⟩
abbrev S_ : Shape := ⟨0, ![]⟩

class Facts : Prop where
  bcast_S_S8x2048x4x128 : S_.BroadcastsInDim S8x2048x4x128 (![] : Fin 0 → Fin S8x2048x4x128.rank)

variable [Facts]

def fn {F : FTy → Type} [FloatOps F] (main_arg0 : FVec F S8x2048x4x128 .f32) (main_arg1 : FVec F S8x2048x4x128 .f32) (main_arg2 : FVec F S8x2048x4x128 .f32) (main_arg3 : FVec F S1x128 .f32) (main_arg4 : FVec F S1x128 .f32) : IVec S8x2048x4x128 1 :=
  let main_v0 : FVec F S8x2048x4x128 .f32 := Host.absf main_arg0
  let main_cst : FVec F S_ .f32 := constant S_ .f32 0x7F800000#32
  let main_v1 : FVec F S8x2048x4x128 .f32 := broadcastInDim S8x2048x4x128 ![] bcast_S_S8x2048x4x128 main_cst
  let main_v2 : IVec S8x2048x4x128 1 := cmpf .olt main_v0 main_v1
  let main_v3 : FVec F S8x2048x4x128 .f32 := Host.absf main_arg1
  let main_cst_0 : FVec F S_ .f32 := constant S_ .f32 0x7F800000#32
  let main_v4 : FVec F S8x2048x4x128 .f32 := broadcastInDim S8x2048x4x128 ![] bcast_S_S8x2048x4x128 main_cst_0
  let main_v5 : IVec S8x2048x4x128 1 := cmpf .olt main_v3 main_v4
  let main_v6 : IVec S8x2048x4x128 1 := andi main_v2 main_v5
  main_v6
-- ==== Kernel.lean ====
abbrev S8x2048x4x128 : Shape := ⟨4, ![8, 2048, 4, 128]⟩
abbrev S1x128 : Shape := ⟨2, ![1, 128]⟩
abbrev S_ : Shape := ⟨0, ![]⟩
abbrev S8x512x4x512 : Shape := ⟨4, ![8, 512, 4, 512]⟩
abbrev S8x4x512x512 : Shape := ⟨4, ![8, 4, 512, 512]⟩
abbrev S8x4x512x1536 : Shape := ⟨4, ![8, 4, 512, 1536]⟩
abbrev S128 : Shape := ⟨1, ![128]⟩
abbrev S1 : Shape := ⟨1, ![1]⟩
abbrev S2 : Shape := ⟨1, ![2]⟩
abbrev S8x4x512x128 : Shape := ⟨4, ![8, 4, 512, 128]⟩
abbrev S1x4x512x512 : Shape := ⟨4, ![1, 4, 512, 512]⟩
abbrev S1x4x512x128 : Shape := ⟨4, ![1, 4, 512, 128]⟩
abbrev S4x640x512 : Shape := ⟨3, ![4, 640, 512]⟩
abbrev S4x4x128x256 : Shape := ⟨4, ![4, 4, 128, 256]⟩
abbrev S128x256 : Shape := ⟨2, ![128, 256]⟩
abbrev S1x1x128x256 : Shape := ⟨4, ![1, 1, 128, 256]⟩
abbrev S64x512 : Shape := ⟨2, ![64, 512]⟩
abbrev S1x64x512 : Shape := ⟨3, ![1, 64, 512]⟩
abbrev S1x1x512x512 : Shape := ⟨4, ![1, 1, 512, 512]⟩
abbrev S512x512 : Shape := ⟨2, ![512, 512]⟩
abbrev S1x512x512 : Shape := ⟨3, ![1, 512, 512]⟩
abbrev S128x128 : Shape := ⟨2, ![128, 128]⟩
abbrev S1x1x128x128 : Shape := ⟨4, ![1, 1, 128, 128]⟩
abbrev S1x256x128 : Shape := ⟨3, ![1, 256, 128]⟩
abbrev S256x128 : Shape := ⟨2, ![256, 128]⟩
abbrev S128x1 : Shape := ⟨2, ![128, 1]⟩

abbrev nBuf : Space → Nat
  | .hbm => 47
  | .vmem => 13
  | .smem => 1
  | _ => 0

abbrev bufTy : (tb : Table) → Fin (tcTables nBuf tb) → BufTy
  | .hbm, ⟨0, _⟩ => ⟨S8x2048x4x128, .f32⟩
  | .hbm, ⟨1, _⟩ => ⟨S8x2048x4x128, .f32⟩
  | .hbm, ⟨2, _⟩ => ⟨S8x2048x4x128, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S8x2048x4x128, .f32⟩
  | .hbm, ⟨7, _⟩ => ⟨S8x2048x4x128, .f32⟩
  | .hbm, ⟨8, _⟩ => ⟨S_, .f32⟩
  | .hbm, ⟨9, _⟩ => ⟨S_, .f32⟩
  | .hbm, ⟨10, _⟩ => ⟨S8x2048x4x128, .f32⟩
  | .hbm, ⟨11, _⟩ => ⟨S8x2048x4x128, .f32⟩
  | .hbm, ⟨12, _⟩ => ⟨S8x512x4x512, .f32⟩
  | .hbm, ⟨13, _⟩ => ⟨S8x4x512x512, .f32⟩
  | .hbm, ⟨14, _⟩ => ⟨S8x512x4x512, .f32⟩
  | .hbm, ⟨15, _⟩ => ⟨S8x4x512x512, .f32⟩
  | .hbm, ⟨16, _⟩ => ⟨S8x512x4x512, .f32⟩
  | .hbm, ⟨17, _⟩ => ⟨S8x4x512x512, .f32⟩
  | .hbm, ⟨18, _⟩ => ⟨S8x4x512x1536, .f32⟩
  | .hbm, ⟨19, _⟩ => ⟨S8x4x512x1536, .bf16⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S1, .i1⟩
  | .hbm, ⟨40, _⟩ => ⟨S_, .i1⟩
  | .hbm, ⟨41, _⟩ => ⟨S_, .i1⟩
  | .hbm, ⟨42, _⟩ => ⟨S_, .f32⟩
  | .hbm, ⟨43, _⟩ => ⟨S1, .f32⟩
  | .hbm, ⟨44, _⟩ => ⟨S2, .f32⟩
  | .hbm, ⟨45, _⟩ => ⟨S8x4x512x512, .bf16⟩
  | .hbm, ⟨46, _⟩ => ⟨S8x4x512x128, .f32⟩
  | .local _ .vmem, ⟨0, _⟩ => ⟨S1x4x512x512, .bf16⟩
  | .local _ .vmem, ⟨1, _⟩ => ⟨S1x4x512x512, .bf16⟩
  | .local _ .vmem, ⟨2, _⟩ => ⟨S1x4x512x512, .bf16⟩
  | .local _ .vmem, ⟨3, _⟩ => ⟨S1x4x512x512, .bf16⟩
  | .local _ .vmem, ⟨4, _⟩ => ⟨S1x4x512x512, .bf16⟩
  | .local _ .vmem, ⟨5, _⟩ => ⟨S1x4x512x512, .bf16⟩
  | .local _ .vmem, ⟨6, _⟩ => ⟨S1x4x512x512, .bf16⟩
  | .local _ .vmem, ⟨7, _⟩ => ⟨S1x4x512x512, .bf16⟩
  | .local _ .vmem, ⟨8, _⟩ => ⟨S1x4x512x128, .f32⟩
  | .local _ .vmem, ⟨9, _⟩ => ⟨S1x4x512x128, .f32⟩
  | .local _ .vmem, ⟨10, _⟩ => ⟨S4x640x512, .bf16⟩
  | .local _ .vmem, ⟨11, _⟩ => ⟨S4x640x512, .bf16⟩
  | .local _ .vmem, ⟨12, _⟩ => ⟨S4x4x128x256, .f32⟩
  | .local _ .smem, ⟨0, _⟩ => ⟨S2, .f32⟩
  | _, _ => ⟨S8x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 1], ![false, false, false]⟩

@[reducible] def k0_t1_loop : Scf.Loop 32 :=
  let c0_i32_105 : BitVec 32 := 0#32
  let c2_i32 : BitVec 32 := 2#32
  let v104 : BitVec 32 := Scalar.addi c0_i32_105 c2_i32
  let c1_i32 : BitVec 32 := 1#32
  ⟨c0_i32_105, v104, c1_i32⟩
def k0_off1 (k0_t1 : Fin k0_t1_loop.trips) (c0_i32_108 : BitVec 32) : Fin 4 → Nat :=
  let c0_109 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v106 : BitVec 32 := Scalar.addi v105 c0_i32_108
  let v107 : Index := Scalar.indexCast v106
  let c0_110 : Index := 0#32
  let c0_111 : Index := 0#32
  ![0, v107.toNat, 0, 0]
def k0_off2 (k0_t1 : Fin k0_t1_loop.trips) (c0_i32_112 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v110 : BitVec 32 := Scalar.addi v105 c0_i32_112
  let v111 : Index := Scalar.indexCast v110
  let c0_113 : Index := 0#32
  let c0_114 : Index := 0#32
  ![v111.toNat, 0, 0]
def k0_off3 (k0_t1 : Fin k0_t1_loop.trips) (c0_i32_116 : BitVec 32) : Fin 4 → Nat :=
  let c0_117 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v115 : BitVec 32 := Scalar.addi v105 c0_i32_116
  let v116 : Index := Scalar.indexCast v115
  let c0_118 : Index := 0#32
  let c128 : Index := 128#32
  ![0, v116.toNat, 0, 128]
def k0_off4 (k0_t1 : Fin k0_t1_loop.trips) (c0_i32_119 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v119 : BitVec 32 := Scalar.addi v105 c0_i32_119
  let v120 : Index := Scalar.indexCast v119
  let c0_120 : Index := 0#32
  let c128_121 : Index := 128#32
  ![v120.toNat, 0, 128]
def k0_off5 (k0_t1 : Fin k0_t1_loop.trips) (c0_i32_123 : BitVec 32) : Fin 4 → Nat :=
  let c0_124 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v124 : BitVec 32 := Scalar.addi v105 c0_i32_123
  let v125 : Index := Scalar.indexCast v124
  let c0_125 : Index := 0#32
  let c256 : Index := 256#32
  ![0, v125.toNat, 0, 256]
def k0_off6 (k0_t1 : Fin k0_t1_loop.trips) (c0_i32_126 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v128 : BitVec 32 := Scalar.addi v105 c0_i32_126
  let v129 : Index := Scalar.indexCast v128
  let c0_127 : Index := 0#32
  let c256_128 : Index := 256#32
  ![v129.toNat, 0, 256]
def k0_off7 (k0_t1 : Fin k0_t1_loop.trips) (c0_i32_130 : BitVec 32) : Fin 4 → Nat :=
  let c0_131 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v133 : BitVec 32 := Scalar.addi v105 c0_i32_130
  let v134 : Index := Scalar.indexCast v133
  let c0_132 : Index := 0#32
  let c384 : Index := 384#32
  ![0, v134.toNat, 0, 384]
def k0_off8 (k0_t1 : Fin k0_t1_loop.trips) (c0_i32_133 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v137 : BitVec 32 := Scalar.addi v105 c0_i32_133
  let v138 : Index := Scalar.indexCast v137
  let c0_134 : Index := 0#32
  let c384_135 : Index := 384#32
  ![v138.toNat, 0, 384]
def k0_off9 (k0_t1 : Fin k0_t1_loop.trips) (c0_i32_137 : BitVec 32) : Fin 4 → Nat :=
  let c0_138 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v142 : BitVec 32 := Scalar.addi v105 c0_i32_137
  let v143 : Index := Scalar.indexCast v142
  let c128_139 : Index := 128#32
  let c0_140 : Index := 0#32
  ![0, v143.toNat, 128, 0]
def k0_off10 (k0_t1 : Fin k0_t1_loop.trips) (c0_i32_141 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v146 : BitVec 32 := Scalar.addi v105 c0_i32_141
  let v147 : Index := Scalar.indexCast v146
  let c128_142 : Index := 128#32
  let c0_143 : Index := 0#32
  ![v147.toNat, 128, 0]
def k0_off11 (k0_t1 : Fin k0_t1_loop.trips) (c0_i32_145 : BitVec 32) : Fin 4 → Nat :=
  let c0_146 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v151 : BitVec 32 := Scalar.addi v105 c0_i32_145
  let v152 : Index := Scalar.indexCast v151
  let c128_147 : Index := 128#32
  let c128_148 : Index := 128#32
  ![0, v152.toNat, 128, 128]
def k0_off12 (k0_t1 : Fin k0_t1_loop.trips) (c0_i32_149 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v155 : BitVec 32 := Scalar.addi v105 c0_i32_149
  let v156 : Index := Scalar.indexCast v155
  let c128_150 : Index := 128#32
  let c128_151 : Index := 128#32
  ![v156.toNat, 128, 128]
def k0_off13 (k0_t1 : Fin k0_t1_loop.trips) (c0_i32_153 : BitVec 32) : Fin 4 → Nat :=
  let c0_154 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v160 : BitVec 32 := Scalar.addi v105 c0_i32_153
  let v161 : Index := Scalar.indexCast v160
  let c128_155 : Index := 128#32
  let c256_156 : Index := 256#32
  ![0, v161.toNat, 128, 256]
def k0_off14 (k0_t1 : Fin k0_t1_loop.trips) (c0_i32_157 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v164 : BitVec 32 := Scalar.addi v105 c0_i32_157
  let v165 : Index := Scalar.indexCast v164
  let c128_158 : Index := 128#32
  let c256_159 : Index := 256#32
  ![v165.toNat, 128, 256]
def k0_off15 (k0_t1 : Fin k0_t1_loop.trips) (c0_i32_161 : BitVec 32) : Fin 4 → Nat :=
  let c0_162 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v169 : BitVec 32 := Scalar.addi v105 c0_i32_161
  let v170 : Index := Scalar.indexCast v169
  let c128_163 : Index := 128#32
  let c384_164 : Index := 384#32
  ![0, v170.toNat, 128, 384]
def k0_off16 (k0_t1 : Fin k0_t1_loop.trips) (c0_i32_165 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v173 : BitVec 32 := Scalar.addi v105 c0_i32_165
  let v174 : Index := Scalar.indexCast v173
  let c128_166 : Index := 128#32
  let c384_167 : Index := 384#32
  ![v174.toNat, 128, 384]
def k0_off17 (k0_t1 : Fin k0_t1_loop.trips) (c0_i32_169 : BitVec 32) : Fin 4 → Nat :=
  let c0_170 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v178 : BitVec 32 := Scalar.addi v105 c0_i32_169
  let v179 : Index := Scalar.indexCast v178
  let c256_171 : Index := 256#32
  let c0_172 : Index := 0#32
  ![0, v179.toNat, 256, 0]
def k0_off18 (k0_t1 : Fin k0_t1_loop.trips) (c0_i32_173 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v182 : BitVec 32 := Scalar.addi v105 c0_i32_173
  let v183 : Index := Scalar.indexCast v182
  let c256_174 : Index := 256#32
  let c0_175 : Index := 0#32
  ![v183.toNat, 256, 0]
def k0_off19 (k0_t1 : Fin k0_t1_loop.trips) (c0_i32_177 : BitVec 32) : Fin 4 → Nat :=
  let c0_178 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v187 : BitVec 32 := Scalar.addi v105 c0_i32_177
  let v188 : Index := Scalar.indexCast v187
  let c256_179 : Index := 256#32
  let c128_180 : Index := 128#32
  ![0, v188.toNat, 256, 128]
def k0_off20 (k0_t1 : Fin k0_t1_loop.trips) (c0_i32_181 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v191 : BitVec 32 := Scalar.addi v105 c0_i32_181
  let v192 : Index := Scalar.indexCast v191
  let c256_182 : Index := 256#32
  let c128_183 : Index := 128#32
  ![v192.toNat, 256, 128]
def k0_off21 (k0_t1 : Fin k0_t1_loop.trips) (c0_i32_185 : BitVec 32) : Fin 4 → Nat :=
  let c0_186 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v196 : BitVec 32 := Scalar.addi v105 c0_i32_185
  let v197 : Index := Scalar.indexCast v196
  let c256_187 : Index := 256#32
  let c256_188 : Index := 256#32
  ![0, v197.toNat, 256, 256]
def k0_off22 (k0_t1 : Fin k0_t1_loop.trips) (c0_i32_189 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v200 : BitVec 32 := Scalar.addi v105 c0_i32_189
  let v201 : Index := Scalar.indexCast v200
  let c256_190 : Index := 256#32
  let c256_191 : Index := 256#32
  ![v201.toNat, 256, 256]
def k0_off23 (k0_t1 : Fin k0_t1_loop.trips) (c0_i32_193 : BitVec 32) : Fin 4 → Nat :=
  let c0_194 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v205 : BitVec 32 := Scalar.addi v105 c0_i32_193
  let v206 : Index := Scalar.indexCast v205
  let c256_195 : Index := 256#32
  let c384_196 : Index := 384#32
  ![0, v206.toNat, 256, 384]
def k0_off24 (k0_t1 : Fin k0_t1_loop.trips) (c0_i32_197 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v209 : BitVec 32 := Scalar.addi v105 c0_i32_197
  let v210 : Index := Scalar.indexCast v209
  let c256_198 : Index := 256#32
  let c384_199 : Index := 384#32
  ![v210.toNat, 256, 384]
def k0_off25 (k0_t1 : Fin k0_t1_loop.trips) (c0_i32_201 : BitVec 32) : Fin 4 → Nat :=
  let c0_202 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v214 : BitVec 32 := Scalar.addi v105 c0_i32_201
  let v215 : Index := Scalar.indexCast v214
  let c384_203 : Index := 384#32
  let c0_204 : Index := 0#32
  ![0, v215.toNat, 384, 0]
def k0_off26 (k0_t1 : Fin k0_t1_loop.trips) (c0_i32_205 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v218 : BitVec 32 := Scalar.addi v105 c0_i32_205
  let v219 : Index := Scalar.indexCast v218
  let c384_206 : Index := 384#32
  let c0_207 : Index := 0#32
  ![v219.toNat, 384, 0]
def k0_off27 (k0_t1 : Fin k0_t1_loop.trips) (c0_i32_209 : BitVec 32) : Fin 4 → Nat :=
  let c0_210 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v223 : BitVec 32 := Scalar.addi v105 c0_i32_209
  let v224 : Index := Scalar.indexCast v223
  let c384_211 : Index := 384#32
  let c128_212 : Index := 128#32
  ![0, v224.toNat, 384, 128]
def k0_off28 (k0_t1 : Fin k0_t1_loop.trips) (c0_i32_213 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v227 : BitVec 32 := Scalar.addi v105 c0_i32_213
  let v228 : Index := Scalar.indexCast v227
  let c384_214 : Index := 384#32
  let c128_215 : Index := 128#32
  ![v228.toNat, 384, 128]
def k0_off29 (k0_t1 : Fin k0_t1_loop.trips) (c0_i32_217 : BitVec 32) : Fin 4 → Nat :=
  let c0_218 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v232 : BitVec 32 := Scalar.addi v105 c0_i32_217
  let v233 : Index := Scalar.indexCast v232
  let c384_219 : Index := 384#32
  let c256_220 : Index := 256#32
  ![0, v233.toNat, 384, 256]
def k0_off30 (k0_t1 : Fin k0_t1_loop.trips) (c0_i32_221 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v236 : BitVec 32 := Scalar.addi v105 c0_i32_221
  let v237 : Index := Scalar.indexCast v236
  let c384_222 : Index := 384#32
  let c256_223 : Index := 256#32
  ![v237.toNat, 384, 256]
def k0_off31 (k0_t1 : Fin k0_t1_loop.trips) (c0_i32_225 : BitVec 32) : Fin 4 → Nat :=
  let c0_226 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v241 : BitVec 32 := Scalar.addi v105 c0_i32_225
  let v242 : Index := Scalar.indexCast v241
  let c384_227 : Index := 384#32
  let c384_228 : Index := 384#32
  ![0, v242.toNat, 384, 384]
def k0_off32 (k0_t1 : Fin k0_t1_loop.trips) (c0_i32_229 : BitVec 32) : Fin 3 → Nat :=
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v245 : BitVec 32 := Scalar.addi v105 c0_i32_229
  let v246 : Index := Scalar.indexCast v245
  let c384_230 : Index := 384#32
  let c384_231 : Index := 384#32
  ![v246.toNat, 384, 384]
def k0_off33 (i : grid0.Coords) (c0_i32_368 : BitVec 32) : Fin 4 → Nat :=
  let arg2 : BitVec 32 := BitVec.ofNat 32 (i 2).val
  let c512_i32 : BitVec 32 := 512#32
  let v394 : BitVec 32 := Scalar.muli arg2 c512_i32
  let c0_i32_361 : BitVec 32 := 0#32
  let v395 : BitVec 32 := Scalar.addi v394 c0_i32_361
  let c0_i32_362 : BitVec 32 := 0#32
  let v397 : BitVec 1 := Scalar.cmpi .sgt v395 c0_i32_362
  let v398 : BitVec 32 := Scalar.extui v397
  let c0_i32_363 : BitVec 32 := 0#32
  let v399 : BitVec 1 := Scalar.cmpi .slt v395 c0_i32_363
  let v400 : BitVec 32 := Scalar.extui v399
  let v401 : BitVec 32 := Scalar.subi v398 v400
  let c128_i32 : BitVec 32 := 128#32
  let c0_i32_364 : BitVec 32 := 0#32
  let v402 : BitVec 1 := Scalar.cmpi .sgt c128_i32 c0_i32_364
  let v403 : BitVec 32 := Scalar.extui v402
  let c0_i32_365 : BitVec 32 := 0#32
  let v404 : BitVec 1 := Scalar.cmpi .slt c128_i32 c0_i32_365
  let v405 : BitVec 32 := Scalar.extui v404
  let v406 : BitVec 32 := Scalar.subi v403 v405
  let v407 : BitVec 1 := Scalar.cmpi .ne v401 v406
  let v408 : BitVec 32 := Scalar.remsi v395 c128_i32
  let c0_i32_366 : BitVec 32 := 0#32
  let v409 : BitVec 1 := Scalar.cmpi .ne v408 c0_i32_366
  let v410 : BitVec 1 := Scalar.andi v407 v409
  let v396 : BitVec 32 := Scalar.divsi v395 c128_i32
  let c1_i32_367 : BitVec 32 := 1#32
  let v411 : BitVec 32 := Scalar.subi v396 c1_i32_367
  let v412 : BitVec 32 := Scalar.select v410 v411 v396
  let v413 : BitVec 32 := Scalar.addi v412 c0_i32_368
  let c0_i32_369 : BitVec 32 := 0#32
  let v414 : BitVec 1 := Scalar.cmpi .eq v413 c0_i32_369
  let v415 : BitVec 32 := Scalar.extui v414
  let c2_i32_370 : BitVec 32 := 2#32
  let c3_i32 : BitVec 32 := 3#32
  let v416 : BitVec 1 := Scalar.cmpi .eq v413 c3_i32
  let v417 : BitVec 32 := Scalar.extui v416
  let v418 : BitVec 32 := Scalar.muli c2_i32_370 v417
  let v419 : BitVec 32 := Scalar.addi v415 v418
  let v420 : Index := Scalar.indexCast v419
  let c0_371 : Index := 0#32
  let c0_372 : Index := 0#32
  let c0_373 : Index := 0#32
  ![v420.toNat, 0, 0, 0]
def k0_off34 (i : grid0.Coords) (c0_i32_368 : BitVec 32) : Fin 4 → Nat :=
  let arg2 : BitVec 32 := BitVec.ofNat 32 (i 2).val
  let c512_i32 : BitVec 32 := 512#32
  let v394 : BitVec 32 := Scalar.muli arg2 c512_i32
  let c0_i32_361 : BitVec 32 := 0#32
  let v395 : BitVec 32 := Scalar.addi v394 c0_i32_361
  let c0_i32_362 : BitVec 32 := 0#32
  let v397 : BitVec 1 := Scalar.cmpi .sgt v395 c0_i32_362
  let v398 : BitVec 32 := Scalar.extui v397
  let c0_i32_363 : BitVec 32 := 0#32
  let v399 : BitVec 1 := Scalar.cmpi .slt v395 c0_i32_363
  let v400 : BitVec 32 := Scalar.extui v399
  let v401 : BitVec 32 := Scalar.subi v398 v400
  let c128_i32 : BitVec 32 := 128#32
  let c0_i32_364 : BitVec 32 := 0#32
  let v402 : BitVec 1 := Scalar.cmpi .sgt c128_i32 c0_i32_364
  let v403 : BitVec 32 := Scalar.extui v402
  let c0_i32_365 : BitVec 32 := 0#32
  let v404 : BitVec 1 := Scalar.cmpi .slt c128_i32 c0_i32_365
  let v405 : BitVec 32 := Scalar.extui v404
  let v406 : BitVec 32 := Scalar.subi v403 v405
  let v407 : BitVec 1 := Scalar.cmpi .ne v401 v406
  let v408 : BitVec 32 := Scalar.remsi v395 c128_i32
  let c0_i32_366 : BitVec 32 := 0#32
  let v409 : BitVec 1 := Scalar.cmpi .ne v408 c0_i32_366
  let v410 : BitVec 1 := Scalar.andi v407 v409
  let v396 : BitVec 32 := Scalar.divsi v395 c128_i32
  let c1_i32_367 : BitVec 32 := 1#32
  let v411 : BitVec 32 := Scalar.subi v396 c1_i32_367
  let v412 : BitVec 32 := Scalar.select v410 v411 v396
  let v413 : BitVec 32 := Scalar.addi v412 c0_i32_368
  let c0_i32_369 : BitVec 32 := 0#32
  let v414 : BitVec 1 := Scalar.cmpi .eq v413 c0_i32_369
  let v415 : BitVec 32 := Scalar.extui v414
  let c2_i32_370 : BitVec 32 := 2#32
  let c3_i32 : BitVec 32 := 3#32
  let v416 : BitVec 1 := Scalar.cmpi .eq v413 c3_i32
  let v417 : BitVec 32 := Scalar.extui v416
  let v418 : BitVec 32 := Scalar.muli c2_i32_370 v417
  let v419 : BitVec 32 := Scalar.addi v415 v418
  let v430 : Index := Scalar.indexCast v419
  let c1_376 : Index := 1#32
  let c0_377 : Index := 0#32
  let c0_378 : Index := 0#32
  ![v430.toNat, 1, 0, 0]
def k0_off35 (i : grid0.Coords) (c0_i32_368 : BitVec 32) : Fin 4 → Nat :=
  let arg2 : BitVec 32 := BitVec.ofNat 32 (i 2).val
  let c512_i32 : BitVec 32 := 512#32
  let v394 : BitVec 32 := Scalar.muli arg2 c512_i32
  let c0_i32_361 : BitVec 32 := 0#32
  let v395 : BitVec 32 := Scalar.addi v394 c0_i32_361
  let c0_i32_362 : BitVec 32 := 0#32
  let v397 : BitVec 1 := Scalar.cmpi .sgt v395 c0_i32_362
  let v398 : BitVec 32 := Scalar.extui v397
  let c0_i32_363 : BitVec 32 := 0#32
  let v399 : BitVec 1 := Scalar.cmpi .slt v395 c0_i32_363
  let v400 : BitVec 32 := Scalar.extui v399
  let v401 : BitVec 32 := Scalar.subi v398 v400
  let c128_i32 : BitVec 32 := 128#32
  let c0_i32_364 : BitVec 32 := 0#32
  let v402 : BitVec 1 := Scalar.cmpi .sgt c128_i32 c0_i32_364
  let v403 : BitVec 32 := Scalar.extui v402
  let c0_i32_365 : BitVec 32 := 0#32
  let v404 : BitVec 1 := Scalar.cmpi .slt c128_i32 c0_i32_365
  let v405 : BitVec 32 := Scalar.extui v404
  let v406 : BitVec 32 := Scalar.subi v403 v405
  let v407 : BitVec 1 := Scalar.cmpi .ne v401 v406
  let v408 : BitVec 32 := Scalar.remsi v395 c128_i32
  let c0_i32_366 : BitVec 32 := 0#32
  let v409 : BitVec 1 := Scalar.cmpi .ne v408 c0_i32_366
  let v410 : BitVec 1 := Scalar.andi v407 v409
  let v396 : BitVec 32 := Scalar.divsi v395 c128_i32
  let c1_i32_367 : BitVec 32 := 1#32
  let v411 : BitVec 32 := Scalar.subi v396 c1_i32_367
  let v412 : BitVec 32 := Scalar.select v410 v411 v396
  let v413 : BitVec 32 := Scalar.addi v412 c0_i32_368
  let c0_i32_369 : BitVec 32 := 0#32
  let v414 : BitVec 1 := Scalar.cmpi .eq v413 c0_i32_369
  let v415 : BitVec 32 := Scalar.extui v414
  let c2_i32_370 : BitVec 32 := 2#32
  let c3_i32 : BitVec 32 := 3#32
  let v416 : BitVec 1 := Scalar.cmpi .eq v413 c3_i32
  let v417 : BitVec 32 := Scalar.extui v416
  let v418 : BitVec 32 := Scalar.muli c2_i32_370 v417
  let v419 : BitVec 32 := Scalar.addi v415 v418
  let v447 : Index := Scalar.indexCast v419
  let c2_381 : Index := 2#32
  let c0_382 : Index := 0#32
  let c0_383 : Index := 0#32
  ![v447.toNat, 2, 0, 0]
def k0_off36 (i : grid0.Coords) (c0_i32_368 : BitVec 32) : Fin 4 → Nat :=
  let arg2 : BitVec 32 := BitVec.ofNat 32 (i 2).val
  let c512_i32 : BitVec 32 := 512#32
  let v394 : BitVec 32 := Scalar.muli arg2 c512_i32
  let c0_i32_361 : BitVec 32 := 0#32
  let v395 : BitVec 32 := Scalar.addi v394 c0_i32_361
  let c0_i32_362 : BitVec 32 := 0#32
  let v397 : BitVec 1 := Scalar.cmpi .sgt v395 c0_i32_362
  let v398 : BitVec 32 := Scalar.extui v397
  let c0_i32_363 : BitVec 32 := 0#32
  let v399 : BitVec 1 := Scalar.cmpi .slt v395 c0_i32_363
  let v400 : BitVec 32 := Scalar.extui v399
  let v401 : BitVec 32 := Scalar.subi v398 v400
  let c128_i32 : BitVec 32 := 128#32
  let c0_i32_364 : BitVec 32 := 0#32
  let v402 : BitVec 1 := Scalar.cmpi .sgt c128_i32 c0_i32_364
  let v403 : BitVec 32 := Scalar.extui v402
  let c0_i32_365 : BitVec 32 := 0#32
  let v404 : BitVec 1 := Scalar.cmpi .slt c128_i32 c0_i32_365
  let v405 : BitVec 32 := Scalar.extui v404
  let v406 : BitVec 32 := Scalar.subi v403 v405
  let v407 : BitVec 1 := Scalar.cmpi .ne v401 v406
  let v408 : BitVec 32 := Scalar.remsi v395 c128_i32
  let c0_i32_366 : BitVec 32 := 0#32
  let v409 : BitVec 1 := Scalar.cmpi .ne v408 c0_i32_366
  let v410 : BitVec 1 := Scalar.andi v407 v409
  let v396 : BitVec 32 := Scalar.divsi v395 c128_i32
  let c1_i32_367 : BitVec 32 := 1#32
  let v411 : BitVec 32 := Scalar.subi v396 c1_i32_367
  let v412 : BitVec 32 := Scalar.select v410 v411 v396
  let v413 : BitVec 32 := Scalar.addi v412 c0_i32_368
  let c0_i32_369 : BitVec 32 := 0#32
  let v414 : BitVec 1 := Scalar.cmpi .eq v413 c0_i32_369
  let v415 : BitVec 32 := Scalar.extui v414
  let c2_i32_370 : BitVec 32 := 2#32
  let c3_i32 : BitVec 32 := 3#32
  let v416 : BitVec 1 := Scalar.cmpi .eq v413 c3_i32
  let v417 : BitVec 32 := Scalar.extui v416
  let v418 : BitVec 32 := Scalar.muli c2_i32_370 v417
  let v419 : BitVec 32 := Scalar.addi v415 v418
  let v462 : Index := Scalar.indexCast v419
  let c3_386 : Index := 3#32
  let c0_387 : Index := 0#32
  let c0_388 : Index := 0#32
  ![v462.toNat, 3, 0, 0]
def k0_off37 (k0_t1 : Fin k0_t1_loop.trips) (c0_i32_394 : BitVec 32) : Fin 4 → Nat :=
  let c0_395 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v485 : BitVec 32 := Scalar.addi v105 c0_i32_394
  let v486 : Index := Scalar.indexCast v485
  let c0_396 : Index := 0#32
  let c0_397 : Index := 0#32
  ![0, v486.toNat, 0, 0]
def k0_off38 (k0_t1 : Fin k0_t1_loop.trips) (c0_i32_437 : BitVec 32) : Fin 4 → Nat :=
  let c0_438 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v581 : BitVec 32 := Scalar.addi v105 c0_i32_437
  let v582 : Index := Scalar.indexCast v581
  let c128_439 : Index := 128#32
  let c0_440 : Index := 0#32
  ![0, v582.toNat, 128, 0]
def k0_off39 (k0_t1 : Fin k0_t1_loop.trips) (c0_i32_480 : BitVec 32) : Fin 4 → Nat :=
  let c0_481 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v677 : BitVec 32 := Scalar.addi v105 c0_i32_480
  let v678 : Index := Scalar.indexCast v677
  let c256_482 : Index := 256#32
  let c0_483 : Index := 0#32
  ![0, v678.toNat, 256, 0]
def k0_off40 (k0_t1 : Fin k0_t1_loop.trips) (c0_i32_523 : BitVec 32) : Fin 4 → Nat :=
  let c0_524 : Index := 0#32
  let c0_i32_105 : BitVec 32 := 0#32
  let c1_i32 : BitVec 32 := 1#32
  let arg12 : BitVec 32 := Scf.iv c0_i32_105 c1_i32 k0_t1
  let c2_i32_107 : BitVec 32 := 2#32
  let v105 : BitVec 32 := Scalar.muli arg12 c2_i32_107
  let v773 : BitVec 32 := Scalar.addi v105 c0_i32_523
  let v774 : Index := Scalar.indexCast v773
  let c384_525 : Index := 384#32
  let c0_526 : Index := 0#32
  ![0, v774.toNat, 384, 0]
@[reducible] def k0_t2_loop : Scf.Loop 32 :=
  let c0_i32_105 : BitVec 32 := 0#32
  let c2_i32 : BitVec 32 := 2#32
  let v104 : BitVec 32 := Scalar.addi c0_i32_105 c2_i32
  let c1_i32 : BitVec 32 := 1#32
  ⟨c0_i32_105, v104, c1_i32⟩
def k0_off41 (k0_t2 : Fin k0_t2_loop.trips) (c0_i32_108 : BitVec 32) : Fin 4 → Nat :=
  let c0_109 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v106 : BitVec 32 := Scalar.addi v105 c0_i32_108
  let v107 : Index := Scalar.indexCast v106
  let c0_110 : Index := 0#32
  let c0_111 : Index := 0#32
  ![0, v107.toNat, 0, 0]
def k0_off42 (k0_t2 : Fin k0_t2_loop.trips) (c0_i32_112 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v110 : BitVec 32 := Scalar.addi v105 c0_i32_112
  let v111 : Index := Scalar.indexCast v110
  let c0_113 : Index := 0#32
  let c0_114 : Index := 0#32
  ![v111.toNat, 0, 0]
def k0_off43 (k0_t2 : Fin k0_t2_loop.trips) (c0_i32_116 : BitVec 32) : Fin 4 → Nat :=
  let c0_117 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v115 : BitVec 32 := Scalar.addi v105 c0_i32_116
  let v116 : Index := Scalar.indexCast v115
  let c0_118 : Index := 0#32
  let c128 : Index := 128#32
  ![0, v116.toNat, 0, 128]
def k0_off44 (k0_t2 : Fin k0_t2_loop.trips) (c0_i32_119 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v119 : BitVec 32 := Scalar.addi v105 c0_i32_119
  let v120 : Index := Scalar.indexCast v119
  let c0_120 : Index := 0#32
  let c128_121 : Index := 128#32
  ![v120.toNat, 0, 128]
def k0_off45 (k0_t2 : Fin k0_t2_loop.trips) (c0_i32_123 : BitVec 32) : Fin 4 → Nat :=
  let c0_124 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v124 : BitVec 32 := Scalar.addi v105 c0_i32_123
  let v125 : Index := Scalar.indexCast v124
  let c0_125 : Index := 0#32
  let c256 : Index := 256#32
  ![0, v125.toNat, 0, 256]
def k0_off46 (k0_t2 : Fin k0_t2_loop.trips) (c0_i32_126 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v128 : BitVec 32 := Scalar.addi v105 c0_i32_126
  let v129 : Index := Scalar.indexCast v128
  let c0_127 : Index := 0#32
  let c256_128 : Index := 256#32
  ![v129.toNat, 0, 256]
def k0_off47 (k0_t2 : Fin k0_t2_loop.trips) (c0_i32_130 : BitVec 32) : Fin 4 → Nat :=
  let c0_131 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v133 : BitVec 32 := Scalar.addi v105 c0_i32_130
  let v134 : Index := Scalar.indexCast v133
  let c0_132 : Index := 0#32
  let c384 : Index := 384#32
  ![0, v134.toNat, 0, 384]
def k0_off48 (k0_t2 : Fin k0_t2_loop.trips) (c0_i32_133 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v137 : BitVec 32 := Scalar.addi v105 c0_i32_133
  let v138 : Index := Scalar.indexCast v137
  let c0_134 : Index := 0#32
  let c384_135 : Index := 384#32
  ![v138.toNat, 0, 384]
def k0_off49 (k0_t2 : Fin k0_t2_loop.trips) (c0_i32_137 : BitVec 32) : Fin 4 → Nat :=
  let c0_138 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v142 : BitVec 32 := Scalar.addi v105 c0_i32_137
  let v143 : Index := Scalar.indexCast v142
  let c128_139 : Index := 128#32
  let c0_140 : Index := 0#32
  ![0, v143.toNat, 128, 0]
def k0_off50 (k0_t2 : Fin k0_t2_loop.trips) (c0_i32_141 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v146 : BitVec 32 := Scalar.addi v105 c0_i32_141
  let v147 : Index := Scalar.indexCast v146
  let c128_142 : Index := 128#32
  let c0_143 : Index := 0#32
  ![v147.toNat, 128, 0]
def k0_off51 (k0_t2 : Fin k0_t2_loop.trips) (c0_i32_145 : BitVec 32) : Fin 4 → Nat :=
  let c0_146 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v151 : BitVec 32 := Scalar.addi v105 c0_i32_145
  let v152 : Index := Scalar.indexCast v151
  let c128_147 : Index := 128#32
  let c128_148 : Index := 128#32
  ![0, v152.toNat, 128, 128]
def k0_off52 (k0_t2 : Fin k0_t2_loop.trips) (c0_i32_149 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v155 : BitVec 32 := Scalar.addi v105 c0_i32_149
  let v156 : Index := Scalar.indexCast v155
  let c128_150 : Index := 128#32
  let c128_151 : Index := 128#32
  ![v156.toNat, 128, 128]
def k0_off53 (k0_t2 : Fin k0_t2_loop.trips) (c0_i32_153 : BitVec 32) : Fin 4 → Nat :=
  let c0_154 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v160 : BitVec 32 := Scalar.addi v105 c0_i32_153
  let v161 : Index := Scalar.indexCast v160
  let c128_155 : Index := 128#32
  let c256_156 : Index := 256#32
  ![0, v161.toNat, 128, 256]
def k0_off54 (k0_t2 : Fin k0_t2_loop.trips) (c0_i32_157 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v164 : BitVec 32 := Scalar.addi v105 c0_i32_157
  let v165 : Index := Scalar.indexCast v164
  let c128_158 : Index := 128#32
  let c256_159 : Index := 256#32
  ![v165.toNat, 128, 256]
def k0_off55 (k0_t2 : Fin k0_t2_loop.trips) (c0_i32_161 : BitVec 32) : Fin 4 → Nat :=
  let c0_162 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v169 : BitVec 32 := Scalar.addi v105 c0_i32_161
  let v170 : Index := Scalar.indexCast v169
  let c128_163 : Index := 128#32
  let c384_164 : Index := 384#32
  ![0, v170.toNat, 128, 384]
def k0_off56 (k0_t2 : Fin k0_t2_loop.trips) (c0_i32_165 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v173 : BitVec 32 := Scalar.addi v105 c0_i32_165
  let v174 : Index := Scalar.indexCast v173
  let c128_166 : Index := 128#32
  let c384_167 : Index := 384#32
  ![v174.toNat, 128, 384]
def k0_off57 (k0_t2 : Fin k0_t2_loop.trips) (c0_i32_169 : BitVec 32) : Fin 4 → Nat :=
  let c0_170 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v178 : BitVec 32 := Scalar.addi v105 c0_i32_169
  let v179 : Index := Scalar.indexCast v178
  let c256_171 : Index := 256#32
  let c0_172 : Index := 0#32
  ![0, v179.toNat, 256, 0]
def k0_off58 (k0_t2 : Fin k0_t2_loop.trips) (c0_i32_173 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v182 : BitVec 32 := Scalar.addi v105 c0_i32_173
  let v183 : Index := Scalar.indexCast v182
  let c256_174 : Index := 256#32
  let c0_175 : Index := 0#32
  ![v183.toNat, 256, 0]
def k0_off59 (k0_t2 : Fin k0_t2_loop.trips) (c0_i32_177 : BitVec 32) : Fin 4 → Nat :=
  let c0_178 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v187 : BitVec 32 := Scalar.addi v105 c0_i32_177
  let v188 : Index := Scalar.indexCast v187
  let c256_179 : Index := 256#32
  let c128_180 : Index := 128#32
  ![0, v188.toNat, 256, 128]
def k0_off60 (k0_t2 : Fin k0_t2_loop.trips) (c0_i32_181 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v191 : BitVec 32 := Scalar.addi v105 c0_i32_181
  let v192 : Index := Scalar.indexCast v191
  let c256_182 : Index := 256#32
  let c128_183 : Index := 128#32
  ![v192.toNat, 256, 128]
def k0_off61 (k0_t2 : Fin k0_t2_loop.trips) (c0_i32_185 : BitVec 32) : Fin 4 → Nat :=
  let c0_186 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v196 : BitVec 32 := Scalar.addi v105 c0_i32_185
  let v197 : Index := Scalar.indexCast v196
  let c256_187 : Index := 256#32
  let c256_188 : Index := 256#32
  ![0, v197.toNat, 256, 256]
def k0_off62 (k0_t2 : Fin k0_t2_loop.trips) (c0_i32_189 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v200 : BitVec 32 := Scalar.addi v105 c0_i32_189
  let v201 : Index := Scalar.indexCast v200
  let c256_190 : Index := 256#32
  let c256_191 : Index := 256#32
  ![v201.toNat, 256, 256]
def k0_off63 (k0_t2 : Fin k0_t2_loop.trips) (c0_i32_193 : BitVec 32) : Fin 4 → Nat :=
  let c0_194 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v205 : BitVec 32 := Scalar.addi v105 c0_i32_193
  let v206 : Index := Scalar.indexCast v205
  let c256_195 : Index := 256#32
  let c384_196 : Index := 384#32
  ![0, v206.toNat, 256, 384]
def k0_off64 (k0_t2 : Fin k0_t2_loop.trips) (c0_i32_197 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v209 : BitVec 32 := Scalar.addi v105 c0_i32_197
  let v210 : Index := Scalar.indexCast v209
  let c256_198 : Index := 256#32
  let c384_199 : Index := 384#32
  ![v210.toNat, 256, 384]
def k0_off65 (k0_t2 : Fin k0_t2_loop.trips) (c0_i32_201 : BitVec 32) : Fin 4 → Nat :=
  let c0_202 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v214 : BitVec 32 := Scalar.addi v105 c0_i32_201
  let v215 : Index := Scalar.indexCast v214
  let c384_203 : Index := 384#32
  let c0_204 : Index := 0#32
  ![0, v215.toNat, 384, 0]
def k0_off66 (k0_t2 : Fin k0_t2_loop.trips) (c0_i32_205 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v218 : BitVec 32 := Scalar.addi v105 c0_i32_205
  let v219 : Index := Scalar.indexCast v218
  let c384_206 : Index := 384#32
  let c0_207 : Index := 0#32
  ![v219.toNat, 384, 0]
def k0_off67 (k0_t2 : Fin k0_t2_loop.trips) (c0_i32_209 : BitVec 32) : Fin 4 → Nat :=
  let c0_210 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v223 : BitVec 32 := Scalar.addi v105 c0_i32_209
  let v224 : Index := Scalar.indexCast v223
  let c384_211 : Index := 384#32
  let c128_212 : Index := 128#32
  ![0, v224.toNat, 384, 128]
def k0_off68 (k0_t2 : Fin k0_t2_loop.trips) (c0_i32_213 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v227 : BitVec 32 := Scalar.addi v105 c0_i32_213
  let v228 : Index := Scalar.indexCast v227
  let c384_214 : Index := 384#32
  let c128_215 : Index := 128#32
  ![v228.toNat, 384, 128]
def k0_off69 (k0_t2 : Fin k0_t2_loop.trips) (c0_i32_217 : BitVec 32) : Fin 4 → Nat :=
  let c0_218 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v232 : BitVec 32 := Scalar.addi v105 c0_i32_217
  let v233 : Index := Scalar.indexCast v232
  let c384_219 : Index := 384#32
  let c256_220 : Index := 256#32
  ![0, v233.toNat, 384, 256]
def k0_off70 (k0_t2 : Fin k0_t2_loop.trips) (c0_i32_221 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v236 : BitVec 32 := Scalar.addi v105 c0_i32_221
  let v237 : Index := Scalar.indexCast v236
  let c384_222 : Index := 384#32
  let c256_223 : Index := 256#32
  ![v237.toNat, 384, 256]
def k0_off71 (k0_t2 : Fin k0_t2_loop.trips) (c0_i32_225 : BitVec 32) : Fin 4 → Nat :=
  let c0_226 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v241 : BitVec 32 := Scalar.addi v105 c0_i32_225
  let v242 : Index := Scalar.indexCast v241
  let c384_227 : Index := 384#32
  let c384_228 : Index := 384#32
  ![0, v242.toNat, 384, 384]
def k0_off72 (k0_t2 : Fin k0_t2_loop.trips) (c0_i32_229 : BitVec 32) : Fin 3 → Nat :=
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v245 : BitVec 32 := Scalar.addi v105 c0_i32_229
  let v246 : Index := Scalar.indexCast v245
  let c384_230 : Index := 384#32
  let c384_231 : Index := 384#32
  ![v246.toNat, 384, 384]
def k0_off73 (i : grid0.Coords) (c0_i32_368 : BitVec 32) : Fin 4 → Nat :=
  let arg2 : BitVec 32 := BitVec.ofNat 32 (i 2).val
  let c512_i32 : BitVec 32 := 512#32
  let v394 : BitVec 32 := Scalar.muli arg2 c512_i32
  let c0_i32_361 : BitVec 32 := 0#32
  let v395 : BitVec 32 := Scalar.addi v394 c0_i32_361
  let c0_i32_362 : BitVec 32 := 0#32
  let v397 : BitVec 1 := Scalar.cmpi .sgt v395 c0_i32_362
  let v398 : BitVec 32 := Scalar.extui v397
  let c0_i32_363 : BitVec 32 := 0#32
  let v399 : BitVec 1 := Scalar.cmpi .slt v395 c0_i32_363
  let v400 : BitVec 32 := Scalar.extui v399
  let v401 : BitVec 32 := Scalar.subi v398 v400
  let c128_i32 : BitVec 32 := 128#32
  let c0_i32_364 : BitVec 32 := 0#32
  let v402 : BitVec 1 := Scalar.cmpi .sgt c128_i32 c0_i32_364
  let v403 : BitVec 32 := Scalar.extui v402
  let c0_i32_365 : BitVec 32 := 0#32
  let v404 : BitVec 1 := Scalar.cmpi .slt c128_i32 c0_i32_365
  let v405 : BitVec 32 := Scalar.extui v404
  let v406 : BitVec 32 := Scalar.subi v403 v405
  let v407 : BitVec 1 := Scalar.cmpi .ne v401 v406
  let v408 : BitVec 32 := Scalar.remsi v395 c128_i32
  let c0_i32_366 : BitVec 32 := 0#32
  let v409 : BitVec 1 := Scalar.cmpi .ne v408 c0_i32_366
  let v410 : BitVec 1 := Scalar.andi v407 v409
  let v396 : BitVec 32 := Scalar.divsi v395 c128_i32
  let c1_i32_367 : BitVec 32 := 1#32
  let v411 : BitVec 32 := Scalar.subi v396 c1_i32_367
  let v412 : BitVec 32 := Scalar.select v410 v411 v396
  let v413 : BitVec 32 := Scalar.addi v412 c0_i32_368
  let c0_i32_369 : BitVec 32 := 0#32
  let v414 : BitVec 1 := Scalar.cmpi .eq v413 c0_i32_369
  let v415 : BitVec 32 := Scalar.extui v414
  let c2_i32_370 : BitVec 32 := 2#32
  let c3_i32 : BitVec 32 := 3#32
  let v416 : BitVec 1 := Scalar.cmpi .eq v413 c3_i32
  let v417 : BitVec 32 := Scalar.extui v416
  let v418 : BitVec 32 := Scalar.muli c2_i32_370 v417
  let v419 : BitVec 32 := Scalar.addi v415 v418
  let v420 : Index := Scalar.indexCast v419
  let c0_371 : Index := 0#32
  let c0_372 : Index := 0#32
  let c0_373 : Index := 0#32
  ![v420.toNat, 0, 0, 0]
def k0_off74 (i : grid0.Coords) (c0_i32_368 : BitVec 32) : Fin 4 → Nat :=
  let arg2 : BitVec 32 := BitVec.ofNat 32 (i 2).val
  let c512_i32 : BitVec 32 := 512#32
  let v394 : BitVec 32 := Scalar.muli arg2 c512_i32
  let c0_i32_361 : BitVec 32 := 0#32
  let v395 : BitVec 32 := Scalar.addi v394 c0_i32_361
  let c0_i32_362 : BitVec 32 := 0#32
  let v397 : BitVec 1 := Scalar.cmpi .sgt v395 c0_i32_362
  let v398 : BitVec 32 := Scalar.extui v397
  let c0_i32_363 : BitVec 32 := 0#32
  let v399 : BitVec 1 := Scalar.cmpi .slt v395 c0_i32_363
  let v400 : BitVec 32 := Scalar.extui v399
  let v401 : BitVec 32 := Scalar.subi v398 v400
  let c128_i32 : BitVec 32 := 128#32
  let c0_i32_364 : BitVec 32 := 0#32
  let v402 : BitVec 1 := Scalar.cmpi .sgt c128_i32 c0_i32_364
  let v403 : BitVec 32 := Scalar.extui v402
  let c0_i32_365 : BitVec 32 := 0#32
  let v404 : BitVec 1 := Scalar.cmpi .slt c128_i32 c0_i32_365
  let v405 : BitVec 32 := Scalar.extui v404
  let v406 : BitVec 32 := Scalar.subi v403 v405
  let v407 : BitVec 1 := Scalar.cmpi .ne v401 v406
  let v408 : BitVec 32 := Scalar.remsi v395 c128_i32
  let c0_i32_366 : BitVec 32 := 0#32
  let v409 : BitVec 1 := Scalar.cmpi .ne v408 c0_i32_366
  let v410 : BitVec 1 := Scalar.andi v407 v409
  let v396 : BitVec 32 := Scalar.divsi v395 c128_i32
  let c1_i32_367 : BitVec 32 := 1#32
  let v411 : BitVec 32 := Scalar.subi v396 c1_i32_367
  let v412 : BitVec 32 := Scalar.select v410 v411 v396
  let v413 : BitVec 32 := Scalar.addi v412 c0_i32_368
  let c0_i32_369 : BitVec 32 := 0#32
  let v414 : BitVec 1 := Scalar.cmpi .eq v413 c0_i32_369
  let v415 : BitVec 32 := Scalar.extui v414
  let c2_i32_370 : BitVec 32 := 2#32
  let c3_i32 : BitVec 32 := 3#32
  let v416 : BitVec 1 := Scalar.cmpi .eq v413 c3_i32
  let v417 : BitVec 32 := Scalar.extui v416
  let v418 : BitVec 32 := Scalar.muli c2_i32_370 v417
  let v419 : BitVec 32 := Scalar.addi v415 v418
  let v434 : Index := Scalar.indexCast v419
  let c1_377 : Index := 1#32
  let c0_378 : Index := 0#32
  let c0_379 : Index := 0#32
  ![v434.toNat, 1, 0, 0]
def k0_off75 (i : grid0.Coords) (c0_i32_368 : BitVec 32) : Fin 4 → Nat :=
  let arg2 : BitVec 32 := BitVec.ofNat 32 (i 2).val
  let c512_i32 : BitVec 32 := 512#32
  let v394 : BitVec 32 := Scalar.muli arg2 c512_i32
  let c0_i32_361 : BitVec 32 := 0#32
  let v395 : BitVec 32 := Scalar.addi v394 c0_i32_361
  let c0_i32_362 : BitVec 32 := 0#32
  let v397 : BitVec 1 := Scalar.cmpi .sgt v395 c0_i32_362
  let v398 : BitVec 32 := Scalar.extui v397
  let c0_i32_363 : BitVec 32 := 0#32
  let v399 : BitVec 1 := Scalar.cmpi .slt v395 c0_i32_363
  let v400 : BitVec 32 := Scalar.extui v399
  let v401 : BitVec 32 := Scalar.subi v398 v400
  let c128_i32 : BitVec 32 := 128#32
  let c0_i32_364 : BitVec 32 := 0#32
  let v402 : BitVec 1 := Scalar.cmpi .sgt c128_i32 c0_i32_364
  let v403 : BitVec 32 := Scalar.extui v402
  let c0_i32_365 : BitVec 32 := 0#32
  let v404 : BitVec 1 := Scalar.cmpi .slt c128_i32 c0_i32_365
  let v405 : BitVec 32 := Scalar.extui v404
  let v406 : BitVec 32 := Scalar.subi v403 v405
  let v407 : BitVec 1 := Scalar.cmpi .ne v401 v406
  let v408 : BitVec 32 := Scalar.remsi v395 c128_i32
  let c0_i32_366 : BitVec 32 := 0#32
  let v409 : BitVec 1 := Scalar.cmpi .ne v408 c0_i32_366
  let v410 : BitVec 1 := Scalar.andi v407 v409
  let v396 : BitVec 32 := Scalar.divsi v395 c128_i32
  let c1_i32_367 : BitVec 32 := 1#32
  let v411 : BitVec 32 := Scalar.subi v396 c1_i32_367
  let v412 : BitVec 32 := Scalar.select v410 v411 v396
  let v413 : BitVec 32 := Scalar.addi v412 c0_i32_368
  let c0_i32_369 : BitVec 32 := 0#32
  let v414 : BitVec 1 := Scalar.cmpi .eq v413 c0_i32_369
  let v415 : BitVec 32 := Scalar.extui v414
  let c2_i32_370 : BitVec 32 := 2#32
  let c3_i32 : BitVec 32 := 3#32
  let v416 : BitVec 1 := Scalar.cmpi .eq v413 c3_i32
  let v417 : BitVec 32 := Scalar.extui v416
  let v418 : BitVec 32 := Scalar.muli c2_i32_370 v417
  let v419 : BitVec 32 := Scalar.addi v415 v418
  let v462 : Index := Scalar.indexCast v419
  let c2_384 : Index := 2#32
  let c0_385 : Index := 0#32
  let c0_386 : Index := 0#32
  ![v462.toNat, 2, 0, 0]
def k0_off76 (i : grid0.Coords) (c0_i32_368 : BitVec 32) : Fin 4 → Nat :=
  let arg2 : BitVec 32 := BitVec.ofNat 32 (i 2).val
  let c512_i32 : BitVec 32 := 512#32
  let v394 : BitVec 32 := Scalar.muli arg2 c512_i32
  let c0_i32_361 : BitVec 32 := 0#32
  let v395 : BitVec 32 := Scalar.addi v394 c0_i32_361
  let c0_i32_362 : BitVec 32 := 0#32
  let v397 : BitVec 1 := Scalar.cmpi .sgt v395 c0_i32_362
  let v398 : BitVec 32 := Scalar.extui v397
  let c0_i32_363 : BitVec 32 := 0#32
  let v399 : BitVec 1 := Scalar.cmpi .slt v395 c0_i32_363
  let v400 : BitVec 32 := Scalar.extui v399
  let v401 : BitVec 32 := Scalar.subi v398 v400
  let c128_i32 : BitVec 32 := 128#32
  let c0_i32_364 : BitVec 32 := 0#32
  let v402 : BitVec 1 := Scalar.cmpi .sgt c128_i32 c0_i32_364
  let v403 : BitVec 32 := Scalar.extui v402
  let c0_i32_365 : BitVec 32 := 0#32
  let v404 : BitVec 1 := Scalar.cmpi .slt c128_i32 c0_i32_365
  let v405 : BitVec 32 := Scalar.extui v404
  let v406 : BitVec 32 := Scalar.subi v403 v405
  let v407 : BitVec 1 := Scalar.cmpi .ne v401 v406
  let v408 : BitVec 32 := Scalar.remsi v395 c128_i32
  let c0_i32_366 : BitVec 32 := 0#32
  let v409 : BitVec 1 := Scalar.cmpi .ne v408 c0_i32_366
  let v410 : BitVec 1 := Scalar.andi v407 v409
  let v396 : BitVec 32 := Scalar.divsi v395 c128_i32
  let c1_i32_367 : BitVec 32 := 1#32
  let v411 : BitVec 32 := Scalar.subi v396 c1_i32_367
  let v412 : BitVec 32 := Scalar.select v410 v411 v396
  let v413 : BitVec 32 := Scalar.addi v412 c0_i32_368
  let c0_i32_369 : BitVec 32 := 0#32
  let v414 : BitVec 1 := Scalar.cmpi .eq v413 c0_i32_369
  let v415 : BitVec 32 := Scalar.extui v414
  let c2_i32_370 : BitVec 32 := 2#32
  let c3_i32 : BitVec 32 := 3#32
  let v416 : BitVec 1 := Scalar.cmpi .eq v413 c3_i32
  let v417 : BitVec 32 := Scalar.extui v416
  let v418 : BitVec 32 := Scalar.muli c2_i32_370 v417
  let v419 : BitVec 32 := Scalar.addi v415 v418
  let v486 : Index := Scalar.indexCast v419
  let c3_391 : Index := 3#32
  let c0_392 : Index := 0#32
  let c0_393 : Index := 0#32
  ![v486.toNat, 3, 0, 0]
def k0_off77 (k0_t2 : Fin k0_t2_loop.trips) (c0_i32_400 : BitVec 32) : Fin 4 → Nat :=
  let c0_401 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v516 : BitVec 32 := Scalar.addi v105 c0_i32_400
  let v517 : Index := Scalar.indexCast v516
  let c0_402 : Index := 0#32
  let c0_403 : Index := 0#32
  ![0, v517.toNat, 0, 0]
def k0_off78 (k0_t2 : Fin k0_t2_loop.trips) (c0_i32_449 : BitVec 32) : Fin 4 → Nat :=
  let c0_450 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v643 : BitVec 32 := Scalar.addi v105 c0_i32_449
  let v644 : Index := Scalar.indexCast v643
  let c128_451 : Index := 128#32
  let c0_452 : Index := 0#32
  ![0, v644.toNat, 128, 0]
def k0_off79 (k0_t2 : Fin k0_t2_loop.trips) (c0_i32_498 : BitVec 32) : Fin 4 → Nat :=
  let c0_499 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v770 : BitVec 32 := Scalar.addi v105 c0_i32_498
  let v771 : Index := Scalar.indexCast v770
  let c256_500 : Index := 256#32
  let c0_501 : Index := 0#32
  ![0, v771.toNat, 256, 0]
def k0_off80 (k0_t2 : Fin k0_t2_loop.trips) (c0_i32_547 : BitVec 32) : Fin 4 → Nat :=
  let c0_548 : Index := 0#32
  let c0_i32_105 : BitVec 32 := 0#32
  let c1_i32 : BitVec 32 := 1#32
  let arg12 : BitVec 32 := Scf.iv c0_i32_105 c1_i32 k0_t2
  let c2_i32_107 : BitVec 32 := 2#32
  let v105 : BitVec 32 := Scalar.muli arg12 c2_i32_107
  let v897 : BitVec 32 := Scalar.addi v105 c0_i32_547
  let v898 : Index := Scalar.indexCast v897
  let c384_549 : Index := 384#32
  let c0_550 : Index := 0#32
  ![0, v898.toNat, 384, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "slope0" => some ((-((13316085 / 33554432) * (Real.log 2)⁻¹) : ℝ) : EReal)
  | "slope1" => some ((-((1 / 4) * (Real.log 2)⁻¹) : ℝ) : EReal)
  | "slope2" => some ((-((1321123 / 8388608) * (Real.log 2)⁻¹) : ℝ) : EReal)
  | "slope3" => some ((-((13316085 / 134217728) * (Real.log 2)⁻¹) : ℝ) : EReal)
  | _ => none
-- ==== ReferenceIdeal.lean ====
abbrev S8x2048x4x128 : Shape := ⟨4, ![8, 2048, 4, 128]⟩
abbrev S1x128 : Shape := ⟨2, ![1, 128]⟩
abbrev S_ : Shape := ⟨0, ![]⟩
abbrev S1 : Shape := ⟨1, ![1]⟩
abbrev S4 : Shape := ⟨1, ![4]⟩
abbrev S8x512x4x4x128 : Shape := ⟨5, ![8, 512, 4, 4, 128]⟩
abbrev S8x4x512x4x128 : Shape := ⟨5, ![8, 4, 512, 4, 128]⟩
abbrev S32x512x4x128 : Shape := ⟨4, ![32, 512, 4, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32x4x512x512 : Shape := ⟨4, ![32, 4, 512, 512]⟩
abbrev S4x1x1 : Shape := ⟨3, ![4, 1, 1]⟩
abbrev S1x512x512 : Shape := ⟨3, ![1, 512, 512]⟩
abbrev S4x512x512 : Shape := ⟨3, ![4, 512, 512]⟩
abbrev S1x4x512x512 : Shape := ⟨4, ![1, 4, 512, 512]⟩
abbrev S32x4x512 : Shape := ⟨3, ![32, 4, 512]⟩
abbrev S32x4x512x1 : Shape := ⟨4, ![32, 4, 512, 1]⟩
abbrev S32x4x512x128 : Shape := ⟨4, ![32, 4, 512, 128]⟩
abbrev S8x4x512x512 : Shape := ⟨4, ![8, 4, 512, 512]⟩
abbrev S32x512x4 : Shape := ⟨3, ![32, 512, 4]⟩
abbrev S8x4x512x4 : Shape := ⟨4, ![8, 4, 512, 4]⟩
abbrev S8x4x512x4x32 : Shape := ⟨5, ![8, 4, 512, 4, 32]⟩
abbrev S8x4x512x128 : Shape := ⟨4, ![8, 4, 512, 128]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x4x128, .f32⟩
  | .hbm, ⟨1, _⟩ => ⟨S8x2048x4x128, .f32⟩
  | .hbm, ⟨2, _⟩ => ⟨S8x2048x4x128, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S4, .f32⟩
  | .hbm, ⟨14, _⟩ => ⟨S8x512x4x4x128, .f32⟩
  | .hbm, ⟨15, _⟩ => ⟨S8x4x512x4x128, .f32⟩
  | .hbm, ⟨16, _⟩ => ⟨S32x512x4x128, .f32⟩
  | .hbm, ⟨17, _⟩ => ⟨S8x512x4x4x128, .f32⟩
  | .hbm, ⟨18, _⟩ => ⟨S8x4x512x4x128, .f32⟩
  | .hbm, ⟨19, _⟩ => ⟨S32x512x4x128, .f32⟩
  | .hbm, ⟨20, _⟩ => ⟨S8x512x4x4x128, .f32⟩
  | .hbm, ⟨21, _⟩ => ⟨S8x4x512x4x128, .f32⟩
  | .hbm, ⟨22, _⟩ => ⟨S32x512x4x128, .f32⟩
  | .hbm, ⟨23, _⟩ => ⟨S512, .i32⟩
  | .hbm, ⟨24, _⟩ => ⟨S512x1, .i32⟩
  | .hbm, ⟨25, _⟩ => ⟨S512, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i1⟩
  | .hbm, ⟨34, _⟩ => ⟨S32x4x512x512, .f32⟩
  | .hbm, ⟨35, _⟩ => ⟨S_, .f32⟩
  | .hbm, ⟨36, _⟩ => ⟨S32x4x512x512, .f32⟩
  | .hbm, ⟨37, _⟩ => ⟨S32x4x512x512, .f32⟩
  | .hbm, ⟨38, _⟩ => ⟨S4x1x1, .f32⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .f32⟩
  | .hbm, ⟨43, _⟩ => ⟨S1x512x512, .f32⟩
  | .hbm, ⟨44, _⟩ => ⟨S4x512x512, .f32⟩
  | .hbm, ⟨45, _⟩ => ⟨S4x512x512, .f32⟩
  | .hbm, ⟨46, _⟩ => ⟨S4x512x512, .f32⟩
  | .hbm, ⟨47, _⟩ => ⟨S1x4x512x512, .f32⟩
  | .hbm, ⟨48, _⟩ => ⟨S32x4x512x512, .f32⟩
  | .hbm, ⟨49, _⟩ => ⟨S32x4x512x512, .f32⟩
  | .hbm, ⟨50, _⟩ => ⟨S_, .f32⟩
  | .hbm, ⟨51, _⟩ => ⟨S_, .f32⟩
  | .hbm, ⟨52, _⟩ => ⟨S32x4x512x512, .i1⟩
  | .hbm, ⟨53, _⟩ => ⟨S32x4x512x512, .f32⟩
  | .hbm, ⟨54, _⟩ => ⟨S32x4x512x512, .f32⟩
  | .hbm, ⟨55, _⟩ => ⟨S_, .f32⟩
  | .hbm, ⟨56, _⟩ => ⟨S32x4x512, .f32⟩
  | .hbm, ⟨57, _⟩ => ⟨S32x4x512x1, .f32⟩
  | .hbm, ⟨58, _⟩ => ⟨S32x4x512x512, .f32⟩
  | .hbm, ⟨59, _⟩ => ⟨S32x4x512x512, .f32⟩
  | .hbm, ⟨60, _⟩ => ⟨S32x4x512x512, .f32⟩
  | .hbm, ⟨61, _⟩ => ⟨S_, .f32⟩
  | .hbm, ⟨62, _⟩ => ⟨S32x4x512, .f32⟩
  | .hbm, ⟨63, _⟩ => ⟨S32x4x512x128, .f32⟩
  | .hbm, ⟨64, _⟩ => ⟨S32x4x512x1, .f32⟩
  | .hbm, ⟨65, _⟩ => ⟨S32x4x512x128, .f32⟩
  | .hbm, ⟨66, _⟩ => ⟨S32x4x512x128, .f32⟩
  | .hbm, ⟨67, _⟩ => ⟨S32x4x512, .f32⟩
  | .hbm, ⟨68, _⟩ => ⟨S32x4x512, .f32⟩
  | .hbm, ⟨69, _⟩ => ⟨S32x512x4x128, .f32⟩
  | .hbm, ⟨70, _⟩ => ⟨S8x4x512x512, .f32⟩
  | .hbm, ⟨71, _⟩ => ⟨S8x4x512x512, .bf16⟩
  | .hbm, ⟨72, _⟩ => ⟨S32x512x4, .f32⟩
  | .hbm, ⟨73, _⟩ => ⟨S8x4x512x4, .f32⟩
  | .hbm, ⟨74, _⟩ => ⟨S8x4x512x4x32, .f32⟩
  | .hbm, ⟨75, _⟩ => ⟨S8x4x512x128, .f32⟩
  | _, _ => ⟨S8x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x4096, .f32⟩
  | .hbm, ⟨21, _⟩ => ⟨S_, .f32⟩
  | .hbm, ⟨22, _⟩ => ⟨S8x2048x4096, .f32⟩
  | .hbm, ⟨23, _⟩ => ⟨S8x2048x4096, .f32⟩
  | .hbm, ⟨24, _⟩ => ⟨S8x2048x4096, .f32⟩
  | .hbm, ⟨25, _⟩ => ⟨S8x2048x1024, .f32⟩
  | .hbm, ⟨26, _⟩ => ⟨S8x2048x1024, .f32⟩
  | .hbm, ⟨27, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S8x2048x512 : Shape := ⟨3, ![8, 2048, 512]⟩
abbrev S8x2048x4x128 : Shape := ⟨4, ![8, 2048, 4, 128]⟩
abbrev S8x2048x4 : Shape := ⟨3, ![8, 2048, 4]⟩
abbrev S1024x8960 : Shape := ⟨2, ![1024, 8960]⟩
abbrev S3x1024 : Shape := ⟨2, ![3, 1024]⟩
abbrev S3x512x1024 : Shape := ⟨3, ![3, 512, 1024]⟩
abbrev S1024x1024 : Shape := ⟨2, ![1024, 1024]⟩
abbrev S8x2048x1x512 : Shape := ⟨4, ![8, 2048, 1, 512]⟩
abbrev S8x1x2048x512 : Shape := ⟨4, ![8, 1, 2048, 512]⟩
abbrev S8x512x4x512 : Shape := ⟨4, ![8, 512, 4, 512]⟩
abbrev S8x4x512x512 : Shape := ⟨4, ![8, 4, 512, 512]⟩
abbrev S8x128x16x512 : Shape := ⟨4, ![8, 128, 16, 512]⟩
abbrev S8x16x128x512 : Shape := ⟨4, ![8, 16, 128, 512]⟩
abbrev S8x2048x4x32 : Shape := ⟨4, ![8, 2048, 4, 32]⟩
abbrev S8x2048x128 : Shape := ⟨3, ![8, 2048, 128]⟩
abbrev S8x2048x1x128 : Shape := ⟨4, ![8, 2048, 1, 128]⟩
abbrev S8x1x2048x128 : Shape := ⟨4, ![8, 1, 2048, 128]⟩
abbrev S8x512x4x128 : Shape := ⟨4, ![8, 512, 4, 128]⟩
abbrev S8x4x512x128 : Shape := ⟨4, ![8, 4, 512, 128]⟩
abbrev S8x128x16x128 : Shape := ⟨4, ![8, 128, 16, 128]⟩
abbrev S8x16x128x128 : Shape := ⟨4, ![8, 16, 128, 128]⟩
abbrev S1x1024 : Shape := ⟨2, ![1, 1024]⟩
abbrev S1024x3072 : Shape := ⟨2, ![1024, 3072]⟩
abbrev S1x512x1024 : Shape := ⟨3, ![1, 512, 1024]⟩
abbrev S1x512x512 : Shape := ⟨3, ![1, 512, 512]⟩
abbrev S1x1x512x512 : Shape := ⟨4, ![1, 1, 512, 512]⟩
abbrev S1x4x128x512 : Shape := ⟨4, ![1, 4, 128, 512]⟩
abbrev S1x16x32x512 : Shape := ⟨4, ![1, 16, 32, 512]⟩
abbrev S1x1x512x128 : Shape := ⟨4, ![1, 1, 512, 128]⟩
abbrev S1x4x128x128 : Shape := ⟨4, ![1, 4, 128, 128]⟩
abbrev S1x16x32x128 : Shape := ⟨4, ![1, 16, 32, 128]⟩
abbrev S15x512x128 : Shape := ⟨3, ![15, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x1x128x128 : Shape := ⟨4, ![1, 1, 128, 128]⟩
abbrev S128x128 : Shape := ⟨2, ![128, 128]⟩
abbrev S1x128x128 : Shape := ⟨3, ![1, 128, 128]⟩
abbrev S1x512x128 : Shape := ⟨3, ![1, 512, 128]⟩
abbrev S1x1x32x128 : Shape := ⟨4, ![1, 1, 32, 128]⟩
abbrev S32x128 : Shape := ⟨2, ![32, 128]⟩
abbrev S1x32x128 : Shape := ⟨3, ![1, 32, 128]⟩
abbrev S512x512 : Shape := ⟨2, ![512, 512]⟩

abbrev nBuf : Space → Nat
  | .hbm => 43
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x2048x512, .f32⟩
  | .hbm, ⟨3, _⟩ => ⟨S8x2048x4x128, .f32⟩
  | .hbm, ⟨4, _⟩ => ⟨S8x2048x4x128, .f32⟩
  | .hbm, ⟨5, _⟩ => ⟨S8x2048x4x128, .f32⟩
  | .hbm, ⟨6, _⟩ => ⟨S8x2048x4, .f32⟩
  | .hbm, ⟨7, _⟩ => ⟨S8x2048x4, .f32⟩
  | .hbm, ⟨8, _⟩ => ⟨S8x2048x4, .f32⟩
  | .hbm, ⟨9, _⟩ => ⟨S8x2048x512, .f32⟩
  | .hbm, ⟨10, _⟩ => ⟨S1024x8960, .f32⟩
  | .hbm, ⟨11, _⟩ => ⟨S3x1024, .f32⟩
  | .hbm, ⟨12, _⟩ => ⟨S3x512x1024, .f32⟩
  | .hbm, ⟨13, _⟩ => ⟨S1024x1024, .f32⟩
  | .hbm, ⟨14, _⟩ => ⟨S8x2048x1x512, .f32⟩
  | .hbm, ⟨15, _⟩ => ⟨S8x1x2048x512, .f32⟩
  | .hbm, ⟨16, _⟩ => ⟨S8x1x2048x512, .bf16⟩
  | .hbm, ⟨17, _⟩ => ⟨S8x512x4x512, .f32⟩
  | .hbm, ⟨18, _⟩ => ⟨S8x4x512x512, .f32⟩
  | .hbm, ⟨19, _⟩ => ⟨S8x4x512x512, .bf16⟩
  | .hbm, ⟨20, _⟩ => ⟨S8x128x16x512, .f32⟩
  | .hbm, ⟨21, _⟩ => ⟨S8x16x128x512, .f32⟩
  | .hbm, ⟨22, _⟩ => ⟨S8x16x128x512, .bf16⟩
  | .hbm, ⟨23, _⟩ => ⟨S8x2048x4x32, .f32⟩
  | .hbm, ⟨24, _⟩ => ⟨S8x2048x128, .f32⟩
  | .hbm, ⟨25, _⟩ => ⟨S8x2048x1x128, .f32⟩
  | .hbm, ⟨26, _⟩ => ⟨S8x1x2048x128, .f32⟩
  | .hbm, ⟨27, _⟩ => ⟨S8x2048x4x32, .f32⟩
  | .hbm, ⟨28, _⟩ => ⟨S8x2048x128, .f32⟩
  | .hbm, ⟨29, _⟩ => ⟨S8x512x4x128, .f32⟩
  | .hbm, ⟨30, _⟩ => ⟨S8x4x512x128, .f32⟩
  | .hbm, ⟨31, _⟩ => ⟨S8x2048x4x32, .f32⟩
  | .hbm, ⟨32, _⟩ => ⟨S8x2048x128, .f32⟩
  | .hbm, ⟨33, _⟩ => ⟨S8x128x16x128, .f32⟩
  | .hbm, ⟨34, _⟩ => ⟨S8x16x128x128, .f32⟩
  | .hbm, ⟨35, _⟩ => ⟨S1x1024, .f32⟩
  | .hbm, ⟨36, _⟩ => ⟨S8x2048x512, .bf16⟩
  | .hbm, ⟨37, _⟩ => ⟨S8x2048x512, .bf16⟩
  | .hbm, ⟨38, _⟩ => ⟨S1024x3072, .f32⟩
  | .hbm, ⟨39, _⟩ => ⟨S1024x3072, .bf16⟩
  | .hbm, ⟨40, _⟩ => ⟨S3x512x1024, .bf16⟩
  | .hbm, ⟨41, _⟩ => ⟨S1024x1024, .bf16⟩
  | .hbm, ⟨42, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x512, .bf16⟩
  | .local _ .vmem, ⟨4, _⟩ => ⟨S1x512x512, .bf16⟩
  | .local _ .vmem, ⟨5, _⟩ => ⟨S1x1x512x512, .bf16⟩
  | .local _ .vmem, ⟨6, _⟩ => ⟨S1x1x512x512, .bf16⟩
  | .local _ .vmem, ⟨7, _⟩ => ⟨S1x4x128x512, .bf16⟩
  | .local _ .vmem, ⟨8, _⟩ => ⟨S1x4x128x512, .bf16⟩
  | .local _ .vmem, ⟨9, _⟩ => ⟨S1x16x32x512, .bf16⟩
  | .local _ .vmem, ⟨10, _⟩ => ⟨S1x16x32x512, .bf16⟩
  | .local _ .vmem, ⟨11, _⟩ => ⟨S1x1x512x128, .f32⟩
  | .local _ .vmem, ⟨12, _⟩ => ⟨S1x1x512x128, .f32⟩
  | .local _ .vmem, ⟨13, _⟩ => ⟨S1x4x128x128, .f32⟩
  | .local _ .vmem, ⟨14, _⟩ => ⟨S1x4x128x128, .f32⟩
  | .local _ .vmem, ⟨15, _⟩ => ⟨S1x16x32x128, .f32⟩
  | .local _ .vmem, ⟨16, _⟩ => ⟨S1x16x32x128, .f32⟩
  | .local _ .vmem, ⟨17, _⟩ => ⟨S1x512x512, .bf16⟩
  | .local _ .vmem, ⟨18, _⟩ => ⟨S1x512x512, .bf16⟩
  | .local _ .vmem, ⟨19, _⟩ => ⟨S1024x3072, .bf16⟩
  | .local _ .vmem, ⟨20, _⟩ => ⟨S3x1024, .f32⟩
  | .local _ .vmem, ⟨21, _⟩ => ⟨S3x512x1024, .bf16⟩
  | .local _ .vmem, ⟨22, _⟩ => ⟨S1024x1024, .bf16⟩
  | .local _ .vmem, ⟨23, _⟩ => ⟨S1x512x1024, .f32⟩
  | .local _ .vmem, ⟨24, _⟩ => ⟨S1x512x1024, .f32⟩
  | .local _ .vmem, ⟨25, _⟩ => ⟨S15x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x2048x1024 : Shape := ⟨3, ![8, 2048, 1024]⟩
abbrev S1024 : Shape := ⟨1, ![1024]⟩
abbrev S8x2048x512 : Shape := ⟨3, ![8, 2048, 512]⟩
abbrev S8x2048x4x128 : Shape := ⟨4, ![8, 2048, 4, 128]⟩
abbrev S8x2048x4 : Shape := ⟨3, ![8, 2048, 4]⟩
abbrev S1024x8960 : Shape := ⟨2, ![1024, 8960]⟩
abbrev S3x1024 : Shape := ⟨2, ![3, 1024]⟩
abbrev S3x512x1024 : Shape := ⟨3, ![3, 512, 1024]⟩
abbrev S1024x1024 : Shape := ⟨2, ![1024, 1024]⟩
abbrev S1x8x2048x4 : Shape := ⟨4, ![1, 8, 2048, 4]⟩
abbrev S3x8x2048x4 : Shape := ⟨4, ![3, 8, 2048, 4]⟩
abbrev S_ : Shape := ⟨0, ![]⟩
abbrev S1x8x2048x4x128 : Shape := ⟨5, ![1, 8, 2048, 4, 128]⟩
abbrev S3x8x2048x4x128 : Shape := ⟨5, ![3, 8, 2048, 4, 128]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8960 : Shape := ⟨3, ![8, 2048, 8960]⟩
abbrev S8x2048x3072 : Shape := ⟨3, ![8, 2048, 3072]⟩
abbrev S8x2048x1x512 : Shape := ⟨4, ![8, 2048, 1, 512]⟩
abbrev S8x2048x3x512 : Shape := ⟨4, ![8, 2048, 3, 512]⟩
abbrev S3x1024x8x2048 : Shape := ⟨4, ![3, 1024, 8, 2048]⟩
abbrev S8x2048x3x1024 : Shape := ⟨4, ![8, 2048, 3, 1024]⟩
abbrev S1x1x3x1024 : Shape := ⟨4, ![1, 1, 3, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x2048x512, .f32⟩
  | .hbm, ⟨3, _⟩ => ⟨S8x2048x4x128, .f32⟩
  | .hbm, ⟨4, _⟩ => ⟨S8x2048x4x128, .f32⟩
  | .hbm, ⟨5, _⟩ => ⟨S8x2048x4x128, .f32⟩
  | .hbm, ⟨6, _⟩ => ⟨S8x2048x4, .f32⟩
  | .hbm, ⟨7, _⟩ => ⟨S8x2048x4, .f32⟩
  | .hbm, ⟨8, _⟩ => ⟨S8x2048x4, .f32⟩
  | .hbm, ⟨9, _⟩ => ⟨S8x2048x512, .f32⟩
  | .hbm, ⟨10, _⟩ => ⟨S1024x8960, .f32⟩
  | .hbm, ⟨11, _⟩ => ⟨S3x1024, .f32⟩
  | .hbm, ⟨12, _⟩ => ⟨S3x512x1024, .f32⟩
  | .hbm, ⟨13, _⟩ => ⟨S1024x1024, .f32⟩
  | .hbm, ⟨14, _⟩ => ⟨S1x8x2048x4, .f32⟩
  | .hbm, ⟨15, _⟩ => ⟨S1x8x2048x4, .f32⟩
  | .hbm, ⟨16, _⟩ => ⟨S1x8x2048x4, .f32⟩
  | .hbm, ⟨17, _⟩ => ⟨S3x8x2048x4, .f32⟩
  | .hbm, ⟨18, _⟩ => ⟨S_, .f32⟩
  | .hbm, ⟨19, _⟩ => ⟨S8x2048x4, .f32⟩
  | .hbm, ⟨20, _⟩ => ⟨S_, .f32⟩
  | .hbm, ⟨21, _⟩ => ⟨S8x2048x4, .f32⟩
  | .hbm, ⟨22, _⟩ => ⟨S8x2048x4, .f32⟩
  | .hbm, ⟨23, _⟩ => ⟨S1x8x2048x4, .f32⟩
  | .hbm, ⟨24, _⟩ => ⟨S3x8x2048x4, .f32⟩
  | .hbm, ⟨25, _⟩ => ⟨S3x8x2048x4, .f32⟩
  | .hbm, ⟨26, _⟩ => ⟨S3x8x2048x4, .f32⟩
  | .hbm, ⟨27, _⟩ => ⟨S_, .f32⟩
  | .hbm, ⟨28, _⟩ => ⟨S8x2048x4, .f32⟩
  | .hbm, ⟨29, _⟩ => ⟨S1x8x2048x4, .f32⟩
  | .hbm, ⟨30, _⟩ => ⟨S3x8x2048x4, .f32⟩
  | .hbm, ⟨31, _⟩ => ⟨S3x8x2048x4, .f32⟩
  | .hbm, ⟨32, _⟩ => ⟨S1x8x2048x4x128, .f32⟩
  | .hbm, ⟨33, _⟩ => ⟨S1x8x2048x4x128, .f32⟩
  | .hbm, ⟨34, _⟩ => ⟨S1x8x2048x4x128, .f32⟩
  | .hbm, ⟨35, _⟩ => ⟨S3x8x2048x4x128, .f32⟩
  | .hbm, ⟨36, _⟩ => ⟨S8x2048x4x128, .f32⟩
  | .hbm, ⟨37, _⟩ => ⟨S8x2048x512, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S8x2048x8960, .f32⟩
  | .hbm, ⟨55, _⟩ => ⟨S8x2048x3072, .f32⟩
  | .hbm, ⟨56, _⟩ => ⟨S8x2048x1x512, .f32⟩
  | .hbm, ⟨57, _⟩ => ⟨S8x2048x1x512, .f32⟩
  | .hbm, ⟨58, _⟩ => ⟨S8x2048x1x512, .f32⟩
  | .hbm, ⟨59, _⟩ => ⟨S8x2048x3x512, .f32⟩
  | .hbm, ⟨60, _⟩ => ⟨S3x1024x8x2048, .f32⟩
  | .hbm, ⟨61, _⟩ => ⟨S8x2048x3x1024, .f32⟩
  | .hbm, ⟨62, _⟩ => ⟨S8x2048x3x1024, .f32⟩
  | .hbm, ⟨63, _⟩ => ⟨S1x1x3x1024, .f32⟩
  | .hbm, ⟨64, _⟩ => ⟨S8x2048x3x1024, .f32⟩
  | .hbm, ⟨65, _⟩ => ⟨S8x2048x3x1024, .f32⟩
  | .hbm, ⟨66, _⟩ => ⟨S8x2048x3x1024, .f32⟩
  | .hbm, ⟨67, _⟩ => ⟨S8x2048x3x1024, .f32⟩
  | .hbm, ⟨68, _⟩ => ⟨S_, .f32⟩
  | .hbm, ⟨69, _⟩ => ⟨S8x2048x3x1024, .f32⟩
  | .hbm, ⟨70, _⟩ => ⟨S8x2048x3x1024, .f32⟩
  | .hbm, ⟨71, _⟩ => ⟨S_, .f32⟩
  | .hbm, ⟨72, _⟩ => ⟨S8x2048x3x1024, .f32⟩
  | .hbm, ⟨73, _⟩ => ⟨S8x2048x3x1024, .f32⟩
  | .hbm, ⟨74, _⟩ => ⟨S8x2048x3x1024, .f32⟩
  | .hbm, ⟨75, _⟩ => ⟨S_, .f32⟩
  | .hbm, ⟨76, _⟩ => ⟨S8x2048x1024, .f32⟩
  | .hbm, ⟨77, _⟩ => ⟨S8x2048x1024, .f32⟩
  | .hbm, ⟨78, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Proof.Body0.lean ====
/-
  The run of the attention's kernel and its launch, at any float instance: what the body leaves in its
  two result blocks is named by the pieces the loops store; the three scratch buffers are followed
  (the bias table is written at the grid's first point only and read at every later one).
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Tactic
public import Idealize.ShloMosaic.Lib.WholeRead
public import Idealize.ShloMosaic.PureOps.BitExact

@[expose] public section

set_option maxRecDepth 16384
set_option maxHeartbeats 1000000

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

abbrev 𝒱₀ : Variants := Variants.none

abbrev kb : Memref sig .tc .vmem S4x640x512 .bf16 := Memref.whole cc0_scratch0
abbrev vb : Memref sig .tc .vmem S4x640x512 .bf16 := Memref.whole cc0_scratch1
abbrev bm : Memref sig .tc .vmem S4x4x128x256 .f32 := Memref.whole cc0_scratch2

/-- The staging memrefs of a point. -/
structure Stg where
  m0 : Memref sig .tc .vmem S1x4x512x512 .bf16
  h0 : m0.IsWhole
  m1 : Memref sig .tc .vmem S1x4x512x512 .bf16
  h1 : m1.IsWhole
  m2 : Memref sig .tc .vmem S1x4x512x512 .bf16
  h2 : m2.IsWhole
  m3 : Memref sig .tc .smem S2 .f32
  h3 : m3.IsWhole
  m4 : Memref sig .tc .vmem S1x4x512x512 .bf16
  h4 : m4.IsWhole
  m5 : Memref sig .tc .vmem S1x4x512x128 .f32
  h5 : m5.IsWhole

/-! ## The words the body branches on -/

/-- The point is the grid's first. -/
def atFirst (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1

theorem idx1 : 0 < (⟨S2.rank, S1.size⟩ : Shape).numel := by decide

/-- The first control word: above one half where the fixed shift is used. -/
def ctlA (x3 : Vec F S2 .f32) : Elt F .f32 :=
  x3 ((Rect.unit (s := S2) ![0] S1.size inb_S2_S1_0).toLoadRect.idx (Shape.Idx.first idx1))
/-- The second control word: the fixed shift. -/
def ctlB (x3 : Vec F S2 .f32) : Elt F .f32 :=
  x3 ((Rect.unit (s := S2) ![1] S1.size inb_S2_S1_1).toLoadRect.idx (Shape.Idx.first idx1))

/-- Whether the fixed shift is used, as a bit. -/
def fixW (a : Elt F .f32) : BitVec 1 := Scalar.cmpf .ogt a (Scalar.ofBits .f32 0x3F000000#32)

/-! ## The bias table -/

abbrev colI : IVec S128x256 32 := iota .tc S128x256 32 [1] iota_S128x256_d1_w32
abbrev distI : IVec S128x256 32 :=
  absi (subi (addi (iota .tc S128x256 32 [0] iota_S128x256_d0_w32) (broadcast S128x256 64#32)) colI)
abbrev maskV : FVec F S128x256 .f32 := broadcast S128x256 (Named.named κ "mask" 0xF149F2CA#32 : F .f32)

/-- The bias of a block whose window lies inside the plane: the distance's slope less the shift, masked off the window. -/
def biasBase (sl sh : F .f32) : FVec F S128x256 .f32 :=
  select (cmpi .sle distI (broadcast S128x256 64#32)) (subf (mulf (broadcast S128x256 sl) (sitofp .f32 distI)) (broadcast S128x256 sh)) maskV
/-- Masked before the plane's first key. -/
def biasLo (b : FVec F S128x256 .f32) : FVec F S128x256 .f32 := select (cmpi .sge colI (broadcast S128x256 64#32)) b maskV
/-- Masked after the plane's last key. -/
def biasHi (b : FVec F S128x256 .f32) : FVec F S128x256 .f32 := select (cmpi .slt colI (broadcast S128x256 192#32)) b maskV
/-- The shift: the control's second word where the first says so, else zero. -/
def shiftW (a b : Elt F .f32) : F .f32 := Scalar.select (fixW a) b (Scalar.ofBits .f32 0x00000000#32)

abbrev biasPc (b : FVec F S128x256 .f32) : FVec F S1x1x128x256 .f32 := shapeCast S1x1x128x256 b shapeCasts_S128x256_S1x1x128x256

/-- The slope of head 0. -/
abbrev slope0 : F .f32 := Named.named κ "slope0" 0xBF129195#32
/-- The slope of head 1. -/
abbrev slope1 : F .f32 := Named.named κ "slope1" 0xBEB8AA3B#32
/-- The slope of head 2. -/
abbrev slope2 : F .f32 := Named.named κ "slope2" 0xBE68A9CD#32
/-- The slope of head 3. -/
abbrev slope3 : F .f32 := Named.named κ "slope3" 0xBE129195#32

/-- The sixteen stores of the bias table, last first. -/
def biasL (a b : Elt F .f32) : List (View.Piece (Elt F) S4x4x128x256 .f32) :=
  [⟨Rect.unit ![3, 3, 0, 0] S1x1x128x256.size inb_S4x4x128x256_S1x1x128x256_3_3_0_0, biasPc (biasHi (biasLo (biasBase slope3 (shiftW a b))))⟩,
   ⟨Rect.unit ![2, 3, 0, 0] S1x1x128x256.size inb_S4x4x128x256_S1x1x128x256_2_3_0_0, biasPc (biasHi (biasBase slope3 (shiftW a b)))⟩,
   ⟨Rect.unit ![1, 3, 0, 0] S1x1x128x256.size inb_S4x4x128x256_S1x1x128x256_1_3_0_0, biasPc (biasLo (biasBase slope3 (shiftW a b)))⟩,
   ⟨Rect.unit ![0, 3, 0, 0] S1x1x128x256.size inb_S4x4x128x256_S1x1x128x256_0_3_0_0, biasPc ((biasBase slope3 (shiftW a b)))⟩,
   ⟨Rect.unit ![3, 2, 0, 0] S1x1x128x256.size inb_S4x4x128x256_S1x1x128x256_3_2_0_0, biasPc (biasHi (biasLo (biasBase slope2 (shiftW a b))))⟩,
   ⟨Rect.unit ![2, 2, 0, 0] S1x1x128x256.size inb_S4x4x128x256_S1x1x128x256_2_2_0_0, biasPc (biasHi (biasBase slope2 (shiftW a b)))⟩,
   ⟨Rect.unit ![1, 2, 0, 0] S1x1x128x256.size inb_S4x4x128x256_S1x1x128x256_1_2_0_0, biasPc (biasLo (biasBase slope2 (shiftW a b)))⟩,
   ⟨Rect.unit ![0, 2, 0, 0] S1x1x128x256.size inb_S4x4x128x256_S1x1x128x256_0_2_0_0, biasPc ((biasBase slope2 (shiftW a b)))⟩,
   ⟨Rect.unit ![3, 1, 0, 0] S1x1x128x256.size inb_S4x4x128x256_S1x1x128x256_3_1_0_0, biasPc (biasHi (biasLo (biasBase slope1 (shiftW a b))))⟩,
   ⟨Rect.unit ![2, 1, 0, 0] S1x1x128x256.size inb_S4x4x128x256_S1x1x128x256_2_1_0_0, biasPc (biasHi (biasBase slope1 (shiftW a b)))⟩,
   ⟨Rect.unit ![1, 1, 0, 0] S1x1x128x256.size inb_S4x4x128x256_S1x1x128x256_1_1_0_0, biasPc (biasLo (biasBase slope1 (shiftW a b)))⟩,
   ⟨Rect.unit ![0, 1, 0, 0] S1x1x128x256.size inb_S4x4x128x256_S1x1x128x256_0_1_0_0, biasPc ((biasBase slope1 (shiftW a b)))⟩,
   ⟨Rect.unit ![3, 0, 0, 0] S1x1x128x256.size inb_S4x4x128x256_S1x1x128x256_3_0_0_0, biasPc (biasHi (biasLo (biasBase slope0 (shiftW a b))))⟩,
   ⟨Rect.unit ![2, 0, 0, 0] S1x1x128x256.size inb_S4x4x128x256_S1x1x128x256_2_0_0_0, biasPc (biasHi (biasBase slope0 (shiftW a b)))⟩,
   ⟨Rect.unit ![1, 0, 0, 0] S1x1x128x256.size inb_S4x4x128x256_S1x1x128x256_1_0_0_0, biasPc (biasLo (biasBase slope0 (shiftW a b)))⟩,
   ⟨Rect.unit ![0, 0, 0, 0] S1x1x128x256.size inb_S4x4x128x256_S1x1x128x256_0_0_0_0, biasPc ((biasBase slope0 (shiftW a b)))⟩]

/-- The bias table's contents. -/
def biasX (x3 : Vec F S2 .f32) : BufTy.Contents (Elt F) bm.view.ty := bm.view.writes (Elt F) bm.view.junk (biasL (ctlA x3) (ctlB x3))

/-! ## The padded keys and values -/

abbrev padPc : FVec F S1x64x512 .bf16 := shapeCast S1x64x512 (broadcast S64x512 (Scalar.ofBits .bf16 0x0000#16) : FVec F S64x512 .bf16) shapeCasts_S64x512_S1x64x512
abbrev midPc (y : Vec F S1x1x512x512 .bf16) : FVec F S1x512x512 .bf16 :=
  shapeCast S1x512x512 (shapeCast S512x512 y shapeCasts_S1x1x512x512_S512x512) shapeCasts_S512x512_S1x512x512

/-- The twelve stores of a padded buffer, from what the loads of the four planes read. -/
def padL (y0 y1 y2 y3 : Vec F S1x1x512x512 .bf16) : List (View.Piece (Elt F) S4x640x512 .bf16) :=
  [⟨Rect.unit ![3, 576, 0] S1x64x512.size inb_S4x640x512_S1x64x512_3_576_0, padPc⟩,
   ⟨Rect.unit ![3, 64, 0] S1x512x512.size inb_S4x640x512_S1x512x512_3_64_0, midPc y3⟩,
   ⟨Rect.unit ![3, 0, 0] S1x64x512.size inb_S4x640x512_S1x64x512_3_0_0, padPc⟩,
   ⟨Rect.unit ![2, 576, 0] S1x64x512.size inb_S4x640x512_S1x64x512_2_576_0, padPc⟩,
   ⟨Rect.unit ![2, 64, 0] S1x512x512.size inb_S4x640x512_S1x512x512_2_64_0, midPc y2⟩,
   ⟨Rect.unit ![2, 0, 0] S1x64x512.size inb_S4x640x512_S1x64x512_2_0_0, padPc⟩,
   ⟨Rect.unit ![1, 576, 0] S1x64x512.size inb_S4x640x512_S1x64x512_1_576_0, padPc⟩,
   ⟨Rect.unit ![1, 64, 0] S1x512x512.size inb_S4x640x512_S1x512x512_1_64_0, midPc y1⟩,
   ⟨Rect.unit ![1, 0, 0] S1x64x512.size inb_S4x640x512_S1x64x512_1_0_0, padPc⟩,
   ⟨Rect.unit ![0, 576, 0] S1x64x512.size inb_S4x640x512_S1x64x512_0_576_0, padPc⟩,
   ⟨Rect.unit ![0, 64, 0] S1x512x512.size inb_S4x640x512_S1x512x512_0_64_0, midPc y0⟩,
   ⟨Rect.unit ![0, 0, 0] S1x64x512.size inb_S4x640x512_S1x64x512_0_0_0, padPc⟩]

abbrev plR0 : LoadRect S1x4x512x512 := (Rect.unit (s := S1x4x512x512) ![0, 0, 0, 0] S1x1x512x512.size inb_S1x4x512x512_S1x1x512x512_0_0_0_0).toLoadRect
/-- Plane 0 of a block. -/
def plane0 (x : Vec F S1x4x512x512 .bf16) : Vec F S1x1x512x512 .bf16 := fun j => x (plR0.idx j)
abbrev plR1 : LoadRect S1x4x512x512 := (Rect.unit (s := S1x4x512x512) ![0, 1, 0, 0] S1x1x512x512.size inb_S1x4x512x512_S1x1x512x512_0_1_0_0).toLoadRect
/-- Plane 1 of a block. -/
def plane1 (x : Vec F S1x4x512x512 .bf16) : Vec F S1x1x512x512 .bf16 := fun j => x (plR1.idx j)
abbrev plR2 : LoadRect S1x4x512x512 := (Rect.unit (s := S1x4x512x512) ![0, 2, 0, 0] S1x1x512x512.size inb_S1x4x512x512_S1x1x512x512_0_2_0_0).toLoadRect
/-- Plane 2 of a block. -/
def plane2 (x : Vec F S1x4x512x512 .bf16) : Vec F S1x1x512x512 .bf16 := fun j => x (plR2.idx j)
abbrev plR3 : LoadRect S1x4x512x512 := (Rect.unit (s := S1x4x512x512) ![0, 3, 0, 0] S1x1x512x512.size inb_S1x4x512x512_S1x1x512x512_0_3_0_0).toLoadRect
/-- Plane 3 of a block. -/
def plane3 (x : Vec F S1x4x512x512 .bf16) : Vec F S1x1x512x512 .bf16 := fun j => x (plR3.idx j)

def padX (x : Vec F S1x4x512x512 .bf16) : BufTy.Contents (Elt F) kb.view.ty :=
  kb.view.writes (Elt F) kb.view.junk (padL (plane0 x) (plane1 x) (plane2 x) (plane3 x))
def padY (x : Vec F S1x4x512x512 .bf16) : BufTy.Contents (Elt F) vb.view.ty :=
  vb.view.writes (Elt F) vb.view.junk (padL (plane0 x) (plane1 x) (plane2 x) (plane3 x))

/-- Writes covering a whole buffer leave nothing of what it held. -/
theorem writes_junk_of_cover {κ : Kind} {sp : Space} {s : Shape} {e : EltTy} (m : Memref sig κ sp s e) (hw : m.IsWhole)
    (f : BufTy.Contents (Elt F) m.view.ty) (L : List (View.Piece (Elt F) s e)) (h : ∀ y, ∃ p ∈ L, y ∈ p.1.set) :
    m.view.writes (Elt F) f L = m.view.writes (Elt F) m.view.junk L := by
  obtain ⟨b, rfl, rfl, rfl, hh⟩ := hw; cases hh
  funext y
  exact View.read_writes_apply_eq (View.whole b) f (View.whole b) (View.whole b).junk y L (h y)

theorem cover_of_boxes {s : Shape} {e : EltTy} (L : List (View.Piece (Elt F) s e)) (t : LoadRect.Cov)
    (h : LoadRect.covChk (L.map Sigma.fst) (Rect.whole s).toLoadRect t = true) : ∀ y, ∃ p ∈ L, y ∈ p.1.set := fun y => by
  obtain ⟨p, hp, hm⟩ := LoadRect.cover_of_covChk L _ t h y
  refine ⟨p, hp, ?_⟩
  have e : (Rect.whole s).toLoadRect.idx y = y := by
    funext a; apply Fin.ext; simp [LoadRect.idx_apply, Rect.whole]
  rwa [e] at hm

theorem biasL_cover (a b : Elt F .f32) : ∀ y, ∃ p ∈ biasL (F := F) a b, y ∈ p.1.set :=
  View.cover_of_tiled _ S1x1x128x256.size rfl

theorem padL_cover (y0 y1 y2 y3 : Vec F S1x1x512x512 .bf16) : ∀ y, ∃ p ∈ padL (F := F) y0 y1 y2 y3, y ∈ p.1.set :=
  cover_of_boxes _
    (.split 0 1 (.split 1 64 (.leaf 11) (.split 1 512 (.leaf 10) (.leaf 9)))
    (.split 0 1 (.split 1 64 (.leaf 8) (.split 1 512 (.leaf 7) (.leaf 6)))
    (.split 0 1 (.split 1 64 (.leaf 5) (.split 1 512 (.leaf 4) (.leaf 3)))
      (.split 1 64 (.leaf 2) (.split 1 512 (.leaf 1) (.leaf 0)))))) (by unfold padL; simp only [List.map_cons, List.map_nil]; decide +kernel)

theorem bias_eq (m3 : Memref sig .tc .smem S2 .f32) (h3 : m3.IsWhole) (x3 : Vec F S2 .f32) (f : BufTy.Contents (Elt F) bm.view.ty) :
    bm.view.writes (Elt F) f (biasL
      (View.readAt (Elt F) m3.view (Rect.unit (s := S2) ![0] S1.size inb_S2_S1_0).toLoadRect (h3.unread x3) (Shape.Idx.first idx1))
      (View.readAt (Elt F) m3.view (Rect.unit (s := S2) ![1] S1.size inb_S2_S1_1).toLoadRect (h3.unread x3) (Shape.Idx.first idx1)))
    = biasX x3 := by
  rw [h3.readAt_unread, h3.readAt_unread, writes_junk_of_cover bm (Memref.isWhole_whole _) f _ (biasL_cover _ _)]
  rfl

theorem padX_eq (m : Memref sig .tc .vmem S1x4x512x512 .bf16) (h : m.IsWhole) (x : Vec F S1x4x512x512 .bf16) (f : BufTy.Contents (Elt F) kb.view.ty) :
    kb.view.writes (Elt F) f (padL (View.readAt (Elt F) m.view plR0 (h.unread x)) (View.readAt (Elt F) m.view plR1 (h.unread x)) (View.readAt (Elt F) m.view plR2 (h.unread x)) (View.readAt (Elt F) m.view plR3 (h.unread x))) = padX x := by
  rw [writes_junk_of_cover kb (Memref.isWhole_whole _) f _ (padL_cover _ _ _ _)]
  have e : ∀ B : LoadRect S1x4x512x512, View.readAt (Elt F) m.view B (h.unread x) = fun j => x (B.idx j) :=
    fun B => funext fun j => h.readAt_unread x B j
  rw [e, e, e, e]
  rfl

theorem padY_eq (m : Memref sig .tc .vmem S1x4x512x512 .bf16) (h : m.IsWhole) (x : Vec F S1x4x512x512 .bf16) (f : BufTy.Contents (Elt F) vb.view.ty) :
    vb.view.writes (Elt F) f (padL (View.readAt (Elt F) m.view plR0 (h.unread x)) (View.readAt (Elt F) m.view plR1 (h.unread x)) (View.readAt (Elt F) m.view plR2 (h.unread x)) (View.readAt (Elt F) m.view plR3 (h.unread x))) = padY x := by
  rw [writes_junk_of_cover vb (Memref.isWhole_whole _) f _ (padL_cover _ _ _ _)]
  have e : ∀ B : LoadRect S1x4x512x512, View.readAt (Elt F) m.view B (h.unread x) = fun j => x (B.idx j) :=
    fun B => funext fun j => h.readAt_unread x B j
  rw [e, e, e, e]
  rfl

/-! ## What the loops store -/

/-- Whether rectangles tile a shape in blocks depends on the rectangles alone. -/
def rectsTiled {s : Shape} (R : List (Rect s)) (size : Fin s.rank → ℕ) : Prop :=
  (∀ a, 0 < size a ∧ size a ∣ s.size a)
    ∧ ∀ ix : ((a : Fin s.rank) → Fin (s.size a / size a)),
        ∃ p ∈ R, (∀ a, p.off a = ix a * size a) ∧ (∀ a, p.size a = size a) ∧ ∀ a, p.stride a = 1

instance {s : Shape} (R : List (Rect s)) (size : Fin s.rank → ℕ) : Decidable (rectsTiled R size) := by
  unfold rectsTiled; infer_instance

theorem cover_of_rects {s : Shape} {e : EltTy} (L : List (View.Piece (Elt F) s e)) (size : Fin s.rank → ℕ)
    (h : rectsTiled (L.map Sigma.fst) size) : ∀ y, ∃ p ∈ L, y ∈ p.1.set :=
  View.cover_of_blocks L size h.1 fun ix => by
    obtain ⟨r, hr, h1, h2, h3⟩ := h.2 ix
    obtain ⟨p, hp, rfl⟩ := List.mem_map.mp hr
    exact ⟨p, hp, h1, h2, h3⟩

abbrev laneI : IVec S128x128 32 := iota .tc S128x128 32 [1] iota_S128x128_d1_w32

/-- The pieces the fixed shift loop stores into the two results. -/
abbrev pcsF (c : Dev nD) (i : grid0.Coords) (S : Stg) (x0 x1 x2 : Vec F S1x4x512x512 .bf16) (x3 : Vec F S2 .f32) : List (View.Piece (Elt F) S1x4x512x512 .bf16) × List (View.Piece (Elt F) S1x4x512x128 .f32) :=
  pb_k0_t1 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (S.h3.unread x3) (padX x1) (padY x2) (biasX x3) k0_t1_loop.trips

abbrev tripF (c : Dev nD) (i : grid0.Coords) (S : Stg) (x0 x1 x2 : Vec F S1x4x512x512 .bf16) (x3 : Vec F S2 .f32) (k : Fin k0_t1_loop.trips) : List (View.Piece (Elt F) S1x4x512x512 .bf16) × List (View.Piece (Elt F) S1x4x512x128 .f32) :=
  tripL_k0_t1 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (S.h3.unread x3) (padX x1) (padY x2) (biasX x3) k

theorem pcsF_eq (c : Dev nD) (i : grid0.Coords) (S : Stg) (x0 x1 x2 : Vec F S1x4x512x512 .bf16) (x3 : Vec F S2 .f32) :
    pcsF c i S x0 x1 x2 x3 = ((tripF c i S x0 x1 x2 x3 ⟨1, by decide⟩).1 ++ ((tripF c i S x0 x1 x2 x3 ⟨0, by decide⟩).1 ++ []),
      (tripF c i S x0 x1 x2 x3 ⟨1, by decide⟩).2 ++ ((tripF c i S x0 x1 x2 x3 ⟨0, by decide⟩).2 ++ [])) := by
  have e1 := pb_k0_t1_succ (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (S.h3.unread x3) (padX x1) (padY x2) (biasX x3) ⟨1, by decide⟩
  have e0 := pb_k0_t1_succ (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (S.h3.unread x3) (padX x1) (padY x2) (biasX x3) ⟨0, by decide⟩
  have ez : pb_k0_t1 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (S.h3.unread x3) (padX x1) (padY x2) (biasX x3) 0 = ([], []) := by
    rw [pb_k0_t1]
  have H : ∀ n : ℕ, n = 1 + 1 → pb_k0_t1 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (S.h3.unread x3) (padX x1) (padY x2) (biasX x3) n = ((tripF c i S x0 x1 x2 x3 ⟨1, by decide⟩).1 ++ ((tripF c i S x0 x1 x2 x3 ⟨0, by decide⟩).1 ++ []),
      (tripF c i S x0 x1 x2 x3 ⟨1, by decide⟩).2 ++ ((tripF c i S x0 x1 x2 x3 ⟨0, by decide⟩).2 ++ [])) := by
    intro n hn
    subst hn
    have e0' : pb_k0_t1 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (S.h3.unread x3) (padX x1) (padY x2) (biasX x3) 1 = ((tripF c i S x0 x1 x2 x3 ⟨0, by decide⟩).1 ++ [], (tripF c i S x0 x1 x2 x3 ⟨0, by decide⟩).2 ++ []) :=
      e0.trans (by dsimp only; rw [ez])
    refine e1.trans ?_
    dsimp only
    rw [e0']
  exact H _ (by decide)

set_option maxHeartbeats 1000000 in
theorem rectsF7 (c : Dev nD) (i : grid0.Coords) (S : Stg) (x0 x1 x2 : Vec F S1x4x512x512 .bf16) (x3 : Vec F S2 .f32) (k : Fin k0_t1_loop.trips) :
    (tripF c i S x0 x1 x2 x3 k).1.map Sigma.fst = [Rect.unit (s := S1x4x512x512) (k0_off31 k 1#32) S1x1x128x128.size (k0_off31_inb k 1), Rect.unit (s := S1x4x512x512) (k0_off29 k 1#32) S1x1x128x128.size (k0_off29_inb k 1), Rect.unit (s := S1x4x512x512) (k0_off27 k 1#32) S1x1x128x128.size (k0_off27_inb k 1), Rect.unit (s := S1x4x512x512) (k0_off25 k 1#32) S1x1x128x128.size (k0_off25_inb k 1), Rect.unit (s := S1x4x512x512) (k0_off23 k 1#32) S1x1x128x128.size (k0_off23_inb k 1), Rect.unit (s := S1x4x512x512) (k0_off21 k 1#32) S1x1x128x128.size (k0_off21_inb k 1), Rect.unit (s := S1x4x512x512) (k0_off19 k 1#32) S1x1x128x128.size (k0_off19_inb k 1), Rect.unit (s := S1x4x512x512) (k0_off17 k 1#32) S1x1x128x128.size (k0_off17_inb k 1), Rect.unit (s := S1x4x512x512) (k0_off15 k 1#32) S1x1x128x128.size (k0_off15_inb k 1), Rect.unit (s := S1x4x512x512) (k0_off13 k 1#32) S1x1x128x128.size (k0_off13_inb k 1), Rect.unit (s := S1x4x512x512) (k0_off11 k 1#32) S1x1x128x128.size (k0_off11_inb k 1), Rect.unit (s := S1x4x512x512) (k0_off9 k 1#32) S1x1x128x128.size (k0_off9_inb k 1), Rect.unit (s := S1x4x512x512) (k0_off7 k 1#32) S1x1x128x128.size (k0_off7_inb k 1), Rect.unit (s := S1x4x512x512) (k0_off5 k 1#32) S1x1x128x128.size (k0_off5_inb k 1), Rect.unit (s := S1x4x512x512) (k0_off3 k 1#32) S1x1x128x128.size (k0_off3_inb k 1), Rect.unit (s := S1x4x512x512) (k0_off1 k 1#32) S1x1x128x128.size (k0_off1_inb k 1), Rect.unit (s := S1x4x512x512) (k0_off31 k 0#32) S1x1x128x128.size (k0_off31_inb k 0), Rect.unit (s := S1x4x512x512) (k0_off29 k 0#32) S1x1x128x128.size (k0_off29_inb k 0), Rect.unit (s := S1x4x512x512) (k0_off27 k 0#32) S1x1x128x128.size (k0_off27_inb k 0), Rect.unit (s := S1x4x512x512) (k0_off25 k 0#32) S1x1x128x128.size (k0_off25_inb k 0), Rect.unit (s := S1x4x512x512) (k0_off23 k 0#32) S1x1x128x128.size (k0_off23_inb k 0), Rect.unit (s := S1x4x512x512) (k0_off21 k 0#32) S1x1x128x128.size (k0_off21_inb k 0), Rect.unit (s := S1x4x512x512) (k0_off19 k 0#32) S1x1x128x128.size (k0_off19_inb k 0), Rect.unit (s := S1x4x512x512) (k0_off17 k 0#32) S1x1x128x128.size (k0_off17_inb k 0), Rect.unit (s := S1x4x512x512) (k0_off15 k 0#32) S1x1x128x128.size (k0_off15_inb k 0), Rect.unit (s := S1x4x512x512) (k0_off13 k 0#32) S1x1x128x128.size (k0_off13_inb k 0), Rect.unit (s := S1x4x512x512) (k0_off11 k 0#32) S1x1x128x128.size (k0_off11_inb k 0), Rect.unit (s := S1x4x512x512) (k0_off9 k 0#32) S1x1x128x128.size (k0_off9_inb k 0), Rect.unit (s := S1x4x512x512) (k0_off7 k 0#32) S1x1x128x128.size (k0_off7_inb k 0), Rect.unit (s := S1x4x512x512) (k0_off5 k 0#32) S1x1x128x128.size (k0_off5_inb k 0), Rect.unit (s := S1x4x512x512) (k0_off3 k 0#32) S1x1x128x128.size (k0_off3_inb k 0), Rect.unit (s := S1x4x512x512) (k0_off1 k 0#32) S1x1x128x128.size (k0_off1_inb k 0)] := by
  unfold tripF tripL_k0_t1 trip_k0_t1
  rfl

set_option maxHeartbeats 1000000 in
theorem rectsF8 (c : Dev nD) (i : grid0.Coords) (S : Stg) (x0 x1 x2 : Vec F S1x4x512x512 .bf16) (x3 : Vec F S2 .f32) (k : Fin k0_t1_loop.trips) :
    (tripF c i S x0 x1 x2 x3 k).2.map Sigma.fst = [Rect.unit (s := S1x4x512x128) (k0_off40 k 1#32) S1x1x128x128.size (k0_off40_inb k 1), Rect.unit (s := S1x4x512x128) (k0_off39 k 1#32) S1x1x128x128.size (k0_off39_inb k 1), Rect.unit (s := S1x4x512x128) (k0_off38 k 1#32) S1x1x128x128.size (k0_off38_inb k 1), Rect.unit (s := S1x4x512x128) (k0_off37 k 1#32) S1x1x128x128.size (k0_off37_inb k 1), Rect.unit (s := S1x4x512x128) (k0_off40 k 0#32) S1x1x128x128.size (k0_off40_inb k 0), Rect.unit (s := S1x4x512x128) (k0_off39 k 0#32) S1x1x128x128.size (k0_off39_inb k 0), Rect.unit (s := S1x4x512x128) (k0_off38 k 0#32) S1x1x128x128.size (k0_off38_inb k 0), Rect.unit (s := S1x4x512x128) (k0_off37 k 0#32) S1x1x128x128.size (k0_off37_inb k 0)] := by
  unfold tripF tripL_k0_t1 trip_k0_t1
  rfl

theorem coverF7 (c : Dev nD) (i : grid0.Coords) (S : Stg) (x0 x1 x2 : Vec F S1x4x512x512 .bf16) (x3 : Vec F S2 .f32) :
    ∀ y, ∃ p ∈ (pcsF c i S x0 x1 x2 x3).1, y ∈ p.1.set := by
  intro y
  refine cover_of_rects (s := S1x4x512x512) _ S1x1x128x128.size ?_ y
  rw [pcsF_eq]
  show rectsTiled (((tripF c i S x0 x1 x2 x3 ⟨1, by decide⟩).1 ++ ((tripF c i S x0 x1 x2 x3 ⟨0, by decide⟩).1 ++ [])).map Sigma.fst) _
  rw [List.map_append, List.map_append, rectsF7, rectsF7, List.map_nil]
  decide +kernel

theorem coverF8 (c : Dev nD) (i : grid0.Coords) (S : Stg) (x0 x1 x2 : Vec F S1x4x512x512 .bf16) (x3 : Vec F S2 .f32) :
    ∀ y, ∃ p ∈ (pcsF c i S x0 x1 x2 x3).2, y ∈ p.1.set := by
  intro y
  refine cover_of_rects (s := S1x4x512x128) _ S1x1x128x128.size ?_ y
  rw [pcsF_eq]
  show rectsTiled (((tripF c i S x0 x1 x2 x3 ⟨1, by decide⟩).2 ++ ((tripF c i S x0 x1 x2 x3 ⟨0, by decide⟩).2 ++ [])).map Sigma.fst) _
  rw [List.map_append, List.map_append, rectsF8, rectsF8, List.map_nil]
  decide +kernel

/-- The pieces the row maximum loop stores into the two results. -/
abbrev pcsM (c : Dev nD) (i : grid0.Coords) (S : Stg) (x0 x1 x2 : Vec F S1x4x512x512 .bf16) (x3 : Vec F S2 .f32) : List (View.Piece (Elt F) S1x4x512x512 .bf16) × List (View.Piece (Elt F) S1x4x512x128 .f32) :=
  pb_k0_t2 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (padX x1) (padY x2) (biasX x3) k0_t2_loop.trips

abbrev tripM (c : Dev nD) (i : grid0.Coords) (S : Stg) (x0 x1 x2 : Vec F S1x4x512x512 .bf16) (x3 : Vec F S2 .f32) (k : Fin k0_t2_loop.trips) : List (View.Piece (Elt F) S1x4x512x512 .bf16) × List (View.Piece (Elt F) S1x4x512x128 .f32) :=
  tripL_k0_t2 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (padX x1) (padY x2) (biasX x3) k

theorem pcsM_eq (c : Dev nD) (i : grid0.Coords) (S : Stg) (x0 x1 x2 : Vec F S1x4x512x512 .bf16) (x3 : Vec F S2 .f32) :
    pcsM c i S x0 x1 x2 x3 = ((tripM c i S x0 x1 x2 x3 ⟨1, by decide⟩).1 ++ ((tripM c i S x0 x1 x2 x3 ⟨0, by decide⟩).1 ++ []),
      (tripM c i S x0 x1 x2 x3 ⟨1, by decide⟩).2 ++ ((tripM c i S x0 x1 x2 x3 ⟨0, by decide⟩).2 ++ [])) := by
  have e1 := pb_k0_t2_succ (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (padX x1) (padY x2) (biasX x3) ⟨1, by decide⟩
  have e0 := pb_k0_t2_succ (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (padX x1) (padY x2) (biasX x3) ⟨0, by decide⟩
  have ez : pb_k0_t2 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (padX x1) (padY x2) (biasX x3) 0 = ([], []) := by
    rw [pb_k0_t2]
  have H : ∀ n : ℕ, n = 1 + 1 → pb_k0_t2 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (padX x1) (padY x2) (biasX x3) n = ((tripM c i S x0 x1 x2 x3 ⟨1, by decide⟩).1 ++ ((tripM c i S x0 x1 x2 x3 ⟨0, by decide⟩).1 ++ []),
      (tripM c i S x0 x1 x2 x3 ⟨1, by decide⟩).2 ++ ((tripM c i S x0 x1 x2 x3 ⟨0, by decide⟩).2 ++ [])) := by
    intro n hn
    subst hn
    have e0' : pb_k0_t2 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (padX x1) (padY x2) (biasX x3) 1 = ((tripM c i S x0 x1 x2 x3 ⟨0, by decide⟩).1 ++ [], (tripM c i S x0 x1 x2 x3 ⟨0, by decide⟩).2 ++ []) :=
      e0.trans (by dsimp only; rw [ez])
    refine e1.trans ?_
    dsimp only
    rw [e0']
  exact H _ (by decide)

set_option maxHeartbeats 1000000 in
theorem rectsM7 (c : Dev nD) (i : grid0.Coords) (S : Stg) (x0 x1 x2 : Vec F S1x4x512x512 .bf16) (x3 : Vec F S2 .f32) (k : Fin k0_t2_loop.trips) :
    (tripM c i S x0 x1 x2 x3 k).1.map Sigma.fst = [Rect.unit (s := S1x4x512x512) (k0_off71 k 1#32) S1x1x128x128.size (k0_off71_inb k 1), Rect.unit (s := S1x4x512x512) (k0_off69 k 1#32) S1x1x128x128.size (k0_off69_inb k 1), Rect.unit (s := S1x4x512x512) (k0_off67 k 1#32) S1x1x128x128.size (k0_off67_inb k 1), Rect.unit (s := S1x4x512x512) (k0_off65 k 1#32) S1x1x128x128.size (k0_off65_inb k 1), Rect.unit (s := S1x4x512x512) (k0_off63 k 1#32) S1x1x128x128.size (k0_off63_inb k 1), Rect.unit (s := S1x4x512x512) (k0_off61 k 1#32) S1x1x128x128.size (k0_off61_inb k 1), Rect.unit (s := S1x4x512x512) (k0_off59 k 1#32) S1x1x128x128.size (k0_off59_inb k 1), Rect.unit (s := S1x4x512x512) (k0_off57 k 1#32) S1x1x128x128.size (k0_off57_inb k 1), Rect.unit (s := S1x4x512x512) (k0_off55 k 1#32) S1x1x128x128.size (k0_off55_inb k 1), Rect.unit (s := S1x4x512x512) (k0_off53 k 1#32) S1x1x128x128.size (k0_off53_inb k 1), Rect.unit (s := S1x4x512x512) (k0_off51 k 1#32) S1x1x128x128.size (k0_off51_inb k 1), Rect.unit (s := S1x4x512x512) (k0_off49 k 1#32) S1x1x128x128.size (k0_off49_inb k 1), Rect.unit (s := S1x4x512x512) (k0_off47 k 1#32) S1x1x128x128.size (k0_off47_inb k 1), Rect.unit (s := S1x4x512x512) (k0_off45 k 1#32) S1x1x128x128.size (k0_off45_inb k 1), Rect.unit (s := S1x4x512x512) (k0_off43 k 1#32) S1x1x128x128.size (k0_off43_inb k 1), Rect.unit (s := S1x4x512x512) (k0_off41 k 1#32) S1x1x128x128.size (k0_off41_inb k 1), Rect.unit (s := S1x4x512x512) (k0_off71 k 0#32) S1x1x128x128.size (k0_off71_inb k 0), Rect.unit (s := S1x4x512x512) (k0_off69 k 0#32) S1x1x128x128.size (k0_off69_inb k 0), Rect.unit (s := S1x4x512x512) (k0_off67 k 0#32) S1x1x128x128.size (k0_off67_inb k 0), Rect.unit (s := S1x4x512x512) (k0_off65 k 0#32) S1x1x128x128.size (k0_off65_inb k 0), Rect.unit (s := S1x4x512x512) (k0_off63 k 0#32) S1x1x128x128.size (k0_off63_inb k 0), Rect.unit (s := S1x4x512x512) (k0_off61 k 0#32) S1x1x128x128.size (k0_off61_inb k 0), Rect.unit (s := S1x4x512x512) (k0_off59 k 0#32) S1x1x128x128.size (k0_off59_inb k 0), Rect.unit (s := S1x4x512x512) (k0_off57 k 0#32) S1x1x128x128.size (k0_off57_inb k 0), Rect.unit (s := S1x4x512x512) (k0_off55 k 0#32) S1x1x128x128.size (k0_off55_inb k 0), Rect.unit (s := S1x4x512x512) (k0_off53 k 0#32) S1x1x128x128.size (k0_off53_inb k 0), Rect.unit (s := S1x4x512x512) (k0_off51 k 0#32) S1x1x128x128.size (k0_off51_inb k 0), Rect.unit (s := S1x4x512x512) (k0_off49 k 0#32) S1x1x128x128.size (k0_off49_inb k 0), Rect.unit (s := S1x4x512x512) (k0_off47 k 0#32) S1x1x128x128.size (k0_off47_inb k 0), Rect.unit (s := S1x4x512x512) (k0_off45 k 0#32) S1x1x128x128.size (k0_off45_inb k 0), Rect.unit (s := S1x4x512x512) (k0_off43 k 0#32) S1x1x128x128.size (k0_off43_inb k 0), Rect.unit (s := S1x4x512x512) (k0_off41 k 0#32) S1x1x128x128.size (k0_off41_inb k 0)] := by
  unfold tripM tripL_k0_t2 trip_k0_t2
  rfl

set_option maxHeartbeats 1000000 in
theorem rectsM8 (c : Dev nD) (i : grid0.Coords) (S : Stg) (x0 x1 x2 : Vec F S1x4x512x512 .bf16) (x3 : Vec F S2 .f32) (k : Fin k0_t2_loop.trips) :
    (tripM c i S x0 x1 x2 x3 k).2.map Sigma.fst = [Rect.unit (s := S1x4x512x128) (k0_off80 k 1#32) S1x1x128x128.size (k0_off80_inb k 1), Rect.unit (s := S1x4x512x128) (k0_off79 k 1#32) S1x1x128x128.size (k0_off79_inb k 1), Rect.unit (s := S1x4x512x128) (k0_off78 k 1#32) S1x1x128x128.size (k0_off78_inb k 1), Rect.unit (s := S1x4x512x128) (k0_off77 k 1#32) S1x1x128x128.size (k0_off77_inb k 1), Rect.unit (s := S1x4x512x128) (k0_off80 k 0#32) S1x1x128x128.size (k0_off80_inb k 0), Rect.unit (s := S1x4x512x128) (k0_off79 k 0#32) S1x1x128x128.size (k0_off79_inb k 0), Rect.unit (s := S1x4x512x128) (k0_off78 k 0#32) S1x1x128x128.size (k0_off78_inb k 0), Rect.unit (s := S1x4x512x128) (k0_off77 k 0#32) S1x1x128x128.size (k0_off77_inb k 0)] := by
  unfold tripM tripL_k0_t2 trip_k0_t2
  rfl

theorem coverM7 (c : Dev nD) (i : grid0.Coords) (S : Stg) (x0 x1 x2 : Vec F S1x4x512x512 .bf16) (x3 : Vec F S2 .f32) :
    ∀ y, ∃ p ∈ (pcsM c i S x0 x1 x2 x3).1, y ∈ p.1.set := by
  intro y
  refine cover_of_rects (s := S1x4x512x512) _ S1x1x128x128.size ?_ y
  rw [pcsM_eq]
  show rectsTiled (((tripM c i S x0 x1 x2 x3 ⟨1, by decide⟩).1 ++ ((tripM c i S x0 x1 x2 x3 ⟨0, by decide⟩).1 ++ [])).map Sigma.fst) _
  rw [List.map_append, List.map_append, rectsM7, rectsM7, List.map_nil]
  decide +kernel

theorem coverM8 (c : Dev nD) (i : grid0.Coords) (S : Stg) (x0 x1 x2 : Vec F S1x4x512x512 .bf16) (x3 : Vec F S2 .f32) :
    ∀ y, ∃ p ∈ (pcsM c i S x0 x1 x2 x3).2, y ∈ p.1.set := by
  intro y
  refine cover_of_rects (s := S1x4x512x128) _ S1x1x128x128.size ?_ y
  rw [pcsM_eq]
  show rectsTiled (((tripM c i S x0 x1 x2 x3 ⟨1, by decide⟩).2 ++ ((tripM c i S x0 x1 x2 x3 ⟨0, by decide⟩).2 ++ [])).map Sigma.fst) _
  rw [List.map_append, List.map_append, rectsM8, rectsM8, List.map_nil]
  decide +kernel

/-- What the body leaves in result 0's block. -/
def out7 (c : Dev nD) (i : grid0.Coords) (S : Stg) (x0 x1 x2 : Vec F S1x4x512x512 .bf16) (x3 : Vec F S2 .f32) : Vec F S1x4x512x512 .bf16 :=
  if fixW (ctlA x3) = 1#1 then S.m4.view.read (Elt F) (S.m4.view.writes (Elt F) S.m4.view.junk (pcsF c i S x0 x1 x2 x3).1)
  else S.m4.view.read (Elt F) (S.m4.view.writes (Elt F) S.m4.view.junk (pcsM c i S x0 x1 x2 x3).1)

theorem readF7 (c : Dev nD) (i : grid0.Coords) (S : Stg) (x0 x1 x2 : Vec F S1x4x512x512 .bf16) (x3 : Vec F S2 .f32) (hf : fixW (ctlA x3) = 1#1)
    (f : BufTy.Contents (Elt F) S.m4.view.ty) (X9 : BufTy.Contents (Elt F) kb.view.ty) (X10 : BufTy.Contents (Elt F) vb.view.ty) (X11 : BufTy.Contents (Elt F) bm.view.ty)
    (h9 : X9 = padX x1) (h10 : X10 = padY x2) (h11 : X11 = biasX x3) :
    S.m4.view.read (Elt F) (S.m4.view.writes (Elt F) f (pb_k0_t1 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (S.h3.unread x3) X9 X10 X11 k0_t1_loop.trips).1)
      = out7 c i S x0 x1 x2 x3 := by
  subst h9 h10 h11
  unfold out7
  rw [if_pos hf]
  exact View.read_writes_of_cover _ _ _ _ _ (coverF7 c i S x0 x1 x2 x3)

theorem readM7 (c : Dev nD) (i : grid0.Coords) (S : Stg) (x0 x1 x2 : Vec F S1x4x512x512 .bf16) (x3 : Vec F S2 .f32) (hf : ¬ fixW (ctlA x3) = 1#1)
    (f : BufTy.Contents (Elt F) S.m4.view.ty) (X9 : BufTy.Contents (Elt F) kb.view.ty) (X10 : BufTy.Contents (Elt F) vb.view.ty) (X11 : BufTy.Contents (Elt F) bm.view.ty)
    (h9 : X9 = padX x1) (h10 : X10 = padY x2) (h11 : X11 = biasX x3) :
    S.m4.view.read (Elt F) (S.m4.view.writes (Elt F) f (pb_k0_t2 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) X9 X10 X11 k0_t2_loop.trips).1)
      = out7 c i S x0 x1 x2 x3 := by
  subst h9 h10 h11
  unfold out7
  rw [if_neg hf]
  exact View.read_writes_of_cover _ _ _ _ _ (coverM7 c i S x0 x1 x2 x3)

/-- What the body leaves in result 1's block. -/
def out8 (c : Dev nD) (i : grid0.Coords) (S : Stg) (x0 x1 x2 : Vec F S1x4x512x512 .bf16) (x3 : Vec F S2 .f32) : Vec F S1x4x512x128 .f32 :=
  if fixW (ctlA x3) = 1#1 then S.m5.view.read (Elt F) (S.m5.view.writes (Elt F) S.m5.view.junk (pcsF c i S x0 x1 x2 x3).2)
  else S.m5.view.read (Elt F) (S.m5.view.writes (Elt F) S.m5.view.junk (pcsM c i S x0 x1 x2 x3).2)

theorem readF8 (c : Dev nD) (i : grid0.Coords) (S : Stg) (x0 x1 x2 : Vec F S1x4x512x512 .bf16) (x3 : Vec F S2 .f32) (hf : fixW (ctlA x3) = 1#1)
    (f : BufTy.Contents (Elt F) S.m5.view.ty) (X9 : BufTy.Contents (Elt F) kb.view.ty) (X10 : BufTy.Contents (Elt F) vb.view.ty) (X11 : BufTy.Contents (Elt F) bm.view.ty)
    (h9 : X9 = padX x1) (h10 : X10 = padY x2) (h11 : X11 = biasX x3) :
    S.m5.view.read (Elt F) (S.m5.view.writes (Elt F) f (pb_k0_t1 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) (S.h3.unread x3) X9 X10 X11 k0_t1_loop.trips).2)
      = out8 c i S x0 x1 x2 x3 := by
  subst h9 h10 h11
  unfold out8
  rw [if_pos hf]
  exact View.read_writes_of_cover _ _ _ _ _ (coverF8 c i S x0 x1 x2 x3)

theorem readM8 (c : Dev nD) (i : grid0.Coords) (S : Stg) (x0 x1 x2 : Vec F S1x4x512x512 .bf16) (x3 : Vec F S2 .f32) (hf : ¬ fixW (ctlA x3) = 1#1)
    (f : BufTy.Contents (Elt F) S.m5.view.ty) (X9 : BufTy.Contents (Elt F) kb.view.ty) (X10 : BufTy.Contents (Elt F) vb.view.ty) (X11 : BufTy.Contents (Elt F) bm.view.ty)
    (h9 : X9 = padX x1) (h10 : X10 = padY x2) (h11 : X11 = biasX x3) :
    S.m5.view.read (Elt F) (S.m5.view.writes (Elt F) f (pb_k0_t2 (F := F) 𝒱₀ c none i S.m0 S.h0 S.m1 S.h1 S.m2 S.h2 S.m3 S.h3 S.m4 S.h4 S.m5 S.h5 kb (Memref.isWhole_whole _) vb (Memref.isWhole_whole _) bm (Memref.isWhole_whole _) (BitVec.ofNat 32 (i 2).val) laneI (S.h0.unread x0) X9 X10 X11 k0_t2_loop.trips).2)
      = out8 c i S x0 x1 x2 x3 := by
  subst h9 h10 h11
  unfold out8
  rw [if_neg hf]
  exact View.read_writes_of_cover _ _ _ _ _ (coverM8 c i S x0 x1 x2 x3)

theorem fixW_m (m3 : Memref sig .tc .smem S2 .f32) (h3 : m3.IsWhole) (x3 : Vec F S2 .f32) :
    fixW (View.readAt (Elt F) m3.view (Rect.unit (s := S2) ![0] S1.size inb_S2_S1_0).toLoadRect (h3.unread x3) (Shape.Idx.first idx1)) = fixW (ctlA x3) :=
  congrArg fixW (Memref.IsWhole.readAt_unread h3 x3 _ _)

theorem bit_cases (b : BitVec 1) : b = 1#1 ∨ b = 0#1 := by
  revert b; decide

end Cert.Proof.KI

end
-- ==== Proof.Body.lean ====
/-
  The run of the attention's kernel and its launch, at any float instance: what the body leaves in its
  two result blocks is named by the pieces the loops store; the three scratch buffers are followed
  (the bias table is written at the grid's first point only and read at every later one).
-/
module

public import proofs.«01_k».proof.Proof.Body0
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Tactic
public import Idealize.ShloMosaic.Lib.WholeRead
public import Idealize.ShloMosaic.PureOps.BitExact

@[expose] public section

set_option maxRecDepth 16384
set_option maxHeartbeats 1000000

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-! ## The body's run -/

theorem run1 (c : Dev nD) (i : grid0.Coords) (S : Stg) (x0 x1 x2 : Vec F S1x4x512x512 .bf16) (x3 : Vec F S2 .f32) (hc : atFirst i) (E : Set ℕ) (K : PUnit → sProp 𝕄) :
    iprop(owns (c : Thread nD τ) S.m0 fullShare x0 ∗ owns (c : Thread nD τ) S.m1 fullShare x1 ∗ owns (c : Thread nD τ) S.m2 fullShare x2 ∗ owns (c : Thread nD τ) S.m3 fullShare x3
        ∗ (∃ d, owns (c : Thread nD τ) S.m4 fullShare d) ∗ (∃ d, owns (c : Thread nD τ) S.m5 fullShare d)
        ∗ (∃ f : BufTy.Contents (Elt F) kb.view.ty, kb.view.loc (c : Thread nD τ) ↦[kb.view.set]{fullShare} f)
        ∗ (∃ f : BufTy.Contents (Elt F) vb.view.ty, vb.view.loc (c : Thread nD τ) ↦[vb.view.set]{fullShare} f)
        ∗ (∃ f : BufTy.Contents (Elt F) bm.view.ty, bm.view.loc (c : Thread nD τ) ↦[bm.view.set]{fullShare} f)
        ∗ (iprop(owns (c : Thread nD τ) S.m0 fullShare x0 ∗ owns (c : Thread nD τ) S.m1 fullShare x1 ∗ owns (c : Thread nD τ) S.m2 fullShare x2 ∗ owns (c : Thread nD τ) S.m3 fullShare x3
            ∗ owns (c : Thread nD τ) S.m4 fullShare (out7 c i S x0 x1 x2 x3) ∗ owns (c : Thread nD τ) S.m5 fullShare (out8 c i S x0 x1 x2 x3)
            ∗ (∃ f : BufTy.Contents (Elt F) kb.view.ty, kb.view.loc (c : Thread nD τ) ↦[kb.view.set]{fullShare} f)
            ∗ (∃ f : BufTy.Contents (Elt F) vb.view.ty, vb.view.loc (c : Thread nD τ) ↦[vb.view.set]{fullShare} f)
            ∗ (bm.view.loc (c : Thread nD τ) ↦[bm.view.set]{fullShare} biasX x3)) -∗ K ⟨⟩))
      ⊢ wp frame (wpE (defs₀ (F := F)) 𝒱₀ c none) E (cc0_attn_b1 i S.m0 S.h0 S.m1 S.h1 S.m2 S.h2 S.m3 S.h3 S.m4 S.h4 S.m5 S.h5 kb (Memref.isWhole_whole _) vb (Memref.isWhole_whole _) bm (Memref.isWhole_whole _)) K := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, H6⟩, ⟨%f7, H7⟩, ⟨%f8, H8⟩, Hk⟩
  obtain rfl := S.h0.eq_unread hf0; obtain rfl := S.h1.eq_unread hf1; obtain rfl := S.h2.eq_unread hf2; obtain rfl := S.h3.eq_unread hf3
  have hfix := fixW_m S.m3 S.h3 x3
  unfold atFirst at hc
  rcases bit_cases (fixW (ctlA x3)) with hb | hb
  · have hw : (Scalar.cmpf .ogt (View.readAt (Elt F) S.m3.view (Rect.unit (s := S2) ![0] S1.size inb_S2_S1_0).toLoadRect (S.h3.unread x3) (Shape.Idx.first idx1)) (Scalar.ofBits .f32 0x3F000000#32)) = 1#1 := hfix.trans hb
    have h1 : (Scalar.cmpi .ne (Scalar.extui (Scalar.cmpf .ogt (View.readAt (Elt F) S.m3.view (Rect.unit (s := S2) ![0] S1.size inb_S2_S1_0).toLoadRect (S.h3.unread x3) (Shape.Idx.first idx1)) (Scalar.ofBits .f32 0x3F000000#32)) : BitVec 32) 0#32 = 1#1) := by rw [hw]; decide
    have h2 : ¬ (Scalar.cmpi .ne (Scalar.extui (Scalar.xori (Scalar.cmpf .ogt (View.readAt (Elt F) S.m3.view (Rect.unit (s := S2) ![0] S1.size inb_S2_S1_0).toLoadRect (S.h3.unread x3) (Shape.Idx.first idx1)) (Scalar.ofBits .f32 0x3F000000#32)) 1#1) : BitVec 32) 0#32 = 1#1) := by rw [hw]; decide
    sl_unfold [cc0_attn_b1]
    sl_exec (disch := first | sl_exact hc | sl_exact h1 | sl_exact h2)
    sl_step
    iapply Hk
    isplitl [H0]
    · iexists _; isplitr; · ipureintro; exact S.h0.read_unread _
      iexact H0
    isplitl [H1]
    · iexists _; isplitr; · ipureintro; exact S.h1.read_unread _
      iexact H1
    isplitl [H2]
    · iexists _; isplitr; · ipureintro; exact S.h2.read_unread _
      iexact H2
    isplitl [H3]
    · iexists _; isplitr; · ipureintro; exact S.h3.read_unread _
      iexact H3
    isplitl [H4]
    · iexists _; isplitr; swap; · iexact H4
      ipureintro; exact readF7 c i S x0 x1 x2 x3 hb f4 _ _ _ (padX_eq S.m1 S.h1 x1 _) (padY_eq S.m2 S.h2 x2 _) (bias_eq S.m3 S.h3 x3 _)
    isplitl [H5]
    · iexists _; isplitr; swap; · iexact H5
      ipureintro; exact readF8 c i S x0 x1 x2 x3 hb f5 _ _ _ (padX_eq S.m1 S.h1 x1 _) (padY_eq S.m2 S.h2 x2 _) (bias_eq S.m3 S.h3 x3 _)
    isplitl [H6]
    · iexists _; iexact H6
    isplitl [H7]
    · iexists _; iexact H7
    rw [← bias_eq S.m3 S.h3 x3 _]; iexact H8
  · have hw : (Scalar.cmpf .ogt (View.readAt (Elt F) S.m3.view (Rect.unit (s := S2) ![0] S1.size inb_S2_S1_0).toLoadRect (S.h3.unread x3) (Shape.Idx.first idx1)) (Scalar.ofBits .f32 0x3F000000#32)) = 0#1 := hfix.trans hb
    have h1 : ¬ (Scalar.cmpi .ne (Scalar.extui (Scalar.cmpf .ogt (View.readAt (Elt F) S.m3.view (Rect.unit (s := S2) ![0] S1.size inb_S2_S1_0).toLoadRect (S.h3.unread x3) (Shape.Idx.first idx1)) (Scalar.ofBits .f32 0x3F000000#32)) : BitVec 32) 0#32 = 1#1) := by rw [hw]; decide
    have h2 : (Scalar.cmpi .ne (Scalar.extui (Scalar.xori (Scalar.cmpf .ogt (View.readAt (Elt F) S.m3.view (Rect.unit (s := S2) ![0] S1.size inb_S2_S1_0).toLoadRect (S.h3.unread x3) (Shape.Idx.first idx1)) (Scalar.ofBits .f32 0x3F000000#32)) 1#1) : BitVec 32) 0#32 = 1#1) := by rw [hw]; decide
    sl_unfold [cc0_attn_b1]
    sl_exec (disch := first | sl_exact hc | sl_exact h1 | sl_exact h2)
    sl_step
    iapply Hk
    isplitl [H0]
    · iexists _; isplitr; · ipureintro; exact S.h0.read_unread _
      iexact H0
    isplitl [H1]
    · iexists _; isplitr; · ipureintro; exact S.h1.read_unread _
      iexact H1
    isplitl [H2]
    · iexists _; isplitr; · ipureintro; exact S.h2.read_unread _
      iexact H2
    isplitl [H3]
    · iexists _; isplitr; · ipureintro; exact S.h3.read_unread _
      iexact H3
    isplitl [H4]
    · iexists _; isplitr; swap; · iexact H4
      ipureintro; exact readM7 c i S x0 x1 x2 x3 (by rw [hb]; decide) f4 _ _ _ (padX_eq S.m1 S.h1 x1 _) (padY_eq S.m2 S.h2 x2 _) (bias_eq S.m3 S.h3 x3 _)
    isplitl [H5]
    · iexists _; isplitr; swap; · iexact H5
      ipureintro; exact readM8 c i S x0 x1 x2 x3 (by rw [hb]; decide) f5 _ _ _ (padX_eq S.m1 S.h1 x1 _) (padY_eq S.m2 S.h2 x2 _) (bias_eq S.m3 S.h3 x3 _)
    isplitl [H6]
    · iexists _; iexact H6
    isplitl [H7]
    · iexists _; iexact H7
    rw [← bias_eq S.m3 S.h3 x3 _]; iexact H8

theorem run0 (c : Dev nD) (i : grid0.Coords) (S : Stg) (x0 x1 x2 : Vec F S1x4x512x512 .bf16) (x3 : Vec F S2 .f32) (hc : ¬ atFirst i) (E : Set ℕ) (K : PUnit → sProp 𝕄) :
    iprop(owns (c : Thread nD τ) S.m0 fullShare x0 ∗ owns (c : Thread nD τ) S.m1 fullShare x1 ∗ owns (c : Thread nD τ) S.m2 fullShare x2 ∗ owns (c : Thread nD τ) S.m3 fullShare x3
        ∗ (∃ d, owns (c : Thread nD τ) S.m4 fullShare d) ∗ (∃ d, owns (c : Thread nD τ) S.m5 fullShare d)
        ∗ (∃ f : BufTy.Contents (Elt F) kb.view.ty, kb.view.loc (c : Thread nD τ) ↦[kb.view.set]{fullShare} f)
        ∗ (∃ f : BufTy.Contents (Elt F) vb.view.ty, vb.view.loc (c : Thread nD τ) ↦[vb.view.set]{fullShare} f)
        ∗ (bm.view.loc (c : Thread nD τ) ↦[bm.view.set]{fullShare} biasX x3)
        ∗ (iprop(owns (c : Thread nD τ) S.m0 fullShare x0 ∗ owns (c : Thread nD τ) S.m1 fullShare x1 ∗ owns (c : Thread nD τ) S.m2 fullShare x2 ∗ owns (c : Thread nD τ) S.m3 fullShare x3
            ∗ owns (c : Thread nD τ) S.m4 fullShare (out7 c i S x0 x1 x2 x3) ∗ owns (c : Thread nD τ) S.m5 fullShare (out8 c i S x0 x1 x2 x3)
            ∗ (∃ f : BufTy.Contents (Elt F) kb.view.ty, kb.view.loc (c : Thread nD τ) ↦[kb.view.set]{fullShare} f)
            ∗ (∃ f : BufTy.Contents (Elt F) vb.view.ty, vb.view.loc (c : Thread nD τ) ↦[vb.view.set]{fullShare} f)
            ∗ (bm.view.loc (c : Thread nD τ) ↦[bm.view.set]{fullShare} biasX x3)) -∗ K ⟨⟩))
      ⊢ wp frame (wpE (defs₀ (F := F)) 𝒱₀ c none) E (cc0_attn_b1 i S.m0 S.h0 S.m1 S.h1 S.m2 S.h2 S.m3 S.h3 S.m4 S.h4 S.m5 S.h5 kb (Memref.isWhole_whole _) vb (Memref.isWhole_whole _) bm (Memref.isWhole_whole _)) K := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, H6⟩, ⟨%f7, H7⟩, H8, Hk⟩
  obtain rfl := S.h0.eq_unread hf0; obtain rfl := S.h1.eq_unread hf1; obtain rfl := S.h2.eq_unread hf2; obtain rfl := S.h3.eq_unread hf3
  have hfix := fixW_m S.m3 S.h3 x3
  unfold atFirst at hc
  rcases bit_cases (fixW (ctlA x3)) with hb | hb
  · have hw : (Scalar.cmpf .ogt (View.readAt (Elt F) S.m3.view (Rect.unit (s := S2) ![0] S1.size inb_S2_S1_0).toLoadRect (S.h3.unread x3) (Shape.Idx.first idx1)) (Scalar.ofBits .f32 0x3F000000#32)) = 1#1 := hfix.trans hb
    have h1 : (Scalar.cmpi .ne (Scalar.extui (Scalar.cmpf .ogt (View.readAt (Elt F) S.m3.view (Rect.unit (s := S2) ![0] S1.size inb_S2_S1_0).toLoadRect (S.h3.unread x3) (Shape.Idx.first idx1)) (Scalar.ofBits .f32 0x3F000000#32)) : BitVec 32) 0#32 = 1#1) := by rw [hw]; decide
    have h2 : ¬ (Scalar.cmpi .ne (Scalar.extui (Scalar.xori (Scalar.cmpf .ogt (View.readAt (Elt F) S.m3.view (Rect.unit (s := S2) ![0] S1.size inb_S2_S1_0).toLoadRect (S.h3.unread x3) (Shape.Idx.first idx1)) (Scalar.ofBits .f32 0x3F000000#32)) 1#1) : BitVec 32) 0#32 = 1#1) := by rw [hw]; decide
    sl_unfold [cc0_attn_b1]
    sl_exec (disch := first | sl_exact hc | sl_exact h1 | sl_exact h2)
    sl_step
    iapply Hk
    isplitl [H0]
    · iexists _; isplitr; · ipureintro; exact S.h0.read_unread _
      iexact H0
    isplitl [H1]
    · iexists _; isplitr; · ipureintro; exact S.h1.read_unread _
      iexact H1
    isplitl [H2]
    · iexists _; isplitr; · ipureintro; exact S.h2.read_unread _
      iexact H2
    isplitl [H3]
    · iexists _; isplitr; · ipureintro; exact S.h3.read_unread _
      iexact H3
    isplitl [H4]
    · iexists _; isplitr; swap; · iexact H4
      ipureintro; exact readF7 c i S x0 x1 x2 x3 hb f4 _ _ _ (padX_eq S.m1 S.h1 x1 _) (padY_eq S.m2 S.h2 x2 _) rfl
    isplitl [H5]
    · iexists _; isplitr; swap; · iexact H5
      ipureintro; exact readF8 c i S x0 x1 x2 x3 hb f5 _ _ _ (padX_eq S.m1 S.h1 x1 _) (padY_eq S.m2 S.h2 x2 _) rfl
    isplitl [H6]
    · iexists _; iexact H6
    isplitl [H7]
    · iexists _; iexact H7
    iexact H8
  · have hw : (Scalar.cmpf .ogt (View.readAt (Elt F) S.m3.view (Rect.unit (s := S2) ![0] S1.size inb_S2_S1_0).toLoadRect (S.h3.unread x3) (Shape.Idx.first idx1)) (Scalar.ofBits .f32 0x3F000000#32)) = 0#1 := hfix.trans hb
    have h1 : ¬ (Scalar.cmpi .ne (Scalar.extui (Scalar.cmpf .ogt (View.readAt (Elt F) S.m3.view (Rect.unit (s := S2) ![0] S1.size inb_S2_S1_0).toLoadRect (S.h3.unread x3) (Shape.Idx.first idx1)) (Scalar.ofBits .f32 0x3F000000#32)) : BitVec 32) 0#32 = 1#1) := by rw [hw]; decide
    have h2 : (Scalar.cmpi .ne (Scalar.extui (Scalar.xori (Scalar.cmpf .ogt (View.readAt (Elt F) S.m3.view (Rect.unit (s := S2) ![0] S1.size inb_S2_S1_0).toLoadRect (S.h3.unread x3) (Shape.Idx.first idx1)) (Scalar.ofBits .f32 0x3F000000#32)) 1#1) : BitVec 32) 0#32 = 1#1) := by rw [hw]; decide
    sl_unfold [cc0_attn_b1]
    sl_exec (disch := first | sl_exact hc | sl_exact h1 | sl_exact h2)
    sl_step
    iapply Hk
    isplitl [H0]
    · iexists _; isplitr; · ipureintro; exact S.h0.read_unread _
      iexact H0
    isplitl [H1]
    · iexists _; isplitr; · ipureintro; exact S.h1.read_unread _
      iexact H1
    isplitl [H2]
    · iexists _; isplitr; · ipureintro; exact S.h2.read_unread _
      iexact H2
    isplitl [H3]
    · iexists _; isplitr; · ipureintro; exact S.h3.read_unread _
      iexact H3
    isplitl [H4]
    · iexists _; isplitr; swap; · iexact H4
      ipureintro; exact readM7 c i S x0 x1 x2 x3 (by rw [hb]; decide) f4 _ _ _ (padX_eq S.m1 S.h1 x1 _) (padY_eq S.m2 S.h2 x2 _) rfl
    isplitl [H5]
    · iexists _; isplitr; swap; · iexact H5
      ipureintro; exact readM8 c i S x0 x1 x2 x3 (by rw [hb]; decide) f5 _ _ _ (padX_eq S.m1 S.h1 x1 _) (padY_eq S.m2 S.h2 x2 _) rfl
    isplitl [H6]
    · iexists _; iexact H6
    isplitl [H7]
    · iexists _; iexact H7
    iexact H8

end Cert.Proof.KI

end
-- ==== Proof.Launch.lean ====
/-
  The launch of the attention's kernel: its proof data (the two results at what the body leaves, the bias
  table followed from the first point on), the body's obligation, the run of @main and the frame.
-/
module

public import proofs.«01_k».proof.Proof.Body
public import proofs.«01_k».proof.Proof.Gen.KernelIdeal.Launch

@[expose] public section

set_option maxRecDepth 16384
set_option maxHeartbeats 1000000

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S1x4x512x512 .bf16 := win0_0.stage (cfg0.slots t 0)
abbrev hs0_0 (t : Fin cfg0.N) : (ms0_0 t).IsWhole := hstage0_0 (cfg0.slots t 0)
abbrev ms0_1 (t : Fin cfg0.N) : Memref sig .tc .vmem S1x4x512x512 .bf16 := win0_1.stage (cfg0.slots t 1)
abbrev hs0_1 (t : Fin cfg0.N) : (ms0_1 t).IsWhole := hstage0_1 (cfg0.slots t 1)
abbrev ms0_2 (t : Fin cfg0.N) : Memref sig .tc .vmem S1x4x512x512 .bf16 := win0_2.stage (cfg0.slots t 2)
abbrev hs0_2 (t : Fin cfg0.N) : (ms0_2 t).IsWhole := hstage0_2 (cfg0.slots t 2)
abbrev ms0_3 (t : Fin cfg0.N) : Memref sig .tc .smem S2 .f32 := win0_3.stage (cfg0.slots t 3)
abbrev hs0_3 (t : Fin cfg0.N) : (ms0_3 t).IsWhole := hstage0_3 (cfg0.slots t 3)
abbrev ms0_4 (t : Fin cfg0.N) : Memref sig .tc .vmem S1x4x512x512 .bf16 := win0_4.stage (cfg0.slots t 4)
abbrev hs0_4 (t : Fin cfg0.N) : (ms0_4 t).IsWhole := hstage0_4 (cfg0.slots t 4)
abbrev ms0_5 (t : Fin cfg0.N) : Memref sig .tc .vmem S1x4x512x128 .f32 := win0_5.stage (cfg0.slots t 5)
abbrev hs0_5 (t : Fin cfg0.N) : (ms0_5 t).IsWhole := hstage0_5 (cfg0.slots t 5)

abbrev stgs (t : Fin cfg0.N) : Stg := ⟨ms0_0 t, hs0_0 t, ms0_1 t, hs0_1 t, ms0_2 t, hs0_2 t, ms0_3 t, hs0_3 t, ms0_4 t, hs0_4 t, ms0_5 t, hs0_5 t⟩

instance (i : grid0.Coords) : Decidable (atFirst i) := by unfold atFirst; infer_instance

theorem atFirst_iff : ∀ t : Fin cfg0.N, atFirst (cfg0.grid.coords t) ↔ t.val = 0 := by decide +kernel

/-- The control words, staged once. -/
def ctl (c : Dev nD) : Vec F S2 .f32 := iblk m c 3 t0_0

theorem iblk3 (c : Dev nD) (t : Fin cfg0.N) : iblk m c 3 t = ctl m c := rfl

/-! ## The scratch buffers -/

theorem kb_in (c : Dev nD) (f : BufTy.Contents (Elt F) kb.view.ty) :
    (iprop(((c : Thread nD τ).loc cc0_scratch0) ↦{fullShare} f) : sProp 𝕄) ⊢ iprop(kb.view.loc (c : Thread nD τ) ↦[kb.view.set]{fullShare} f) := by
  rw [show kb.view.set = Finset.univ from View.set_whole _]
theorem kb_out (c : Dev nD) (f : BufTy.Contents (Elt F) kb.view.ty) :
    (iprop(kb.view.loc (c : Thread nD τ) ↦[kb.view.set]{fullShare} f) : sProp 𝕄) ⊢ iprop(((c : Thread nD τ).loc cc0_scratch0) ↦{fullShare} f) := by
  rw [show kb.view.set = Finset.univ from View.set_whole _]
theorem vb_in (c : Dev nD) (f : BufTy.Contents (Elt F) vb.view.ty) :
    (iprop(((c : Thread nD τ).loc cc0_scratch1) ↦{fullShare} f) : sProp 𝕄) ⊢ iprop(vb.view.loc (c : Thread nD τ) ↦[vb.view.set]{fullShare} f) := by
  rw [show vb.view.set = Finset.univ from View.set_whole _]
theorem vb_out (c : Dev nD) (f : BufTy.Contents (Elt F) vb.view.ty) :
    (iprop(vb.view.loc (c : Thread nD τ) ↦[vb.view.set]{fullShare} f) : sProp 𝕄) ⊢ iprop(((c : Thread nD τ).loc cc0_scratch1) ↦{fullShare} f) := by
  rw [show vb.view.set = Finset.univ from View.set_whole _]
theorem bm_in (c : Dev nD) (f : BufTy.Contents (Elt F) bm.view.ty) :
    (iprop(((c : Thread nD τ).loc cc0_scratch2) ↦{fullShare} f) : sProp 𝕄) ⊢ iprop(bm.view.loc (c : Thread nD τ) ↦[bm.view.set]{fullShare} f) := by
  rw [show bm.view.set = Finset.univ from View.set_whole _]
theorem bm_out (c : Dev nD) (f : BufTy.Contents (Elt F) bm.view.ty) :
    (iprop(bm.view.loc (c : Thread nD τ) ↦[bm.view.set]{fullShare} f) : sProp 𝕄) ⊢ iprop(((c : Thread nD τ).loc cc0_scratch2) ↦{fullShare} f) := by
  rw [show bm.view.set = Finset.univ from View.set_whole _]

/-- The two padded buffers at whatever they hold, and the bias table at its contents. -/
def scr (c : Dev nD) : sProp 𝕄 :=
  iprop((∃ f : BufTy.Contents (Elt F) kb.view.ty, kb.view.loc (c : Thread nD τ) ↦[kb.view.set]{fullShare} f)
    ∗ (∃ f : BufTy.Contents (Elt F) vb.view.ty, vb.view.loc (c : Thread nD τ) ↦[vb.view.set]{fullShare} f)
    ∗ (bm.view.loc (c : Thread nD τ) ↦[bm.view.set]{fullShare} biasX (ctl m c)) ∗ ∃ r, prngReg c r)

/-- Before the first point the three scratch buffers at anything. -/
def scr0 (c : Dev nD) : sProp 𝕄 :=
  iprop((∃ f : BufTy.Contents (Elt F) kb.view.ty, kb.view.loc (c : Thread nD τ) ↦[kb.view.set]{fullShare} f)
    ∗ (∃ f : BufTy.Contents (Elt F) vb.view.ty, vb.view.loc (c : Thread nD τ) ↦[vb.view.set]{fullShare} f)
    ∗ (∃ f : BufTy.Contents (Elt F) bm.view.ty, bm.view.loc (c : Thread nD τ) ↦[bm.view.set]{fullShare} f) ∗ ∃ r, prngReg c r)

theorem scr0_in (c : Dev nD) : (ΦA spec0 c : sProp 𝕄) ⊢ scr0 (F := F) c := by
  unfold ΦA scr0
  rw [scopedRest0_eq]
  iintro ⟨⟨⟨%f0, H0⟩, ⟨%f1, H1⟩, ⟨%f2, H2⟩⟩, Hr⟩
  isplitl [H0]; · iexists f0; iapply (kb_in c f0); iexact H0
  isplitl [H1]; · iexists f1; iapply (vb_in c f1); iexact H1
  isplitl [H2]; · iexists f2; iapply (bm_in c f2); iexact H2
  iexact Hr

theorem scr_out (c : Dev nD) : scr m c ⊢ (ΦA spec0 c : sProp 𝕄) := by
  unfold ΦA scr
  rw [scopedRest0_eq]
  iintro ⟨⟨%f0, H0⟩, ⟨%f1, H1⟩, H2, Hr⟩
  isplitr [Hr]
  · isplitl [H0]; · iexists f0; iapply (kb_out c f0); iexact H0
    isplitl [H1]; · iexists f1; iapply (vb_out c f1); iexact H1
    iexists (biasX (ctl m c)); iapply (bm_out c (biasX (ctl m c))); iexact H2
  iexact Hr

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out7 c (cfg0.grid.coords t) (stgs t) (iblk m c 0 t) (iblk m c 1 t) (iblk m c 2 t) (ctl m c)
    | ⟨5, _⟩ => out8 c (cfg0.grid.coords t) (stgs t) (iblk m c 0 t) (iblk m c 1 t) (iblk m c 2 t) (ctl m c)
  Φ t := if t.val = 0 then scr0 c else scr m c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out7 c (cfg0.grid.coords t) (stgs t) (iblk m c 0 t) (iblk m c 1 t) (iblk m c 2 t) (ctl m c) := by dsimp only [dats]
theorem after0_5 (c : Dev nD) (t : Fin cfg0.N) : (dats m 0 c).after 5 t = out8 c (cfg0.grid.coords t) (stgs t) (iblk m c 0 t) (iblk m c 1 t) (iblk m c 2 t) (ctl m c) := by dsimp only [dats]
theorem phi_zero (c : Dev nD) (t : Fin cfg0.N) (h : t.val = 0) : (dats m 0 c).Φ t.castSucc = scr0 c := by
  show (if t.val = 0 then scr0 c else scr m c) = _; rw [if_pos h]
theorem phi_pos (c : Dev nD) (t : Fin cfg0.N) (h : ¬ t.val = 0) : (dats m 0 c).Φ t.castSucc = scr m c := by
  show (if t.val = 0 then scr0 c else scr m c) = _; rw [if_neg h]
theorem phi_succ (c : Dev nD) (t : Fin cfg0.N) : (dats m 0 c).Φ t.succ = scr m c := by
  show (if t.val + 1 = 0 then scr0 c else scr m c) = _; rw [if_neg (Nat.succ_ne_zero _)]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).owesAt () t.succ = (dats m 0 c).owesAt () t.castSucc from rfl, phi_succ, after0_0, after0_1, after0_2, after0_3, after0_4, after0_5, iblk3]
  by_cases h0 : t.val = 0
  · rw [phi_zero m c t h0]
    unfold scr0 scr
    iintro ⟨⟨Hk, Hv, Hb, Hr⟩, Ho, ⟨%d0, H0⟩, ⟨%d1, H1⟩, ⟨%d2, H2⟩, ⟨%d3, H3⟩, ⟨%d4, H4⟩, ⟨%d5, H5⟩⟩
    iapply (run1 c (cfg0.grid.coords t) (stgs t) (iblk m c 0 t) (iblk m c 1 t) (iblk m c 2 t) (ctl m c) ((atFirst_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [Hk]; · iexact Hk
    isplitl [Hv]; · iexact Hv
    isplitl [Hb]; · iexact Hb
    iintro ⟨H0, H1, H2, H3, H4, H5, Hk, Hv, Hb⟩
    isplitl [Hk Hv Hb Hr]
    · isplitl [Hk]; · iexact Hk
      isplitl [Hv]; · iexact Hv
      isplitl [Hb]; · iexact Hb
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [phi_pos m c t h0]
    unfold scr
    iintro ⟨⟨Hk, Hv, Hb, Hr⟩, Ho, ⟨%d0, H0⟩, ⟨%d1, H1⟩, ⟨%d2, H2⟩, ⟨%d3, H3⟩, ⟨%d4, H4⟩, ⟨%d5, H5⟩⟩
    iapply (run0 c (cfg0.grid.coords t) (stgs t) (iblk m c 0 t) (iblk m c 1 t) (iblk m c 2 t) (ctl m c) (fun h => h0 ((atFirst_iff t).mp h)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [Hk]; · iexact Hk
    isplitl [Hv]; · iexact Hv
    isplitl [Hb]; · iexact Hb
    iintro ⟨H0, H1, H2, H3, H4, H5, Hk, Hv, Hb⟩
    isplitl [Hk Hv Hb Hr]
    · isplitl [Hk]; · iexact Hk
      isplitl [Hv]; · iexact Hv
      isplitl [Hb]; · iexact Hb
      iexact Hr
    isplitl [Ho]; · iexact Ho
    isplitl [H0]; · iexact H0
    isplitl [H1]; · iexact H1
    isplitl [H2]; · iexact H2
    isplitl [H3]; · iexact H3
    isplitl [H4]; · iexact H4
    iexact H5

/-! ## The run and the frame -/

theorem phi_in (c : Dev nD) : (ΦA spec0 c : sProp 𝕄) ⊢ (dats m 0 c).Φ 0 := by
  show _ ⊢ (if (0 : Fin (cfg0.N + 1)).val = 0 then scr0 c else scr m c)
  rw [if_pos (by decide)]; exact scr0_in c

theorem phi_out (c : Dev nD) : (dats m 0 c).Φ (Fin.last cfg0.N) ⊢ (ΦA spec0 c : sProp 𝕄) := by
  show (if (Fin.last cfg0.N).val = 0 then scr0 c else scr m c) ⊢ _
  rw [if_neg (by decide)]; exact scr_out m c

set_option backward.isDefEq.respectTransparency.types false in
/-- Every weakly fair execution of @main ends, with every array of the pipeline at what the library computes from
    the proof data and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hin := phi_in m) (hout := phi_out m)

end Cert.Proof.KI

end
-- ==== Proof.Mlp.lean ====
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Pipeline.ValueKit.Acc

@[expose] public section

noncomputable section

namespace Cert.Proof.Mlp

open Idealize.ShloMosaic Idealize.ShloMosaic.TcCoe Idealize.SL.Sem
open Cert.Kernel2Ideal Cert.Kernel2Ideal.Gen

variable [Cert.Kernel2Ideal.Facts]

/-- One row of the normalised input: the row over its root mean square, times the gain. -/
def hrow (x g : Fin 1024 → EReal) (k : Fin 1024) : EReal :=
  x k * Ideal.rsqrt (Ideal.div (∑ i : Fin 1024, x i * x i) (Ideal.ofBits .f32 0x44800000#32) + Ideal.ofBits .f32 0x358637BD#32) * g k

/-- One term of the second product: the squared positive part of the first product at hidden unit `l`, times the second
    weight. -/
def term (h : Fin 1024 → EReal) (wu : Fin 1024 → Fin 4096 → EReal) (wd : Fin 4096 → EReal) (l : Fin 4096) : EReal :=
  max (∑ k : Fin 1024, h k * wu k l) 0 * max (∑ k : Fin 1024, h k * wu k l) 0 * wd l

theorem pay3_at (v0 : Vec Ideal S1024x1024 .f32) (v2 : Vec Ideal S1x1024 .f32) (r k : Fin 1024) :
    k0_pay3 (F := Ideal) v0 v2 (ix2 r k) = hrow (fun i => v0 (ix2 r i)) (fun i => v2 (ix2 0 i)) k := by
  pointwise [k0_pay2, k0_pay3, hrow]

theorem pay4_at (v0 : Vec Ideal S1024x1024 .f32) (v2 : Vec Ideal S1x1024 .f32) (v17 v24 : Vec Ideal S1024x1024 .bf16) (r j : Fin 1024) :
    k0_pay4 (F := Ideal) v0 v2 v17 v24 (ix2 r j) = v0 (ix2 r j) + ∑ l : Fin 1024,
      max (∑ k : Fin 1024, k0_pay3 (F := Ideal) v0 v2 (ix2 r k) * v17 (ix2 k l)) 0
        * max (∑ k : Fin 1024, k0_pay3 (F := Ideal) v0 v2 (ix2 r k) * v17 (ix2 k l)) 0 * v24 (ix2 l j) := by
  unfold k0_pay4
  generalize k0_pay3 (F := Ideal) v0 v2 = h
  pointwise [k0_pay2]

theorem pay5_at (v0 : Vec Ideal S1024x1024 .f32) (v2 : Vec Ideal S1x1024 .f32) (v28 v35 : Vec Ideal S1024x1024 .bf16) (r j : Fin 1024) :
    k0_pay5 (F := Ideal) v0 v2 v28 v35 (ix2 r j) = ∑ l : Fin 1024,
      max (∑ k : Fin 1024, k0_pay3 (F := Ideal) v0 v2 (ix2 r k) * v28 (ix2 k l)) 0
        * max (∑ k : Fin 1024, k0_pay3 (F := Ideal) v0 v2 (ix2 r k) * v28 (ix2 k l)) 0 * v35 (ix2 l j) := by
  unfold k0_pay5
  generalize k0_pay3 (F := Ideal) v0 v2 = h
  pointwise

theorem pay1_at (h : FVec Ideal S1024x1024 .bf16) (a b : FVec Ideal S1024x1024 .f32) (v39 v46 v50 v57 : Vec Ideal S1024x1024 .bf16) (r j : Fin 1024) :
    k0_pay1 (F := Ideal) h a b v39 v46 v50 v57 (ix2 r j) = a (ix2 r j) + b (ix2 r j)
      + (∑ l : Fin 1024, max (∑ k : Fin 1024, h (ix2 r k) * v39 (ix2 k l)) 0
        * max (∑ k : Fin 1024, h (ix2 r k) * v39 (ix2 k l)) 0 * v46 (ix2 l j))
      + (∑ l : Fin 1024, max (∑ k : Fin 1024, h (ix2 r k) * v50 (ix2 k l)) 0
        * max (∑ k : Fin 1024, h (ix2 r k) * v50 (ix2 k l)) 0 * v57 (ix2 l j)) := by
  pointwise [k0_pay1]

theorem sum_four (f : Fin 4096 → EReal) :
    ∑ l : Fin 4096, f l = (∑ l : Fin 1024, f ⟨l.val, by omega⟩) + (∑ l : Fin 1024, f ⟨1024 + l.val, by omega⟩)
      + (∑ l : Fin 1024, f ⟨2048 + l.val, by omega⟩) + (∑ l : Fin 1024, f ⟨3072 + l.val, by omega⟩) := by
  rw [← Fin.sum_mul_add_fin 4 1024 f rfl, Fin.sum_univ_four]
  refine congrArg₂ _ (congrArg₂ _ (congrArg₂ _ ?_ ?_) ?_) ?_ <;>
    exact Finset.sum_congr rfl fun l _ => congrArg f (Fin.ext (by simp))

theorem ld_00 (x0 : Vec Ideal S1024x1024 .f32) (r k : Fin 1024) : View.ld x0 r0_0 (ix2 r k) = x0 (ix2 r k) := by
  pointwise [r0_0]
theorem ld_01 (x1 : Vec Ideal S1x1024 .f32) (k : Fin 1024) : View.ld x1 r0_1 (ix2 0 k) = x1 (ix2 0 k) := by
  pointwise [r0_1]
theorem ld_02 (x : Vec Ideal S1024x4096 .bf16) (r k : Fin 1024) : View.ld x r0_2 (ix2 r k) = x (ix2 r ⟨k.val, by omega⟩) := by
  pointwise [r0_2]
theorem ld_03 (x : Vec Ideal S4096x1024 .bf16) (r k : Fin 1024) : View.ld x r0_3 (ix2 r k) = x (ix2 ⟨r.val, by omega⟩ k) := by
  pointwise [r0_3]
theorem ld_04 (x : Vec Ideal S1024x4096 .bf16) (r k : Fin 1024) : View.ld x r0_4 (ix2 r k) = x (ix2 r ⟨1024 + k.val, by omega⟩) := by
  pointwise [r0_4]
theorem ld_05 (x : Vec Ideal S4096x1024 .bf16) (r k : Fin 1024) : View.ld x r0_5 (ix2 r k) = x (ix2 ⟨1024 + r.val, by omega⟩ k) := by
  pointwise [r0_5]
theorem ld_06 (x : Vec Ideal S1024x4096 .bf16) (r k : Fin 1024) : View.ld x r0_6 (ix2 r k) = x (ix2 r ⟨2048 + k.val, by omega⟩) := by
  pointwise [r0_6]
theorem ld_07 (x : Vec Ideal S4096x1024 .bf16) (r k : Fin 1024) : View.ld x r0_7 (ix2 r k) = x (ix2 ⟨2048 + r.val, by omega⟩ k) := by
  pointwise [r0_7]
theorem ld_08 (x : Vec Ideal S1024x4096 .bf16) (r k : Fin 1024) : View.ld x r0_8 (ix2 r k) = x (ix2 r ⟨3072 + k.val, by omega⟩) := by
  pointwise [r0_8]
theorem ld_09 (x : Vec Ideal S4096x1024 .bf16) (r k : Fin 1024) : View.ld x r0_9 (ix2 r k) = x (ix2 ⟨3072 + r.val, by omega⟩ k) := by
  pointwise [r0_9]

theorem out_of_reads (x0 : Vec Ideal S1024x1024 .f32) (x1 : Vec Ideal S1x1024 .f32) (x2 : Vec Ideal S1024x4096 .bf16)
    (x3 : Vec Ideal S4096x1024 .bf16) (r j : Fin 1024) (v0 : Vec Ideal S1024x1024 .f32) (v2 : Vec Ideal S1x1024 .f32)
    (a0 b0 a1 b1 a2 b2 a3 b3 : Vec Ideal S1024x1024 .bf16)
    (h0 : ∀ r k : Fin 1024, v0 (ix2 r k) = x0 (ix2 r k)) (h2 : ∀ k : Fin 1024, v2 (ix2 0 k) = x1 (ix2 0 k))
    (ha0 : ∀ r k : Fin 1024, a0 (ix2 r k) = x2 (ix2 r ⟨k.val, by omega⟩))
    (hb0 : ∀ r k : Fin 1024, b0 (ix2 r k) = x3 (ix2 ⟨r.val, by omega⟩ k))
    (ha1 : ∀ r k : Fin 1024, a1 (ix2 r k) = x2 (ix2 r ⟨1024 + k.val, by omega⟩))
    (hb1 : ∀ r k : Fin 1024, b1 (ix2 r k) = x3 (ix2 ⟨1024 + r.val, by omega⟩ k))
    (ha2 : ∀ r k : Fin 1024, a2 (ix2 r k) = x2 (ix2 r ⟨2048 + k.val, by omega⟩))
    (hb2 : ∀ r k : Fin 1024, b2 (ix2 r k) = x3 (ix2 ⟨2048 + r.val, by omega⟩ k))
    (ha3 : ∀ r k : Fin 1024, a3 (ix2 r k) = x2 (ix2 r ⟨3072 + k.val, by omega⟩))
    (hb3 : ∀ r k : Fin 1024, b3 (ix2 r k) = x3 (ix2 ⟨3072 + r.val, by omega⟩ k)) :
    k0_pay1 (F := Ideal) (k0_pay3 v0 v2) (k0_pay4 v0 v2 a0 b0) (k0_pay5 v0 v2 a1 b1) a2 b2 a3 b3 (ix2 r j)
      = x0 (ix2 r j) + ∑ l : Fin 4096,
        term (hrow (fun i => x0 (ix2 r i)) (fun i => x1 (ix2 0 i))) (fun k l => x2 (ix2 k l)) (fun l => x3 (ix2 l j)) l := by
  rw [pay1_at, pay4_at, pay5_at, sum_four]
  simp only [pay3_at, h0, h2, ha0, hb0, ha1, hb1, ha2, hb2, ha3, hb3, term, add_assoc]

theorem out_at (x0 : Vec Ideal S1024x1024 .f32) (x1 : Vec Ideal S1x1024 .f32) (x2 : Vec Ideal S1024x4096 .bf16)
    (x3 : Vec Ideal S4096x1024 .bf16) (r j : Fin 1024) :
    out0_4 (F := Ideal) x0 x1 x2 x3 (ix2 r j) = x0 (ix2 r j) + ∑ l : Fin 4096,
      term (hrow (fun i => x0 (ix2 r i)) (fun i => x1 (ix2 0 i))) (fun k l => x2 (ix2 k l)) (fun l => x3 (ix2 l j)) l := by
  have e : out0_4 (F := Ideal) x0 x1 x2 x3 (ix2 r j) = k0_pay1 (k0_pay3 (View.ld x0 r0_0) (View.ld x1 r0_1)) (k0_pay4 (View.ld x0 r0_0) (View.ld x1 r0_1) (View.ld x2 r0_2) (View.ld x3 r0_3)) (k0_pay5 (View.ld x0 r0_0) (View.ld x1 r0_1) (View.ld x2 r0_4) (View.ld x3 r0_5)) (View.ld x2 r0_6) (View.ld x3 r0_7) (View.ld x2 r0_8) (View.ld x3 r0_9) (ix2 r j) := by
    frame_out
  rw [e]
  exact out_of_reads x0 x1 x2 x3 r j _ _ _ _ _ _ _ _ _ _ (ld_00 x0) (ld_01 x1) (ld_02 x2) (ld_03 x3) (ld_04 x2)
    (ld_05 x3) (ld_06 x2) (ld_07 x3) (ld_08 x2) (ld_09 x3)

section
open Cert.Reference2Ideal.Read

variable [Cert.Reference2Ideal.Facts]

theorem ref_h (x0 : FVec Ideal Cert.Reference2Ideal.S8x2048x1024 .f32) (x1 : FVec Ideal Cert.Reference2Ideal.S1024 .f32)
    (b : Fin 8) (s : Fin 2048) (k : Fin 1024) :
    val_main_v12 (F := Ideal) x0 x1 (ix3 b s k) = hrow (fun k => x0 (ix3 b s k)) (fun k => x1 (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, hrow]

theorem ref_at (x0 : FVec Ideal Cert.Reference2Ideal.S8x2048x1024 .f32) (x1 : FVec Ideal Cert.Reference2Ideal.S1024 .f32)
    (x2 : FVec Ideal Cert.Reference2Ideal.S1024x4096 .f32) (x3 : FVec Ideal Cert.Reference2Ideal.S4096x1024 .f32)
    (i : Fin 16384) (j : Fin 1024) :
    val_main_v19 (F := Ideal) x0 x1 x2 x3 (ix2 i j)
      = x0 (ix3 ⟨i.val / 2048, by omega⟩ ⟨i.val % 2048, by omega⟩ j) + ∑ l : Fin 4096,
        term (hrow (fun k => x0 (ix3 ⟨i.val / 2048, by omega⟩ ⟨i.val % 2048, by omega⟩ k)) (fun k => x1 (ix1 k)))
          (fun k l => x2 (ix2 k l)) (fun l => x3 (ix2 l j)) l := by
  simp only [term, ← ref_h]
  unfold val_main_v19 val_main_v18 val_main_v17 val_main_v16 val_main_v15 val_main_v14 val_main_v13 val_main_cst_2
  generalize val_main_v12 (F := Ideal) x0 x1 = h
  pointwise

variable (m : (ℓ : Loc nD τ sig) → Buf (Elt Ideal) ℓ)

theorem arr_eq (c : Dev nD) : (dats (F := Ideal) m 0 c).arrAt 4 cfg0.N
    = val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  have idx : ∀ t : Fin grid0.N, win0_0.index t = ![(grid0.coords t 0).val, 0] ∧ win0_1.index t = ![0, 0]
      ∧ win0_2.index t = ![0, 0] ∧ win0_3.index t = ![0, 0] ∧ win0_4.index t = ![(grid0.coords t 0).val, 0] := by
    decide +kernel
  have hx : ∀ r k : Fin 1024, iblk (F := Ideal) m c 0 t (ix2 r k) = m ((c : Thread nD τ).loc main_arg0)
      (ix3 ⟨((grid0.coords t 0).val * 1024 + r.val) / 2048, by have := (grid0.coords t 0).isLt; simp at this; omega⟩
        ⟨((grid0.coords t 0).val * 1024 + r.val) % 2048, by omega⟩ k) := fun r k => by
    blk_ext! [iblk, V, idx t]
  have hg : ∀ k : Fin 1024, iblk (F := Ideal) m c 1 t (ix2 0 k) = m ((c : Thread nD τ).loc main_arg1) (ix1 k) := fun k => by
    blk_ext! [iblk, V, idx t]
  have hu : ∀ (k : Fin 1024) (l : Fin 4096), iblk (F := Ideal) m c 2 t (ix2 k l) = m ((c : Thread nD τ).loc main_arg2) (ix2 k l) := fun k l => by
    blk_ext [iblk, V, idx t]
  have hd : ∀ (l : Fin 4096) (j : Fin 1024), iblk (F := Ideal) m c 3 t (ix2 l j) = m ((c : Thread nD τ).loc main_arg3) (ix2 l j) := fun l j => by
    blk_ext [iblk, V, idx t]
  have he : (win0_4.blk t).view.emb y = ix2 (⟨(grid0.coords t 0).val * 1024 + (y 0).val, by have := (grid0.coords t 0).isLt; have := (y 0).isLt; simp at *; omega⟩ : Fin 16384) (y 1 : Fin 1024) := by
    blk_ext [idx t]
  have hy : y = ix2 (y 0 : Fin 1024) (y 1 : Fin 1024) := by blk_ext [idx t]
  refine Eq.trans ?_ (congrArg _ he.symm)
  refine Eq.trans ?_ (ref_at _ _ _ _ _ _).symm
  refine (congrArg (out0_4 _ _ _ _) hy).trans ((out_at _ _ _ _ _ _).trans ?_)
  rw [hx (y 0) (y 1), funext (hx (y 0)), funext hg, funext fun k => funext (hu k), funext fun l => hd l (y 1)]

end

end Cert.Proof.Mlp

end
-- ==== Proof.MergeSpec.lean ====
/-
  The gated merge: a row of it, and the two identities between the kernel's spelling of it and the reference's.
-/
module

public import Idealize.ShloMosaic.Lib.Pointwise

@[expose] public section

set_option maxRecDepth 16384
set_option maxHeartbeats 1000000

noncomputable section

namespace Cert.Proof.KM

open Idealize.ShloMosaic Idealize.ShloMosaic.TcCoe Idealize.SL.Sem

/-- One row of the normalised input. -/
def hrow (x g : Fin 1024 → EReal) (k : Fin 1024) : EReal :=
  x k * Ideal.rsqrt (Ideal.div (∑ i : Fin 1024, x i * x i) (Ideal.ofBits .f32 0x44800000#32) + Ideal.ofBits .f32 0x358637BD#32) * g k

/-- The gate as the kernel takes it. -/
def gateT (z : EReal) : EReal :=
  Ideal.ofBits .f32 0x3F000000#32 * Ideal.tanh (Ideal.ofBits .f32 0x3F000000#32 * z) + Ideal.ofBits .f32 0x3F000000#32

/-- The weight of one of three scores. -/
def ew (l l0 l1 l2 : EReal) : EReal := Ideal.exp (l - max (max l0 l1) l2)
def den (l0 l1 l2 : EReal) : EReal := ew l0 l0 l1 l2 + ew l1 l0 l1 l2 + ew l2 l0 l1 l2

/-- The mixture of three outputs as the kernel takes it. -/
def mixK (l0 l1 l2 a0 a1 a2 : EReal) : EReal :=
  ew l0 l0 l1 l2 * Ideal.div 1 (den l0 l1 l2) * a0 + ew l1 l0 l1 l2 * Ideal.div 1 (den l0 l1 l2) * a1
    + ew l2 l0 l1 l2 * Ideal.div 1 (den l0 l1 l2) * a2

/-- A row of the merge. -/
def outS (x g : Fin 1024 → EReal) (oa ob om : Fin 512 → EReal) (w : Fin 3 → Fin 1024 → Fin 1024 → EReal) (bg : Fin 3 → Fin 1024 → EReal)
    (wb : Fin 3 → Fin 512 → Fin 1024 → EReal) (wo : Fin 1024 → Fin 1024 → EReal) (k : Fin 1024) : EReal :=
  x k + ∑ i : Fin 1024, (gateT ((∑ c, hrow x g c * w 0 c i) + bg 0 i) * (∑ j, oa j * wb 0 j i)
    + gateT ((∑ c, hrow x g c * w 1 c i) + bg 1 i) * (∑ j, ob j * wb 1 j i)
    + gateT ((∑ c, hrow x g c * w 2 c i) + bg 2 i) * (∑ j, om j * wb 2 j i)) * wo i k

theorem gate_eq (z : EReal) : gateT z = Ideal.div 1 (1 + Ideal.exp (-z)) := by
  have hh : Ideal.ofBits .f32 0x3F000000#32 = ((1 / 2 : ℝ) : EReal) := by
    simp [Ideal.ofBits, Ideal.ieee, -EReal.coe_mul]
    norm_num
  rw [gateT, hh]
  induction z using EReal.rec with
  | bot =>
    rw [EReal.coe_mul_bot_of_pos (by norm_num), Ideal.tanh_bot, EReal.neg_bot, Ideal.exp_top, EReal.add_top_of_ne_bot (by decide), Ideal.div,
      if_neg (by decide), EReal.inv_top, mul_zero]
    norm_num
    rw [← EReal.coe_neg, ← EReal.coe_add]
    norm_num
  | top =>
    rw [EReal.coe_mul_top_of_pos (by norm_num), Ideal.tanh_top, EReal.neg_top, Ideal.exp_bot, mul_one, add_zero, ← EReal.coe_add,
      ← EReal.coe_one, Ideal.div_coe (by norm_num)]
    norm_num
  | coe z =>
    have hz : (1 : ℝ) + Real.exp (-z) ≠ 0 := by positivity
    rw [← EReal.coe_mul, Ideal.tanh_coe, ← EReal.coe_neg, Ideal.exp_coe, ← EReal.coe_mul, ← EReal.coe_add, ← EReal.coe_one, ← EReal.coe_add,
      Ideal.div_coe hz, ← EReal.coe_mul]
    refine congrArg _ ?_
    rw [one_div_mul_eq_div, Real.tanh_eq_sinh_div_cosh, Real.sinh_eq, Real.cosh_eq]
    have h1 : Real.exp (-z) = Real.exp (-(z / 2)) * Real.exp (-(z / 2)) := by rw [← Real.exp_add]; congr 1; ring
    have h2 : Real.exp (z / 2) * Real.exp (-(z / 2)) = 1 := by rw [← Real.exp_add]; simp
    have p1 := Real.exp_pos (z / 2)
    have p2 := Real.exp_pos (-(z / 2))
    rw [h1]
    field_simp
    linear_combination (2 * Real.exp (-(z / 2))) * h2

/-- The weights of finite scores add up to a positive real. -/
theorem mix_eq (l : Fin 3 → ℝ) (a : Fin 3 → EReal) :
    ∑ g, Ideal.div (ew (l g) (l 0) (l 1) (l 2)) (∑ g, ew (l g) (l 0) (l 1) (l 2)) * a g = mixK (l 0) (l 1) (l 2) (a 0) (a 1) (a 2) := by
  have he : ∀ x : ℝ, ew (x : EReal) (l 0) (l 1) (l 2) = ((Real.exp (x - max (max (l 0) (l 1)) (l 2)) : ℝ) : EReal) := fun x => by
    rw [ew, ← EReal.coe_strictMono.monotone.map_max, ← EReal.coe_strictMono.monotone.map_max, ← EReal.coe_sub, Ideal.exp_coe]
  have hd : den (l 0) (l 1) (l 2) = ∑ g, ew (l g) (l 0) (l 1) (l 2) := by rw [Fin.sum_univ_three, den]
  have hp : ∃ D : ℝ, D ≠ 0 ∧ den (l 0) (l 1) (l 2) = (D : EReal) := by
    refine ⟨_, ?_, by rw [den, he, he, he, ← EReal.coe_add, ← EReal.coe_add]⟩
    positivity
  obtain ⟨D, hD, e⟩ := hp
  rw [← hd, mixK, e, Fin.sum_univ_three]
  simp only [Ideal.div_coe hD, one_mul]

end Cert.Proof.KM
-- ==== Proof.MergeScratch.lean ====
/-
  The merge's scratch: whatever the order of its strided stores, each agrees with one function of the scratch's index, the
  rows of each group's outputs and denominators put back in sequence order.
-/
module

public import proofs.«01_k».proof.Proof.Gen.Kernel3Ideal.Value
public import Idealize.ShloMosaic.Lib.Pipeline.ValueKit
public import Idealize.ShloMosaic.Lib.WholeRead

@[expose] public section

set_option maxRecDepth 16384
set_option maxHeartbeats 1000000

noncomputable section

namespace Cert.Proof.KM

open Cert.Kernel3Ideal Cert.Kernel3Ideal.Gen
open Idealize.ShloMosaic
open Idealize.ShloMosaic.TcCoe

section
variable (x4 : Vec Ideal S1x4x128x512 .bf16) (x5 : Vec Ideal S1x16x32x512 .bf16)
  (x7 : Vec Ideal S1x4x128x128 .f32) (x8 : Vec Ideal S1x16x32x128 .f32)

/-- Slab `s` of the scratch at row `i` and lane `l`: heads of the first group and its denominators, heads of the second group
and its denominators in sequence order, and the second group once more in the order of its four residues modulo four. -/
def gS (s i l : ℕ) : EReal :=
  if s < 4 then x4 (ix4 0 (Fin.ofNat 4 i) (Fin.ofNat 128 (i / 4)) (Fin.ofNat 512 (128 * s + l)))
  else if s = 4 then x7 (ix4 0 (Fin.ofNat 4 i) (Fin.ofNat 128 (i / 4)) (Fin.ofNat 128 l))
  else if s < 9 then x5 (ix4 0 (Fin.ofNat 16 i) (Fin.ofNat 32 (i / 16)) (Fin.ofNat 512 (128 * (s - 5) + l)))
  else if s = 9 then x8 (ix4 0 (Fin.ofNat 16 i) (Fin.ofNat 32 (i / 16)) (Fin.ofNat 128 l))
  else if s < 14 then
    x5 (ix4 0 (Fin.ofNat 16 (i / 128 + 4 * (i % 4))) (Fin.ofNat 32 (i % 128 / 4)) (Fin.ofNat 512 (128 * (s - 10) + l)))
  else x8 (ix4 0 (Fin.ofNat 16 (i / 128 + 4 * (i % 4))) (Fin.ofNat 32 (i % 128 / 4)) (Fin.ofNat 128 l))

/-- A store that agrees with the function. -/
def Agrees (p : View.Piece (Elt Ideal) S15x512x128 .f32) : Prop :=
  ∀ y, p.2 y = gS x4 x5 x7 x8 (p.1.emb y 0).val (p.1.emb y 1).val (p.1.emb y 2).val

theorem idx128 (y : S1x128x128.Idx) : ∃ k l : Fin 128, y = ix3 (n0 := 1) 0 k l := by
  refine ⟨y 1, y 2, funext fun a => ?_⟩
  fin_cases a
  · exact Fin.ext (by have h : (y 0).val < 1 := (y 0).isLt; show (y 0).val = 0; omega)
  · rfl
  · rfl

theorem idx32 (y : S1x32x128.Idx) : ∃ (k : Fin 32) (l : Fin 128), y = ix3 (n0 := 1) 0 k l := by
  refine ⟨y 1, y 2, funext fun a => ?_⟩
  fin_cases a
  · exact Fin.ext (by have h : (y 0).val < 1 := (y 0).isLt; show (y 0).val = 0; omega)
  · rfl
  · rfl

theorem pay9_at (v : Vec Ideal S1x1x128x128 .bf16) (k l : Fin 128) : k0_pay9 v (ix3 0 k l) = v (ix4 0 0 k l) := by
  pointwise [k0_pay9]
theorem pay27_at (v : Vec Ideal S1x1x128x128 .f32) (k l : Fin 128) : k0_pay27 v (ix3 0 k l) = v (ix4 0 0 k l) := by
  pointwise [k0_pay27]
theorem pay36_at (v : Vec Ideal S1x1x32x128 .bf16) (k : Fin 32) (l : Fin 128) : k0_pay36 v (ix3 0 k l) = v (ix4 0 0 k l) := by
  pointwise [k0_pay36]
theorem pay145_at (v : Vec Ideal S1x1x32x128 .f32) (k : Fin 32) (l : Fin 128) : k0_pay145 v (ix3 0 k l) = v (ix4 0 0 k l) := by
  pointwise [k0_pay145]
theorem pay54_at (v : Vec Ideal S1x128x128 .f32) (k l : Fin 128) : k0_pay54 v (ix3 0 k l) = v (ix3 0 k l) := by
  pointwise [k0_pay54]

/-- A plane of the first group's outputs. -/
theorem agO {m : Memref sig .tc .vmem S1x4x128x512 .bf16} {hm : m.IsWhole} {c r o : ℕ}
    {i1 : ∀ a, (![0, r, 0, o] : Fin 4 → ℕ) a + S1x1x128x128.size a ≤ S1x4x128x512.size a}
    {i2 : ∀ a : Fin 3, S1x128x128.size a = 0 ∨ (![c, r, 0] : Fin 3 → ℕ) a + (![1, 4, 1] : Fin 3 → ℕ) a * (S1x128x128.size a - 1) < S15x512x128.size a}
    {i3 : ∀ a : Fin 3, 0 < (![1, 4, 1] : Fin 3 → ℕ) a}
    (hc : c < 4) (hr : r < 4) (ho : o = 128 * c) :
    Agrees x4 x5 x7 x8 ⟨{ off := ![c, r, 0], size := S1x128x128.size, stride := ![1, 4, 1], inb := i2, stride_pos := i3 },
      k0_pay9 (View.readAt (Elt Ideal) m.view (Rect.unit (s := S1x4x128x512) ![0, r, 0, o] S1x1x128x128.size i1).toLoadRect (hm.unread x4))⟩ := by
  intro y
  obtain ⟨k, l, rfl⟩ := idx128 y
  have e := pay9_at (View.readAt (Elt Ideal) m.view (Rect.unit (s := S1x4x128x512) ![0, r, 0, o] S1x1x128x128.size i1).toLoadRect (hm.unread x4)) k l
  refine Eq.trans e ?_
  show _ = gS x4 x5 x7 x8 (c + 1 * 0) (r + 4 * k.val) (0 + 1 * l.val)
  have hk := k.isLt
  rw [hm.readAt_unread, gS, if_pos (by omega)]
  refine congrArg x4 (funext fun a => Fin.ext ?_)
  fin_cases a <;> simp [LoadRect.idx_apply, ix4, Fin.ofNat] <;> omega

/-- A plane of the first group's denominators. -/
theorem agL {m : Memref sig .tc .vmem S1x4x128x128 .f32} {hm : m.IsWhole} {r : ℕ}
    {i1 : ∀ a, (![0, r, 0, 0] : Fin 4 → ℕ) a + S1x1x128x128.size a ≤ S1x4x128x128.size a}
    {i2 : ∀ a : Fin 3, S1x128x128.size a = 0 ∨ (![4, r, 0] : Fin 3 → ℕ) a + (![1, 4, 1] : Fin 3 → ℕ) a * (S1x128x128.size a - 1) < S15x512x128.size a}
    {i3 : ∀ a : Fin 3, 0 < (![1, 4, 1] : Fin 3 → ℕ) a}
    (hr : r < 4) :
    Agrees x4 x5 x7 x8 ⟨{ off := ![4, r, 0], size := S1x128x128.size, stride := ![1, 4, 1], inb := i2, stride_pos := i3 },
      k0_pay27 (View.readAt (Elt Ideal) m.view (Rect.unit (s := S1x4x128x128) ![0, r, 0, 0] S1x1x128x128.size i1).toLoadRect (hm.unread x7))⟩ := by
  intro y
  obtain ⟨k, l, rfl⟩ := idx128 y
  have e := pay27_at (View.readAt (Elt Ideal) m.view (Rect.unit (s := S1x4x128x128) ![0, r, 0, 0] S1x1x128x128.size i1).toLoadRect (hm.unread x7)) k l
  refine Eq.trans e ?_
  show _ = gS x4 x5 x7 x8 (4 + 1 * 0) (r + 4 * k.val) (0 + 1 * l.val)
  have hk := k.isLt
  rw [hm.readAt_unread, gS, if_neg (by omega), if_pos (by omega)]
  refine congrArg x7 (funext fun a => Fin.ext ?_)
  fin_cases a <;> simp [LoadRect.idx_apply, ix4, Fin.ofNat] <;> omega

/-- A plane of the second group's outputs, in the order of the residues modulo four. -/
theorem agP {m : Memref sig .tc .vmem S1x16x32x512 .bf16} {hm : m.IsWhole} {c p o t : ℕ}
    {i1 : ∀ a, (![0, p, 0, o] : Fin 4 → ℕ) a + S1x1x32x128.size a ≤ S1x16x32x512.size a}
    {i2 : ∀ a : Fin 3, S1x32x128.size a = 0 ∨ (![c, t, 0] : Fin 3 → ℕ) a + (![1, 4, 1] : Fin 3 → ℕ) a * (S1x32x128.size a - 1) < S15x512x128.size a}
    {i3 : ∀ a : Fin 3, 0 < (![1, 4, 1] : Fin 3 → ℕ) a}
    (hc : 10 ≤ c ∧ c < 14) (hp : p < 16) (ho : o = 128 * (c - 10)) (ht : t = 128 * (p % 4) + p / 4) :
    Agrees x4 x5 x7 x8 ⟨{ off := ![c, t, 0], size := S1x32x128.size, stride := ![1, 4, 1], inb := i2, stride_pos := i3 },
      k0_pay36 (View.readAt (Elt Ideal) m.view (Rect.unit (s := S1x16x32x512) ![0, p, 0, o] S1x1x32x128.size i1).toLoadRect (hm.unread x5))⟩ := by
  intro y
  obtain ⟨k, l, rfl⟩ := idx32 y
  have e := pay36_at (View.readAt (Elt Ideal) m.view (Rect.unit (s := S1x16x32x512) ![0, p, 0, o] S1x1x32x128.size i1).toLoadRect (hm.unread x5)) k l
  refine Eq.trans e ?_
  show _ = gS x4 x5 x7 x8 (c + 1 * 0) (t + 4 * k.val) (0 + 1 * l.val)
  have hk := k.isLt
  have h1 : (t + 4 * k.val) / 128 = p % 4 := by omega
  have h2 : (t + 4 * k.val) % 4 = p / 4 := by omega
  have h3 : (t + 4 * k.val) % 128 / 4 = k.val := by omega
  rw [hm.readAt_unread, gS, if_neg (by omega), if_neg (by omega), if_neg (by omega), if_neg (by omega), if_pos (by omega), h1, h2, h3]
  refine congrArg x5 (funext fun a => Fin.ext ?_)
  fin_cases a <;> simp [LoadRect.idx_apply, ix4, Fin.ofNat] <;> omega

/-- A plane of the second group's denominators, in that order. -/
theorem agM {m : Memref sig .tc .vmem S1x16x32x128 .f32} {hm : m.IsWhole} {p t : ℕ}
    {i1 : ∀ a, (![0, p, 0, 0] : Fin 4 → ℕ) a + S1x1x32x128.size a ≤ S1x16x32x128.size a}
    {i2 : ∀ a : Fin 3, S1x32x128.size a = 0 ∨ (![14, t, 0] : Fin 3 → ℕ) a + (![1, 4, 1] : Fin 3 → ℕ) a * (S1x32x128.size a - 1) < S15x512x128.size a}
    {i3 : ∀ a : Fin 3, 0 < (![1, 4, 1] : Fin 3 → ℕ) a}
    (hp : p < 16) (ht : t = 128 * (p % 4) + p / 4) :
    Agrees x4 x5 x7 x8 ⟨{ off := ![14, t, 0], size := S1x32x128.size, stride := ![1, 4, 1], inb := i2, stride_pos := i3 },
      k0_pay145 (View.readAt (Elt Ideal) m.view (Rect.unit (s := S1x16x32x128) ![0, p, 0, 0] S1x1x32x128.size i1).toLoadRect (hm.unread x8))⟩ := by
  intro y
  obtain ⟨k, l, rfl⟩ := idx32 y
  have e := pay145_at (View.readAt (Elt Ideal) m.view (Rect.unit (s := S1x16x32x128) ![0, p, 0, 0] S1x1x32x128.size i1).toLoadRect (hm.unread x8)) k l
  refine Eq.trans e ?_
  show _ = gS x4 x5 x7 x8 (14 + 1 * 0) (t + 4 * k.val) (0 + 1 * l.val)
  have hk := k.isLt
  have h1 : (t + 4 * k.val) / 128 = p % 4 := by omega
  have h2 : (t + 4 * k.val) % 4 = p / 4 := by omega
  have h3 : (t + 4 * k.val) % 128 / 4 = k.val := by omega
  rw [hm.readAt_unread, gS, if_neg (by omega), if_neg (by omega), if_neg (by omega), if_neg (by omega), if_neg (by omega), h1, h2, h3]
  refine congrArg x8 (funext fun a => Fin.ext ?_)
  fin_cases a <;> simp [LoadRect.idx_apply, ix4, Fin.ofNat] <;> omega

/-- A residue's rows put back in sequence order. -/
theorem agC {c g : ℕ} {v : Vec Ideal S1x128x128 .f32}
    {i2 : ∀ a : Fin 3, S1x128x128.size a = 0 ∨ (![c, g, 0] : Fin 3 → ℕ) a + (![1, 4, 1] : Fin 3 → ℕ) a * (S1x128x128.size a - 1) < S15x512x128.size a}
    {i3 : ∀ a : Fin 3, 0 < (![1, 4, 1] : Fin 3 → ℕ) a}
    (hc : 5 ≤ c ∧ c < 10) (hg : g < 4)
    (hv : ∀ k l : Fin 128, v (ix3 0 k l) = gS x4 x5 x7 x8 (c + 5) (128 * g + k.val) l.val) :
    Agrees x4 x5 x7 x8 ⟨{ off := ![c, g, 0], size := S1x128x128.size, stride := ![1, 4, 1], inb := i2, stride_pos := i3 },
      k0_pay54 v⟩ := by
  intro y
  obtain ⟨k, l, rfl⟩ := idx128 y
  refine Eq.trans (pay54_at v k l) ((hv k l).trans ?_)
  show _ = gS x4 x5 x7 x8 (c + 1 * 0) (g + 4 * k.val) (0 + 1 * l.val)
  have hk := k.isLt
  have h1 : (128 * g + k.val) / 128 = g := by omega
  have h2 : (128 * g + k.val) % 4 = k.val % 4 := by omega
  have h3 : (128 * g + k.val) % 128 / 4 = k.val / 4 := by omega
  by_cases h : c < 9
  · rw [gS, if_neg (by omega), if_neg (by omega), if_neg (by omega), if_neg (by omega), if_pos (by omega), h1, h2, h3,
      gS, if_neg (by omega), if_neg (by omega), if_pos (by omega)]
    refine congrArg x5 (funext fun a => Fin.ext ?_)
    fin_cases a <;> simp [ix4, Fin.ofNat] <;> omega
  · rw [gS, if_neg (by omega), if_neg (by omega), if_neg (by omega), if_neg (by omega), if_neg (by omega), h1, h2, h3,
      gS, if_neg (by omega), if_neg (by omega), if_neg (by omega), if_pos (by omega)]
    refine congrArg x8 (funext fun a => Fin.ext ?_)
    fin_cases a <;> simp [ix4, Fin.ofNat] <;> omega

/-- The stores of a list all agree with the function. -/
def AllAgree (L : List (View.Piece (Elt Ideal) S15x512x128 .f32)) : Prop := ∀ p ∈ L, Agrees x4 x5 x7 x8 p

theorem AllAgree.nil : AllAgree x4 x5 x7 x8 [] := fun p h => absurd h List.not_mem_nil

variable {x4 x5 x7 x8}

theorem AllAgree.cons {p : View.Piece (Elt Ideal) S15x512x128 .f32} {L : List (View.Piece (Elt Ideal) S15x512x128 .f32)}
    (h : Agrees x4 x5 x7 x8 p) (hL : AllAgree x4 x5 x7 x8 L) : AllAgree x4 x5 x7 x8 (p :: L) :=
  List.forall_mem_cons.2 ⟨h, hL⟩

/-- A load of `n` rows of slab `c` from row `b`, which four strided stores cover. -/
theorem load_at {L : List (View.Piece (Elt Ideal) S15x512x128 .f32)} (hL : AllAgree x4 x5 x7 x8 L)
    (v : View sig .tc .vmem S15x512x128 .f32) {c b n : ℕ} {size sz : Fin 3 → ℕ}
    {i1 : ∀ a, (![c, b, 0] : Fin 3 → ℕ) a + size a ≤ S15x512x128.size a}
    (hz : size = ![1, 4 * n, 128]) (hs : sz = ![1, n, 128])
    (hp : ∀ r : Fin 4, ∃ p ∈ L, p.1.off = ![c, b + r.val, 0] ∧ p.1.stride = ![1, 4, 1] ∧ p.1.size = sz)
    (y : (Rect.unit (s := S15x512x128) ![c, b, 0] size i1).shape.Idx) :
    View.readCov v L (Rect.unit (s := S15x512x128) ![c, b, 0] size i1).toLoadRect y
      = gS x4 x5 x7 x8 (c + 1 * (y 0).val) (b + 1 * (y 1).val) (0 + 1 * (y 2).val) := by
  subst hz hs
  rw [View.readCov_eq_canon']
  have h0 : (y 0).val < 1 := (y 0).isLt
  have h1 : (y 1).val < 4 * n := (y 1).isLt
  have h2 : (y 2).val < 128 := (y 2).isLt
  refine View.canon_apply_of_pieces (Val := Elt Ideal) (S := S15x512x128) (e := .f32)
    (fun z => gS x4 x5 x7 x8 (z 0).val (z 1).val (z 2).val) L (fun p hp x => hL p hp x) _ ?_
  obtain ⟨p, hm, ho, ht, hz⟩ := hp ⟨(y 1).val % 4, by omega⟩
  refine ⟨p, hm, (LoadRect.mem_set _).2 fun a => ?_⟩
  rw [ho, ht, hz]
  fin_cases a
  · exact ⟨0, Nat.one_pos, by show c + 1 * (y 0).val = c + 1 * 0; omega⟩
  · refine ⟨(y 1).val / 4, ?_, ?_⟩
    · show (y 1).val / 4 < n
      omega
    · show b + 1 * (y 1).val = b + (y 1).val % 4 + 4 * ((y 1).val / 4)
      omega
  · exact ⟨(y 2).val, h2, rfl⟩

/-- Some store of the list writes `sz` rows of slab `c`, every fourth from row `t`. -/
def Has (L : List (View.Piece (Elt Ideal) S15x512x128 .f32)) (c t : ℕ) (sz : Fin 3 → ℕ) : Prop :=
  ∃ p ∈ L, p.1.off = ![c, t, 0] ∧ p.1.stride = ![1, 4, 1] ∧ p.1.size = sz

theorem has_at {L : List (View.Piece (Elt Ideal) S15x512x128 .f32)} {c t : ℕ} {sz : Fin 3 → ℕ} (k : ℕ)
    {p : View.Piece (Elt Ideal) S15x512x128 .f32} (h : L[k]? = some p) (ho : p.1.off = ![c, t, 0])
    (ht : p.1.stride = ![1, 4, 1]) (hz : p.1.size = sz) : Has L c t sz :=
  ⟨p, List.mem_of_getElem? h, ho, ht, hz⟩

theorem load128 {L : List (View.Piece (Elt Ideal) S15x512x128 .f32)} (hL : AllAgree x4 x5 x7 x8 L)
    {v : View sig .tc .vmem S15x512x128 .f32} {c b : ℕ} (g : ℕ) (hb : b = 128 * g)
    {i1 : ∀ a, (![c, b, 0] : Fin 3 → ℕ) a + S1x128x128.size a ≤ S15x512x128.size a}
    (h0 : Has L c b S1x32x128.size) (h1 : Has L c (b + 1) S1x32x128.size) (h2 : Has L c (b + 2) S1x32x128.size)
    (h3 : Has L c (b + 3) S1x32x128.size) (k l : Fin 128) :
    View.readCov v L (Rect.unit (s := S15x512x128) ![c, b, 0] S1x128x128.size i1).toLoadRect (ix3 (n0 := 1) 0 k l)
      = gS x4 x5 x7 x8 c (128 * g + k.val) l.val := by
  refine (load_at hL v (n := 32) rfl rfl (fun r => ?_) (ix3 (n0 := 1) 0 k l)).trans ?_
  · fin_cases r
    exacts [h0, h1, h2, h3]
  · subst hb
    show gS x4 x5 x7 x8 (c + 1 * 0) (128 * g + 1 * k.val) (0 + 1 * l.val) = _
    rw [Nat.mul_zero, Nat.add_zero, Nat.one_mul, Nat.one_mul, Nat.zero_add]

theorem load512 {L : List (View.Piece (Elt Ideal) S15x512x128 .f32)} (hL : AllAgree x4 x5 x7 x8 L)
    {v : View sig .tc .vmem S15x512x128 .f32} {c : ℕ}
    {i1 : ∀ a, (![c, 0, 0] : Fin 3 → ℕ) a + S1x512x128.size a ≤ S15x512x128.size a}
    (h0 : Has L c 0 S1x128x128.size) (h1 : Has L c 1 S1x128x128.size) (h2 : Has L c 2 S1x128x128.size)
    (h3 : Has L c 3 S1x128x128.size) (k : Fin 512) (l : Fin 128) :
    View.readCov v L (Rect.unit (s := S15x512x128) ![c, 0, 0] S1x512x128.size i1).toLoadRect (ix3 (n0 := 1) 0 k l)
      = gS x4 x5 x7 x8 c k.val l.val := by
  refine (load_at hL v (n := 128) rfl rfl (fun r => ?_) (ix3 (n0 := 1) 0 k l)).trans ?_
  · fin_cases r
    exacts [h0, h1, h2, h3]
  · show gS x4 x5 x7 x8 (c + 1 * 0) (0 + 1 * k.val) (0 + 1 * l.val) = _
    rw [Nat.mul_zero, Nat.add_zero, Nat.one_mul, Nat.one_mul, Nat.zero_add, Nat.zero_add]

end

section
variable (c : Dev nD)
  (arg6 : Memref sig .tc .vmem S1x4x128x512 .bf16) (harg6 : arg6.IsWhole)
  (arg7 : Memref sig .tc .vmem S1x16x32x512 .bf16) (harg7 : arg7.IsWhole)
  (arg9 : Memref sig .tc .vmem S1x4x128x128 .f32) (harg9 : arg9.IsWhole)
  (arg10 : Memref sig .tc .vmem S1x16x32x128 .f32) (harg10 : arg10.IsWhole)
  (arg17 : Memref sig .tc .vmem S15x512x128 .f32)
  (x4 : Vec Ideal S1x4x128x512 .bf16) (x5 : Vec Ideal S1x16x32x512 .bf16)
  (x7 : Vec Ideal S1x4x128x128 .f32) (x8 : Vec Ideal S1x16x32x128 .f32)

include c arg6 harg6 arg7 harg7 arg9 harg9 arg10 harg10 arg17 x4 x5 x7 x8

theorem a17 : AllAgree x4 x5 x7 x8 (kernelRun0_A.sl.HS0_17 (F := Ideal) c arg6 harg6 arg9 harg9 x4 x7) := by
  refine .cons (agL x4 x5 x7 x8 (r := 0) (by decide)) ?_
  refine .cons (agO x4 x5 x7 x8 (c := 3) (r := 3) (o := 384) (by decide) (by decide) (by decide)) ?_
  refine .cons (agO x4 x5 x7 x8 (c := 3) (r := 2) (o := 384) (by decide) (by decide) (by decide)) ?_
  refine .cons (agO x4 x5 x7 x8 (c := 3) (r := 1) (o := 384) (by decide) (by decide) (by decide)) ?_
  refine .cons (agO x4 x5 x7 x8 (c := 3) (r := 0) (o := 384) (by decide) (by decide) (by decide)) ?_
  refine .cons (agO x4 x5 x7 x8 (c := 2) (r := 3) (o := 256) (by decide) (by decide) (by decide)) ?_
  refine .cons (agO x4 x5 x7 x8 (c := 2) (r := 2) (o := 256) (by decide) (by decide) (by decide)) ?_
  refine .cons (agO x4 x5 x7 x8 (c := 2) (r := 1) (o := 256) (by decide) (by decide) (by decide)) ?_
  refine .cons (agO x4 x5 x7 x8 (c := 2) (r := 0) (o := 256) (by decide) (by decide) (by decide)) ?_
  refine .cons (agO x4 x5 x7 x8 (c := 1) (r := 3) (o := 128) (by decide) (by decide) (by decide)) ?_
  refine .cons (agO x4 x5 x7 x8 (c := 1) (r := 2) (o := 128) (by decide) (by decide) (by decide)) ?_
  refine .cons (agO x4 x5 x7 x8 (c := 1) (r := 1) (o := 128) (by decide) (by decide) (by decide)) ?_
  refine .cons (agO x4 x5 x7 x8 (c := 1) (r := 0) (o := 128) (by decide) (by decide) (by decide)) ?_
  refine .cons (agO x4 x5 x7 x8 (c := 0) (r := 3) (o := 0) (by decide) (by decide) (by decide)) ?_
  refine .cons (agO x4 x5 x7 x8 (c := 0) (r := 2) (o := 0) (by decide) (by decide) (by decide)) ?_
  refine .cons (agO x4 x5 x7 x8 (c := 0) (r := 1) (o := 0) (by decide) (by decide) (by decide)) ?_
  refine .cons (agO x4 x5 x7 x8 (c := 0) (r := 0) (o := 0) (by decide) (by decide) (by decide)) ?_
  exact .nil _ _ _ _

theorem a18 : AllAgree x4 x5 x7 x8 (kernelRun0_A.sl.HS0_18 (F := Ideal) c arg6 harg6 arg9 harg9 x4 x7) := by
  refine .cons (agL x4 x5 x7 x8 (r := 1) (by decide)) ?_
  exact a17 c arg6 harg6 arg7 harg7 arg9 harg9 arg10 harg10 arg17 x4 x5 x7 x8

theorem a19 : AllAgree x4 x5 x7 x8 (kernelRun0_A.sl.HS0_19 (F := Ideal) c arg6 harg6 arg9 harg9 x4 x7) := by
  refine .cons (agL x4 x5 x7 x8 (r := 2) (by decide)) ?_
  exact a18 c arg6 harg6 arg7 harg7 arg9 harg9 arg10 harg10 arg17 x4 x5 x7 x8

theorem a20 : AllAgree x4 x5 x7 x8 (kernelRun0_A.sl.HS0_20 (F := Ideal) c arg6 harg6 arg9 harg9 x4 x7) := by
  refine .cons (agL x4 x5 x7 x8 (r := 3) (by decide)) ?_
  exact a19 c arg6 harg6 arg7 harg7 arg9 harg9 arg10 harg10 arg17 x4 x5 x7 x8

theorem a36 : AllAgree x4 x5 x7 x8 (kernelRun0_A.sl.HS0_36 (F := Ideal) c arg6 harg6 arg7 harg7 arg9 harg9 x4 x5 x7) := by
  refine .cons (agP x4 x5 x7 x8 (c := 10) (p := 15) (o := 0) (t := 387) (by decide) (by decide) (by decide) (by decide)) ?_
  refine .cons (agP x4 x5 x7 x8 (c := 10) (p := 11) (o := 0) (t := 386) (by decide) (by decide) (by decide) (by decide)) ?_
  refine .cons (agP x4 x5 x7 x8 (c := 10) (p := 7) (o := 0) (t := 385) (by decide) (by decide) (by decide) (by decide)) ?_
  refine .cons (agP x4 x5 x7 x8 (c := 10) (p := 3) (o := 0) (t := 384) (by decide) (by decide) (by decide) (by decide)) ?_
  refine .cons (agP x4 x5 x7 x8 (c := 10) (p := 14) (o := 0) (t := 259) (by decide) (by decide) (by decide) (by decide)) ?_
  refine .cons (agP x4 x5 x7 x8 (c := 10) (p := 10) (o := 0) (t := 258) (by decide) (by decide) (by decide) (by decide)) ?_
  refine .cons (agP x4 x5 x7 x8 (c := 10) (p := 6) (o := 0) (t := 257) (by decide) (by decide) (by decide) (by decide)) ?_
  refine .cons (agP x4 x5 x7 x8 (c := 10) (p := 2) (o := 0) (t := 256) (by decide) (by decide) (by decide) (by decide)) ?_
  refine .cons (agP x4 x5 x7 x8 (c := 10) (p := 13) (o := 0) (t := 131) (by decide) (by decide) (by decide) (by decide)) ?_
  refine .cons (agP x4 x5 x7 x8 (c := 10) (p := 9) (o := 0) (t := 130) (by decide) (by decide) (by decide) (by decide)) ?_
  refine .cons (agP x4 x5 x7 x8 (c := 10) (p := 5) (o := 0) (t := 129) (by decide) (by decide) (by decide) (by decide)) ?_
  refine .cons (agP x4 x5 x7 x8 (c := 10) (p := 1) (o := 0) (t := 128) (by decide) (by decide) (by decide) (by decide)) ?_
  refine .cons (agP x4 x5 x7 x8 (c := 10) (p := 12) (o := 0) (t := 3) (by decide) (by decide) (by decide) (by decide)) ?_
  refine .cons (agP x4 x5 x7 x8 (c := 10) (p := 8) (o := 0) (t := 2) (by decide) (by decide) (by decide) (by decide)) ?_
  refine .cons (agP x4 x5 x7 x8 (c := 10) (p := 4) (o := 0) (t := 1) (by decide) (by decide) (by decide) (by decide)) ?_
  refine .cons (agP x4 x5 x7 x8 (c := 10) (p := 0) (o := 0) (t := 0) (by decide) (by decide) (by decide) (by decide)) ?_
  exact a20 c arg6 harg6 arg7 harg7 arg9 harg9 arg10 harg10 arg17 x4 x5 x7 x8

theorem a37 : AllAgree x4 x5 x7 x8 (kernelRun0_A.sl.HS0_37 (F := Ideal) c arg6 harg6 arg7 harg7 arg9 harg9 arg17 x4 x5 x7) := by
  refine .cons (agC x4 x5 x7 x8 (c := 5) (g := 0) (by decide) (by decide)
    (load128 (a36 c arg6 harg6 arg7 harg7 arg9 harg9 arg10 harg10 arg17 x4 x5 x7 x8) 0 rfl
      (has_at 15 rfl rfl rfl rfl) (has_at 14 rfl rfl rfl rfl) (has_at 13 rfl rfl rfl rfl) (has_at 12 rfl rfl rfl rfl))) ?_
  exact a36 c arg6 harg6 arg7 harg7 arg9 harg9 arg10 harg10 arg17 x4 x5 x7 x8

theorem a38 : AllAgree x4 x5 x7 x8 (kernelRun0_A.sl.HS0_38 (F := Ideal) c arg6 harg6 arg7 harg7 arg9 harg9 arg17 x4 x5 x7) := by
  refine .cons (agC x4 x5 x7 x8 (c := 5) (g := 1) (by decide) (by decide)
    (load128 (a37 c arg6 harg6 arg7 harg7 arg9 harg9 arg10 harg10 arg17 x4 x5 x7 x8) 1 rfl
      (has_at 12 rfl rfl rfl rfl) (has_at 11 rfl rfl rfl rfl) (has_at 10 rfl rfl rfl rfl) (has_at 9 rfl rfl rfl rfl))) ?_
  exact a37 c arg6 harg6 arg7 harg7 arg9 harg9 arg10 harg10 arg17 x4 x5 x7 x8

theorem a39 : AllAgree x4 x5 x7 x8 (kernelRun0_A.sl.HS0_39 (F := Ideal) c arg6 harg6 arg7 harg7 arg9 harg9 arg17 x4 x5 x7) := by
  refine .cons (agC x4 x5 x7 x8 (c := 5) (g := 2) (by decide) (by decide)
    (load128 (a38 c arg6 harg6 arg7 harg7 arg9 harg9 arg10 harg10 arg17 x4 x5 x7 x8) 2 rfl
      (has_at 9 rfl rfl rfl rfl) (has_at 8 rfl rfl rfl rfl) (has_at 7 rfl rfl rfl rfl) (has_at 6 rfl rfl rfl rfl))) ?_
  exact a38 c arg6 harg6 arg7 harg7 arg9 harg9 arg10 harg10 arg17 x4 x5 x7 x8

theorem a56 : AllAgree x4 x5 x7 x8 (kernelRun0_A.sl.HS0_56 (F := Ideal) c arg6 harg6 arg7 harg7 arg9 harg9 arg17 x4 x5 x7) := by
  refine .cons (agP x4 x5 x7 x8 (c := 11) (p := 15) (o := 128) (t := 387) (by decide) (by decide) (by decide) (by decide)) ?_
  refine .cons (agP x4 x5 x7 x8 (c := 11) (p := 11) (o := 128) (t := 386) (by decide) (by decide) (by decide) (by decide)) ?_
  refine .cons (agP x4 x5 x7 x8 (c := 11) (p := 7) (o := 128) (t := 385) (by decide) (by decide) (by decide) (by decide)) ?_
  refine .cons (agP x4 x5 x7 x8 (c := 11) (p := 3) (o := 128) (t := 384) (by decide) (by decide) (by decide) (by decide)) ?_
  refine .cons (agP x4 x5 x7 x8 (c := 11) (p := 14) (o := 128) (t := 259) (by decide) (by decide) (by decide) (by decide)) ?_
  refine .cons (agP x4 x5 x7 x8 (c := 11) (p := 10) (o := 128) (t := 258) (by decide) (by decide) (by decide) (by decide)) ?_
  refine .cons (agP x4 x5 x7 x8 (c := 11) (p := 6) (o := 128) (t := 257) (by decide) (by decide) (by decide) (by decide)) ?_
  refine .cons (agP x4 x5 x7 x8 (c := 11) (p := 2) (o := 128) (t := 256) (by decide) (by decide) (by decide) (by decide)) ?_
  refine .cons (agP x4 x5 x7 x8 (c := 11) (p := 13) (o := 128) (t := 131) (by decide) (by decide) (by decide) (by decide)) ?_
  refine .cons (agP x4 x5 x7 x8 (c := 11) (p := 9) (o := 128) (t := 130) (by decide) (by decide) (by decide) (by decide)) ?_
  refine .cons (agP x4 x5 x7 x8 (c := 11) (p := 5) (o := 128) (t := 129) (by decide) (by decide) (by decide) (by decide)) ?_
  refine .cons (agP x4 x5 x7 x8 (c := 11) (p := 1) (o := 128) (t := 128) (by decide) (by decide) (by decide) (by decide)) ?_
  refine .cons (agP x4 x5 x7 x8 (c := 11) (p := 12) (o := 128) (t := 3) (by decide) (by decide) (by decide) (by decide)) ?_
  refine .cons (agP x4 x5 x7 x8 (c := 11) (p := 8) (o := 128) (t := 2) (by decide) (by decide) (by decide) (by decide)) ?_
  refine .cons (agP x4 x5 x7 x8 (c := 11) (p := 4) (o := 128) (t := 1) (by decide) (by decide) (by decide) (by decide)) ?_
  refine .cons (agP x4 x5 x7 x8 (c := 11) (p := 0) (o := 128) (t := 0) (by decide) (by decide) (by decide) (by decide)) ?_
  refine .cons (agC x4 x5 x7 x8 (c := 5) (g := 3) (by decide) (by decide)
    (load128 (a39 c arg6 harg6 arg7 harg7 arg9 harg9 arg10 harg10 arg17 x4 x5 x7 x8) 3 rfl
      (has_at 6 rfl rfl rfl rfl) (has_at 5 rfl rfl rfl rfl) (has_at 4 rfl rfl rfl rfl) (has_at 3 rfl rfl rfl rfl))) ?_
  exact a39 c arg6 harg6 arg7 harg7 arg9 harg9 arg10 harg10 arg17 x4 x5 x7 x8

theorem a57 : AllAgree x4 x5 x7 x8 (kernelRun0_A.sl.HS0_57 (F := Ideal) c arg6 harg6 arg7 harg7 arg9 harg9 arg17 x4 x5 x7) := by
  refine .cons (agC x4 x5 x7 x8 (c := 6) (g := 0) (by decide) (by decide)
    (load128 (a56 c arg6 harg6 arg7 harg7 arg9 harg9 arg10 harg10 arg17 x4 x5 x7 x8) 0 rfl
      (has_at 15 rfl rfl rfl rfl) (has_at 14 rfl rfl rfl rfl) (has_at 13 rfl rfl rfl rfl) (has_at 12 rfl rfl rfl rfl))) ?_
  exact a56 c arg6 harg6 arg7 harg7 arg9 harg9 arg10 harg10 arg17 x4 x5 x7 x8

theorem a58 : AllAgree x4 x5 x7 x8 (kernelRun0_A.sl.HS0_58 (F := Ideal) c arg6 harg6 arg7 harg7 arg9 harg9 arg17 x4 x5 x7) := by
  refine .cons (agC x4 x5 x7 x8 (c := 6) (g := 1) (by decide) (by decide)
    (load128 (a57 c arg6 harg6 arg7 harg7 arg9 harg9 arg10 harg10 arg17 x4 x5 x7 x8) 1 rfl
      (has_at 12 rfl rfl rfl rfl) (has_at 11 rfl rfl rfl rfl) (has_at 10 rfl rfl rfl rfl) (has_at 9 rfl rfl rfl rfl))) ?_
  exact a57 c arg6 harg6 arg7 harg7 arg9 harg9 arg10 harg10 arg17 x4 x5 x7 x8

theorem a59 : AllAgree x4 x5 x7 x8 (kernelRun0_A.sl.HS0_59 (F := Ideal) c arg6 harg6 arg7 harg7 arg9 harg9 arg17 x4 x5 x7) := by
  refine .cons (agC x4 x5 x7 x8 (c := 6) (g := 2) (by decide) (by decide)
    (load128 (a58 c arg6 harg6 arg7 harg7 arg9 harg9 arg10 harg10 arg17 x4 x5 x7 x8) 2 rfl
      (has_at 9 rfl rfl rfl rfl) (has_at 8 rfl rfl rfl rfl) (has_at 7 rfl rfl rfl rfl) (has_at 6 rfl rfl rfl rfl))) ?_
  exact a58 c arg6 harg6 arg7 harg7 arg9 harg9 arg10 harg10 arg17 x4 x5 x7 x8

theorem a76 : AllAgree x4 x5 x7 x8 (kernelRun0_A.sl.HS0_76 (F := Ideal) c arg6 harg6 arg7 harg7 arg9 harg9 arg17 x4 x5 x7) := by
  refine .cons (agP x4 x5 x7 x8 (c := 12) (p := 15) (o := 256) (t := 387) (by decide) (by decide) (by decide) (by decide)) ?_
  refine .cons (agP x4 x5 x7 x8 (c := 12) (p := 11) (o := 256) (t := 386) (by decide) (by decide) (by decide) (by decide)) ?_
  refine .cons (agP x4 x5 x7 x8 (c := 12) (p := 7) (o := 256) (t := 385) (by decide) (by decide) (by decide) (by decide)) ?_
  refine .cons (agP x4 x5 x7 x8 (c := 12) (p := 3) (o := 256) (t := 384) (by decide) (by decide) (by decide) (by decide)) ?_
  refine .cons (agP x4 x5 x7 x8 (c := 12) (p := 14) (o := 256) (t := 259) (by decide) (by decide) (by decide) (by decide)) ?_
  refine .cons (agP x4 x5 x7 x8 (c := 12) (p := 10) (o := 256) (t := 258) (by decide) (by decide) (by decide) (by decide)) ?_
  refine .cons (agP x4 x5 x7 x8 (c := 12) (p := 6) (o := 256) (t := 257) (by decide) (by decide) (by decide) (by decide)) ?_
  refine .cons (agP x4 x5 x7 x8 (c := 12) (p := 2) (o := 256) (t := 256) (by decide) (by decide) (by decide) (by decide)) ?_
  refine .cons (agP x4 x5 x7 x8 (c := 12) (p := 13) (o := 256) (t := 131) (by decide) (by decide) (by decide) (by decide)) ?_
  refine .cons (agP x4 x5 x7 x8 (c := 12) (p := 9) (o := 256) (t := 130) (by decide) (by decide) (by decide) (by decide)) ?_
  refine .cons (agP x4 x5 x7 x8 (c := 12) (p := 5) (o := 256) (t := 129) (by decide) (by decide) (by decide) (by decide)) ?_
  refine .cons (agP x4 x5 x7 x8 (c := 12) (p := 1) (o := 256) (t := 128) (by decide) (by decide) (by decide) (by decide)) ?_
  refine .cons (agP x4 x5 x7 x8 (c := 12) (p := 12) (o := 256) (t := 3) (by decide) (by decide) (by decide) (by decide)) ?_
  refine .cons (agP x4 x5 x7 x8 (c := 12) (p := 8) (o := 256) (t := 2) (by decide) (by decide) (by decide) (by decide)) ?_
  refine .cons (agP x4 x5 x7 x8 (c := 12) (p := 4) (o := 256) (t := 1) (by decide) (by decide) (by decide) (by decide)) ?_
  refine .cons (agP x4 x5 x7 x8 (c := 12) (p := 0) (o := 256) (t := 0) (by decide) (by decide) (by decide) (by decide)) ?_
  refine .cons (agC x4 x5 x7 x8 (c := 6) (g := 3) (v := kernelRun0_A.sl.v384 (F := Ideal) c arg6 harg6 arg7 harg7 arg9 harg9 arg17 x4 x5 x7) (by decide) (by decide)
    (load128 (a59 c arg6 harg6 arg7 harg7 arg9 harg9 arg10 harg10 arg17 x4 x5 x7 x8) 3 rfl
      (has_at 6 rfl rfl rfl rfl) (has_at 5 rfl rfl rfl rfl) (has_at 4 rfl rfl rfl rfl) (has_at 3 rfl rfl rfl rfl))) ?_
  exact a59 c arg6 harg6 arg7 harg7 arg9 harg9 arg10 harg10 arg17 x4 x5 x7 x8

theorem a77 : AllAgree x4 x5 x7 x8 (kernelRun0_A.sl.HS0_77 (F := Ideal) c arg6 harg6 arg7 harg7 arg9 harg9 arg17 x4 x5 x7) := by
  refine .cons (agC x4 x5 x7 x8 (c := 7) (g := 0) (v := kernelRun0_A.sl.v485 (F := Ideal) c arg6 harg6 arg7 harg7 arg9 harg9 arg17 x4 x5 x7) (by decide) (by decide)
    (load128 (a76 c arg6 harg6 arg7 harg7 arg9 harg9 arg10 harg10 arg17 x4 x5 x7 x8) 0 rfl
      (has_at 15 rfl rfl rfl rfl) (has_at 14 rfl rfl rfl rfl) (has_at 13 rfl rfl rfl rfl) (has_at 12 rfl rfl rfl rfl))) ?_
  exact a76 c arg6 harg6 arg7 harg7 arg9 harg9 arg10 harg10 arg17 x4 x5 x7 x8

theorem a78 : AllAgree x4 x5 x7 x8 (kernelRun0_A.sl.HS0_78 (F := Ideal) c arg6 harg6 arg7 harg7 arg9 harg9 arg17 x4 x5 x7) := by
  refine .cons (agC x4 x5 x7 x8 (c := 7) (g := 1) (by decide) (by decide)
    (load128 (a77 c arg6 harg6 arg7 harg7 arg9 harg9 arg10 harg10 arg17 x4 x5 x7 x8) 1 rfl
      (has_at 12 rfl rfl rfl rfl) (has_at 11 rfl rfl rfl rfl) (has_at 10 rfl rfl rfl rfl) (has_at 9 rfl rfl rfl rfl))) ?_
  exact a77 c arg6 harg6 arg7 harg7 arg9 harg9 arg10 harg10 arg17 x4 x5 x7 x8

theorem a79 : AllAgree x4 x5 x7 x8 (kernelRun0_A.sl.HS0_79 (F := Ideal) c arg6 harg6 arg7 harg7 arg9 harg9 arg17 x4 x5 x7) := by
  refine .cons (agC x4 x5 x7 x8 (c := 7) (g := 2) (by decide) (by decide)
    (load128 (a78 c arg6 harg6 arg7 harg7 arg9 harg9 arg10 harg10 arg17 x4 x5 x7 x8) 2 rfl
      (has_at 9 rfl rfl rfl rfl) (has_at 8 rfl rfl rfl rfl) (has_at 7 rfl rfl rfl rfl) (has_at 6 rfl rfl rfl rfl))) ?_
  exact a78 c arg6 harg6 arg7 harg7 arg9 harg9 arg10 harg10 arg17 x4 x5 x7 x8

theorem a96 : AllAgree x4 x5 x7 x8 (kernelRun0_A.sl.HS0_96 (F := Ideal) c arg6 harg6 arg7 harg7 arg9 harg9 arg17 x4 x5 x7) := by
  refine .cons (agP x4 x5 x7 x8 (c := 13) (p := 15) (o := 384) (t := 387) (by decide) (by decide) (by decide) (by decide)) ?_
  refine .cons (agP x4 x5 x7 x8 (c := 13) (p := 11) (o := 384) (t := 386) (by decide) (by decide) (by decide) (by decide)) ?_
  refine .cons (agP x4 x5 x7 x8 (c := 13) (p := 7) (o := 384) (t := 385) (by decide) (by decide) (by decide) (by decide)) ?_
  refine .cons (agP x4 x5 x7 x8 (c := 13) (p := 3) (o := 384) (t := 384) (by decide) (by decide) (by decide) (by decide)) ?_
  refine .cons (agP x4 x5 x7 x8 (c := 13) (p := 14) (o := 384) (t := 259) (by decide) (by decide) (by decide) (by decide)) ?_
  refine .cons (agP x4 x5 x7 x8 (c := 13) (p := 10) (o := 384) (t := 258) (by decide) (by decide) (by decide) (by decide)) ?_
  refine .cons (agP x4 x5 x7 x8 (c := 13) (p := 6) (o := 384) (t := 257) (by decide) (by decide) (by decide) (by decide)) ?_
  refine .cons (agP x4 x5 x7 x8 (c := 13) (p := 2) (o := 384) (t := 256) (by decide) (by decide) (by decide) (by decide)) ?_
  refine .cons (agP x4 x5 x7 x8 (c := 13) (p := 13) (o := 384) (t := 131) (by decide) (by decide) (by decide) (by decide)) ?_
  refine .cons (agP x4 x5 x7 x8 (c := 13) (p := 9) (o := 384) (t := 130) (by decide) (by decide) (by decide) (by decide)) ?_
  refine .cons (agP x4 x5 x7 x8 (c := 13) (p := 5) (o := 384) (t := 129) (by decide) (by decide) (by decide) (by decide)) ?_
  refine .cons (agP x4 x5 x7 x8 (c := 13) (p := 1) (o := 384) (t := 128) (by decide) (by decide) (by decide) (by decide)) ?_
  refine .cons (agP x4 x5 x7 x8 (c := 13) (p := 12) (o := 384) (t := 3) (by decide) (by decide) (by decide) (by decide)) ?_
  refine .cons (agP x4 x5 x7 x8 (c := 13) (p := 8) (o := 384) (t := 2) (by decide) (by decide) (by decide) (by decide)) ?_
  refine .cons (agP x4 x5 x7 x8 (c := 13) (p := 4) (o := 384) (t := 1) (by decide) (by decide) (by decide) (by decide)) ?_
  refine .cons (agP x4 x5 x7 x8 (c := 13) (p := 0) (o := 384) (t := 0) (by decide) (by decide) (by decide) (by decide)) ?_
  refine .cons (agC x4 x5 x7 x8 (c := 7) (g := 3) (by decide) (by decide)
    (load128 (a79 c arg6 harg6 arg7 harg7 arg9 harg9 arg10 harg10 arg17 x4 x5 x7 x8) 3 rfl
      (has_at 6 rfl rfl rfl rfl) (has_at 5 rfl rfl rfl rfl) (has_at 4 rfl rfl rfl rfl) (has_at 3 rfl rfl rfl rfl))) ?_
  exact a79 c arg6 harg6 arg7 harg7 arg9 harg9 arg10 harg10 arg17 x4 x5 x7 x8

theorem a97 : AllAgree x4 x5 x7 x8 (kernelRun0_A.sl.HS0_97 (F := Ideal) c arg6 harg6 arg7 harg7 arg9 harg9 arg17 x4 x5 x7) := by
  refine .cons (agC x4 x5 x7 x8 (c := 8) (g := 0) (by decide) (by decide)
    (load128 (a96 c arg6 harg6 arg7 harg7 arg9 harg9 arg10 harg10 arg17 x4 x5 x7 x8) 0 rfl
      (has_at 15 rfl rfl rfl rfl) (has_at 14 rfl rfl rfl rfl) (has_at 13 rfl rfl rfl rfl) (has_at 12 rfl rfl rfl rfl))) ?_
  exact a96 c arg6 harg6 arg7 harg7 arg9 harg9 arg10 harg10 arg17 x4 x5 x7 x8

theorem a98 : AllAgree x4 x5 x7 x8 (kernelRun0_A.sl.HS0_98 (F := Ideal) c arg6 harg6 arg7 harg7 arg9 harg9 arg17 x4 x5 x7) := by
  refine .cons (agC x4 x5 x7 x8 (c := 8) (g := 1) (by decide) (by decide)
    (load128 (a97 c arg6 harg6 arg7 harg7 arg9 harg9 arg10 harg10 arg17 x4 x5 x7 x8) 1 rfl
      (has_at 12 rfl rfl rfl rfl) (has_at 11 rfl rfl rfl rfl) (has_at 10 rfl rfl rfl rfl) (has_at 9 rfl rfl rfl rfl))) ?_
  exact a97 c arg6 harg6 arg7 harg7 arg9 harg9 arg10 harg10 arg17 x4 x5 x7 x8

theorem a99 : AllAgree x4 x5 x7 x8 (kernelRun0_A.sl.HS0_99 (F := Ideal) c arg6 harg6 arg7 harg7 arg9 harg9 arg17 x4 x5 x7) := by
  refine .cons (agC x4 x5 x7 x8 (c := 8) (g := 2) (by decide) (by decide)
    (load128 (a98 c arg6 harg6 arg7 harg7 arg9 harg9 arg10 harg10 arg17 x4 x5 x7 x8) 2 rfl
      (has_at 9 rfl rfl rfl rfl) (has_at 8 rfl rfl rfl rfl) (has_at 7 rfl rfl rfl rfl) (has_at 6 rfl rfl rfl rfl))) ?_
  exact a98 c arg6 harg6 arg7 harg7 arg9 harg9 arg10 harg10 arg17 x4 x5 x7 x8

theorem a101 : AllAgree x4 x5 x7 x8 (kernelRun0_A.sl.HS0_101 (F := Ideal) c arg6 harg6 arg7 harg7 arg9 harg9 arg10 harg10 arg17 x4 x5 x7 x8) := by
  refine .cons (agM x4 x5 x7 x8 (p := 0) (t := 0) (by decide) (by decide)) ?_
  refine .cons (agC x4 x5 x7 x8 (c := 8) (g := 3) (by decide) (by decide)
    (load128 (a99 c arg6 harg6 arg7 harg7 arg9 harg9 arg10 harg10 arg17 x4 x5 x7 x8) 3 rfl
      (has_at 6 rfl rfl rfl rfl) (has_at 5 rfl rfl rfl rfl) (has_at 4 rfl rfl rfl rfl) (has_at 3 rfl rfl rfl rfl))) ?_
  exact a99 c arg6 harg6 arg7 harg7 arg9 harg9 arg10 harg10 arg17 x4 x5 x7 x8

theorem a102 : AllAgree x4 x5 x7 x8 (kernelRun0_A.sl.HS0_102 (F := Ideal) c arg6 harg6 arg7 harg7 arg9 harg9 arg10 harg10 arg17 x4 x5 x7 x8) := by
  refine .cons (agM x4 x5 x7 x8 (p := 4) (t := 1) (by decide) (by decide)) ?_
  exact a101 c arg6 harg6 arg7 harg7 arg9 harg9 arg10 harg10 arg17 x4 x5 x7 x8

theorem a103 : AllAgree x4 x5 x7 x8 (kernelRun0_A.sl.HS0_103 (F := Ideal) c arg6 harg6 arg7 harg7 arg9 harg9 arg10 harg10 arg17 x4 x5 x7 x8) := by
  refine .cons (agM x4 x5 x7 x8 (p := 8) (t := 2) (by decide) (by decide)) ?_
  exact a102 c arg6 harg6 arg7 harg7 arg9 harg9 arg10 harg10 arg17 x4 x5 x7 x8

theorem a105 : AllAgree x4 x5 x7 x8 (kernelRun0_A.sl.HS0_105 (F := Ideal) c arg6 harg6 arg7 harg7 arg9 harg9 arg10 harg10 arg17 x4 x5 x7 x8) := by
  refine .cons (agM x4 x5 x7 x8 (p := 1) (t := 128) (by decide) (by decide)) ?_
  refine .cons (agM x4 x5 x7 x8 (p := 12) (t := 3) (by decide) (by decide)) ?_
  exact a103 c arg6 harg6 arg7 harg7 arg9 harg9 arg10 harg10 arg17 x4 x5 x7 x8

theorem a106 : AllAgree x4 x5 x7 x8 (kernelRun0_A.sl.HS0_106 (F := Ideal) c arg6 harg6 arg7 harg7 arg9 harg9 arg10 harg10 arg17 x4 x5 x7 x8) := by
  refine .cons (agM x4 x5 x7 x8 (p := 5) (t := 129) (by decide) (by decide)) ?_
  exact a105 c arg6 harg6 arg7 harg7 arg9 harg9 arg10 harg10 arg17 x4 x5 x7 x8

theorem a107 : AllAgree x4 x5 x7 x8 (kernelRun0_A.sl.HS0_107 (F := Ideal) c arg6 harg6 arg7 harg7 arg9 harg9 arg10 harg10 arg17 x4 x5 x7 x8) := by
  refine .cons (agM x4 x5 x7 x8 (p := 9) (t := 130) (by decide) (by decide)) ?_
  exact a106 c arg6 harg6 arg7 harg7 arg9 harg9 arg10 harg10 arg17 x4 x5 x7 x8

theorem a109 : AllAgree x4 x5 x7 x8 (kernelRun0_A.sl.HS0_109 (F := Ideal) c arg6 harg6 arg7 harg7 arg9 harg9 arg10 harg10 arg17 x4 x5 x7 x8) := by
  refine .cons (agM x4 x5 x7 x8 (p := 2) (t := 256) (by decide) (by decide)) ?_
  refine .cons (agM x4 x5 x7 x8 (p := 13) (t := 131) (by decide) (by decide)) ?_
  exact a107 c arg6 harg6 arg7 harg7 arg9 harg9 arg10 harg10 arg17 x4 x5 x7 x8

theorem a110 : AllAgree x4 x5 x7 x8 (kernelRun0_A.sl.HS0_110 (F := Ideal) c arg6 harg6 arg7 harg7 arg9 harg9 arg10 harg10 arg17 x4 x5 x7 x8) := by
  refine .cons (agM x4 x5 x7 x8 (p := 6) (t := 257) (by decide) (by decide)) ?_
  exact a109 c arg6 harg6 arg7 harg7 arg9 harg9 arg10 harg10 arg17 x4 x5 x7 x8

theorem a111 : AllAgree x4 x5 x7 x8 (kernelRun0_A.sl.HS0_111 (F := Ideal) c arg6 harg6 arg7 harg7 arg9 harg9 arg10 harg10 arg17 x4 x5 x7 x8) := by
  refine .cons (agM x4 x5 x7 x8 (p := 10) (t := 258) (by decide) (by decide)) ?_
  exact a110 c arg6 harg6 arg7 harg7 arg9 harg9 arg10 harg10 arg17 x4 x5 x7 x8

theorem a113 : AllAgree x4 x5 x7 x8 (kernelRun0_A.sl.HS0_113 (F := Ideal) c arg6 harg6 arg7 harg7 arg9 harg9 arg10 harg10 arg17 x4 x5 x7 x8) := by
  refine .cons (agM x4 x5 x7 x8 (p := 3) (t := 384) (by decide) (by decide)) ?_
  refine .cons (agM x4 x5 x7 x8 (p := 14) (t := 259) (by decide) (by decide)) ?_
  exact a111 c arg6 harg6 arg7 harg7 arg9 harg9 arg10 harg10 arg17 x4 x5 x7 x8

theorem a114 : AllAgree x4 x5 x7 x8 (kernelRun0_A.sl.HS0_114 (F := Ideal) c arg6 harg6 arg7 harg7 arg9 harg9 arg10 harg10 arg17 x4 x5 x7 x8) := by
  refine .cons (agM x4 x5 x7 x8 (p := 7) (t := 385) (by decide) (by decide)) ?_
  exact a113 c arg6 harg6 arg7 harg7 arg9 harg9 arg10 harg10 arg17 x4 x5 x7 x8

theorem a115 : AllAgree x4 x5 x7 x8 (kernelRun0_A.sl.HS0_115 (F := Ideal) c arg6 harg6 arg7 harg7 arg9 harg9 arg10 harg10 arg17 x4 x5 x7 x8) := by
  refine .cons (agM x4 x5 x7 x8 (p := 11) (t := 386) (by decide) (by decide)) ?_
  exact a114 c arg6 harg6 arg7 harg7 arg9 harg9 arg10 harg10 arg17 x4 x5 x7 x8

theorem a116 : AllAgree x4 x5 x7 x8 (kernelRun0_A.sl.HS0_116 (F := Ideal) c arg6 harg6 arg7 harg7 arg9 harg9 arg10 harg10 arg17 x4 x5 x7 x8) := by
  refine .cons (agM x4 x5 x7 x8 (p := 15) (t := 387) (by decide) (by decide)) ?_
  exact a115 c arg6 harg6 arg7 harg7 arg9 harg9 arg10 harg10 arg17 x4 x5 x7 x8

theorem a117 : AllAgree x4 x5 x7 x8 (kernelRun0_A.sl.HS0_117 (F := Ideal) c arg6 harg6 arg7 harg7 arg9 harg9 arg10 harg10 arg17 x4 x5 x7 x8) := by
  refine .cons (agC x4 x5 x7 x8 (c := 9) (g := 0) (by decide) (by decide)
    (load128 (a116 c arg6 harg6 arg7 harg7 arg9 harg9 arg10 harg10 arg17 x4 x5 x7 x8) 0 rfl
      (has_at 15 rfl rfl rfl rfl) (has_at 14 rfl rfl rfl rfl) (has_at 13 rfl rfl rfl rfl) (has_at 12 rfl rfl rfl rfl))) ?_
  exact a116 c arg6 harg6 arg7 harg7 arg9 harg9 arg10 harg10 arg17 x4 x5 x7 x8

theorem a118 : AllAgree x4 x5 x7 x8 (kernelRun0_A.sl.HS0_118 (F := Ideal) c arg6 harg6 arg7 harg7 arg9 harg9 arg10 harg10 arg17 x4 x5 x7 x8) := by
  refine .cons (agC x4 x5 x7 x8 (c := 9) (g := 1) (by decide) (by decide)
    (load128 (a117 c arg6 harg6 arg7 harg7 arg9 harg9 arg10 harg10 arg17 x4 x5 x7 x8) 1 rfl
      (has_at 12 rfl rfl rfl rfl) (has_at 11 rfl rfl rfl rfl) (has_at 10 rfl rfl rfl rfl) (has_at 9 rfl rfl rfl rfl))) ?_
  exact a117 c arg6 harg6 arg7 harg7 arg9 harg9 arg10 harg10 arg17 x4 x5 x7 x8

theorem a119 : AllAgree x4 x5 x7 x8 (kernelRun0_A.sl.HS0_119 (F := Ideal) c arg6 harg6 arg7 harg7 arg9 harg9 arg10 harg10 arg17 x4 x5 x7 x8) := by
  refine .cons (agC x4 x5 x7 x8 (c := 9) (g := 2) (by decide) (by decide)
    (load128 (a118 c arg6 harg6 arg7 harg7 arg9 harg9 arg10 harg10 arg17 x4 x5 x7 x8) 2 rfl
      (has_at 9 rfl rfl rfl rfl) (has_at 8 rfl rfl rfl rfl) (has_at 7 rfl rfl rfl rfl) (has_at 6 rfl rfl rfl rfl))) ?_
  exact a118 c arg6 harg6 arg7 harg7 arg9 harg9 arg10 harg10 arg17 x4 x5 x7 x8

theorem a120 : AllAgree x4 x5 x7 x8 (kernelRun0_A.sl.HS0_120 (F := Ideal) c arg6 harg6 arg7 harg7 arg9 harg9 arg10 harg10 arg17 x4 x5 x7 x8) := by
  refine .cons (agC x4 x5 x7 x8 (c := 9) (g := 3) (by decide) (by decide)
    (load128 (a119 c arg6 harg6 arg7 harg7 arg9 harg9 arg10 harg10 arg17 x4 x5 x7 x8) 3 rfl
      (has_at 6 rfl rfl rfl rfl) (has_at 5 rfl rfl rfl rfl) (has_at 4 rfl rfl rfl rfl) (has_at 3 rfl rfl rfl rfl))) ?_
  exact a119 c arg6 harg6 arg7 harg7 arg9 harg9 arg10 harg10 arg17 x4 x5 x7 x8

theorem v147_at (k : Fin 512) (l : Fin 128) :
    kernelRun0_A.sl.v147 (F := Ideal) c arg6 harg6 arg9 harg9 arg17 x4 x7 (ix3 0 k l) = gS x4 x5 x7 x8 0 k.val l.val :=
  load512 (a20 c arg6 harg6 arg7 harg7 arg9 harg9 arg10 harg10 arg17 x4 x5 x7 x8)
    (has_at 19 rfl rfl rfl rfl) (has_at 18 rfl rfl rfl rfl) (has_at 17 rfl rfl rfl rfl) (has_at 16 rfl rfl rfl rfl) k l

theorem v149_at (k : Fin 512) (l : Fin 128) :
    kernelRun0_A.sl.v149 (F := Ideal) c arg6 harg6 arg9 harg9 arg17 x4 x7 (ix3 0 k l) = gS x4 x5 x7 x8 1 k.val l.val :=
  load512 (a20 c arg6 harg6 arg7 harg7 arg9 harg9 arg10 harg10 arg17 x4 x5 x7 x8)
    (has_at 15 rfl rfl rfl rfl) (has_at 14 rfl rfl rfl rfl) (has_at 13 rfl rfl rfl rfl) (has_at 12 rfl rfl rfl rfl) k l

theorem v151_at (k : Fin 512) (l : Fin 128) :
    kernelRun0_A.sl.v151 (F := Ideal) c arg6 harg6 arg9 harg9 arg17 x4 x7 (ix3 0 k l) = gS x4 x5 x7 x8 2 k.val l.val :=
  load512 (a20 c arg6 harg6 arg7 harg7 arg9 harg9 arg10 harg10 arg17 x4 x5 x7 x8)
    (has_at 11 rfl rfl rfl rfl) (has_at 10 rfl rfl rfl rfl) (has_at 9 rfl rfl rfl rfl) (has_at 8 rfl rfl rfl rfl) k l

theorem v153_at (k : Fin 512) (l : Fin 128) :
    kernelRun0_A.sl.v153 (F := Ideal) c arg6 harg6 arg9 harg9 arg17 x4 x7 (ix3 0 k l) = gS x4 x5 x7 x8 3 k.val l.val :=
  load512 (a20 c arg6 harg6 arg7 harg7 arg9 harg9 arg10 harg10 arg17 x4 x5 x7 x8)
    (has_at 7 rfl rfl rfl rfl) (has_at 6 rfl rfl rfl rfl) (has_at 5 rfl rfl rfl rfl) (has_at 4 rfl rfl rfl rfl) k l

theorem v155_at (k : Fin 512) (l : Fin 128) :
    kernelRun0_A.sl.v155 (F := Ideal) c arg6 harg6 arg9 harg9 arg17 x4 x7 (ix3 0 k l) = gS x4 x5 x7 x8 4 k.val l.val :=
  load512 (a20 c arg6 harg6 arg7 harg7 arg9 harg9 arg10 harg10 arg17 x4 x5 x7 x8)
    (has_at 3 rfl rfl rfl rfl) (has_at 2 rfl rfl rfl rfl) (has_at 1 rfl rfl rfl rfl) (has_at 0 rfl rfl rfl rfl) k l

theorem v721_at (k : Fin 512) (l : Fin 128) :
    kernelRun0_A.sl.v721 (F := Ideal) c arg6 harg6 arg7 harg7 arg9 harg9 arg10 harg10 arg17 x4 x5 x7 x8 (ix3 0 k l) = gS x4 x5 x7 x8 5 k.val l.val :=
  load512 (a120 c arg6 harg6 arg7 harg7 arg9 harg9 arg10 harg10 arg17 x4 x5 x7 x8)
    (has_at 83 rfl rfl rfl rfl) (has_at 82 rfl rfl rfl rfl) (has_at 81 rfl rfl rfl rfl) (has_at 80 rfl rfl rfl rfl) k l

theorem v723_at (k : Fin 512) (l : Fin 128) :
    kernelRun0_A.sl.v723 (F := Ideal) c arg6 harg6 arg7 harg7 arg9 harg9 arg10 harg10 arg17 x4 x5 x7 x8 (ix3 0 k l) = gS x4 x5 x7 x8 6 k.val l.val :=
  load512 (a120 c arg6 harg6 arg7 harg7 arg9 harg9 arg10 harg10 arg17 x4 x5 x7 x8)
    (has_at 63 rfl rfl rfl rfl) (has_at 62 rfl rfl rfl rfl) (has_at 61 rfl rfl rfl rfl) (has_at 60 rfl rfl rfl rfl) k l

theorem v725_at (k : Fin 512) (l : Fin 128) :
    kernelRun0_A.sl.v725 (F := Ideal) c arg6 harg6 arg7 harg7 arg9 harg9 arg10 harg10 arg17 x4 x5 x7 x8 (ix3 0 k l) = gS x4 x5 x7 x8 7 k.val l.val :=
  load512 (a120 c arg6 harg6 arg7 harg7 arg9 harg9 arg10 harg10 arg17 x4 x5 x7 x8)
    (has_at 43 rfl rfl rfl rfl) (has_at 42 rfl rfl rfl rfl) (has_at 41 rfl rfl rfl rfl) (has_at 40 rfl rfl rfl rfl) k l

theorem v727_at (k : Fin 512) (l : Fin 128) :
    kernelRun0_A.sl.v727 (F := Ideal) c arg6 harg6 arg7 harg7 arg9 harg9 arg10 harg10 arg17 x4 x5 x7 x8 (ix3 0 k l) = gS x4 x5 x7 x8 8 k.val l.val :=
  load512 (a120 c arg6 harg6 arg7 harg7 arg9 harg9 arg10 harg10 arg17 x4 x5 x7 x8)
    (has_at 23 rfl rfl rfl rfl) (has_at 22 rfl rfl rfl rfl) (has_at 21 rfl rfl rfl rfl) (has_at 20 rfl rfl rfl rfl) k l

theorem v729_at (k : Fin 512) (l : Fin 128) :
    kernelRun0_A.sl.v729 (F := Ideal) c arg6 harg6 arg7 harg7 arg9 harg9 arg10 harg10 arg17 x4 x5 x7 x8 (ix3 0 k l) = gS x4 x5 x7 x8 9 k.val l.val :=
  load512 (a120 c arg6 harg6 arg7 harg7 arg9 harg9 arg10 harg10 arg17 x4 x5 x7 x8)
    (has_at 3 rfl rfl rfl rfl) (has_at 2 rfl rfl rfl rfl) (has_at 1 rfl rfl rfl rfl) (has_at 0 rfl rfl rfl rfl) k l

end

end Cert.Proof.KM
-- ==== Proof.MergeBody.lean ====
/-
  What the payloads of the merge's kernel read at an index.
-/
module

public import proofs.«01_k».proof.Proof.MergeSpec
public import proofs.«01_k».proof.Proof.MergeScratch

@[expose] public section

set_option maxRecDepth 16384
set_option maxHeartbeats 1000000

noncomputable section

namespace Cert.Proof.KM

open Idealize.ShloMosaic Idealize.ShloMosaic.TcCoe Idealize.SL.Sem
open Cert.Kernel3Ideal Cert.Kernel3Ideal.Gen

theorem pay3_at (v0 : Vec Ideal S1x512x1024 .f32) (v2 : Vec Ideal S1x1024 .f32) (r : Fin 512) (k : Fin 1024) :
    k0_pay3 (F := Ideal) v0 v2 (ix2 r k) = hrow (fun i => v0 (ix3 0 r i)) (fun i => v2 (ix2 0 i)) k := by
  pointwise [k0_pay2, k0_pay3, hrow]

theorem pay164_at (h : FVec Ideal S512x1024 .bf16) (w : Vec Ideal S1024x1024 .bf16) (b : Vec Ideal S1x1024 .f32) (r : Fin 512) (k : Fin 1024) :
    k0_pay164 (F := Ideal) h w b (ix2 r k) = gateT ((∑ i : Fin 1024, h (ix2 r i) * w (ix2 i k)) + b (ix2 0 k)) := by
  pointwise [k0_pay164, gateT]

theorem pay163_at (h : FVec Ideal S512x1024 .bf16) (a : Vec Ideal S1x512x512 .bf16) (w : Vec Ideal S1024x1024 .bf16) (b : Vec Ideal S1x1024 .f32)
    (wb : Vec Ideal S1x512x1024 .bf16) (r : Fin 512) (k : Fin 1024) :
    k0_pay163 (F := Ideal) h a w b wb (ix2 r k) = gateT ((∑ i : Fin 1024, h (ix2 r i) * w (ix2 i k)) + b (ix2 0 k))
      * ∑ j : Fin 512, a (ix3 0 r j) * wb (ix3 0 j k) := by
  pointwise [k0_pay163, gateT]

theorem pay165_at (ob : FVec Ideal S512x512 .bf16) (p g : FVec Ideal S512x1024 .f32)
    (wb : Vec Ideal S1x512x1024 .bf16) (r : Fin 512) (k : Fin 1024) :
    k0_pay165 (F := Ideal) ob p g wb (ix2 r k) = p (ix2 r k) + g (ix2 r k) * ∑ j : Fin 512, ob (ix2 r j) * wb (ix3 0 j k) := by
  pointwise [k0_pay165]

theorem pay162_at (a : Vec Ideal S1x512x512 .bf16) (r j : Fin 512) : k0_pay162 (F := Ideal) a (ix2 r j) = a (ix3 0 r j) := by
  pointwise [k0_pay162]

theorem pay1_at (x : FVec Ideal S512x1024 .f32) (om : FVec Ideal S512x512 .bf16) (p g : FVec Ideal S512x1024 .f32)
    (wb : Vec Ideal S1x512x1024 .bf16) (wo : Vec Ideal S1024x1024 .bf16) (r : Fin 512) (k : Fin 1024) :
    k0_pay1 (F := Ideal) x om p g wb wo (ix3 0 r k) = x (ix2 r k) + ∑ i : Fin 1024,
      (p (ix2 r i) + g (ix2 r i) * ∑ j : Fin 512, om (ix2 r j) * wb (ix3 0 j i)) * wo (ix2 i k) := by
  pointwise [k0_pay1]

theorem ob_at (v19 v22 v25 v28 v148 v150 v152 v154 v722 v724 v726 v728 v30 v156 : FVec Ideal S512x128 .f32)
    (v729 : Vec Ideal S1x512x128 .f32) (r : Fin 512) (A0 A1 A2 : Fin 512 → EReal) (L0 L1 L2 : Fin 4 → EReal)
    (a0 : ∀ d : Fin 128, v19 (ix2 r d) = A0 ⟨d.val, by omega⟩) (a1 : ∀ d : Fin 128, v22 (ix2 r d) = A0 ⟨128 + d.val, by omega⟩)
    (a2 : ∀ d : Fin 128, v25 (ix2 r d) = A0 ⟨256 + d.val, by omega⟩) (a3 : ∀ d : Fin 128, v28 (ix2 r d) = A0 ⟨384 + d.val, by omega⟩)
    (b0 : ∀ d : Fin 128, v148 (ix2 r d) = A1 ⟨d.val, by omega⟩) (b1 : ∀ d : Fin 128, v150 (ix2 r d) = A1 ⟨128 + d.val, by omega⟩)
    (b2 : ∀ d : Fin 128, v152 (ix2 r d) = A1 ⟨256 + d.val, by omega⟩) (b3 : ∀ d : Fin 128, v154 (ix2 r d) = A1 ⟨384 + d.val, by omega⟩)
    (c0 : ∀ d : Fin 128, v722 (ix2 r d) = A2 ⟨d.val, by omega⟩) (c1 : ∀ d : Fin 128, v724 (ix2 r d) = A2 ⟨128 + d.val, by omega⟩)
    (c2 : ∀ d : Fin 128, v726 (ix2 r d) = A2 ⟨256 + d.val, by omega⟩) (c3 : ∀ d : Fin 128, v728 (ix2 r d) = A2 ⟨384 + d.val, by omega⟩)
    (l0 : ∀ h : Fin 4, v30 (ix2 r ⟨32 * h.val, by omega⟩) = L0 h) (l1 : ∀ h : Fin 4, v156 (ix2 r ⟨32 * h.val, by omega⟩) = L1 h)
    (l2 : ∀ h : Fin 4, v729 (ix3 0 r ⟨32 * h.val, by omega⟩) = L2 h) (j : Fin 512) :
    k0_pay161 (F := Ideal) v19 v22 v25 v28 v148 v150 v152 v154 v722 v724 v726 v728 (k0_pay157 v30 v156 v729) (k0_pay158 v30 v156 v729)
      (k0_pay159 v30 v156 v729) (k0_pay160 v30 v156 v729) (ix2 r j)
      = mixK (L0 ⟨j.val / 128, by omega⟩) (L1 ⟨j.val / 128, by omega⟩) (L2 ⟨j.val / 128, by omega⟩) (A0 j) (A1 j) (A2 j) := by
  have p0 : v30 (ix2 r 0) = L0 0 := l0 0
  have p1 : v30 (ix2 r 32) = L0 1 := l0 1
  have p2 : v30 (ix2 r 64) = L0 2 := l0 2
  have p3 : v30 (ix2 r 96) = L0 3 := l0 3
  have q0 : v156 (ix2 r 0) = L1 0 := l1 0
  have q1 : v156 (ix2 r 32) = L1 1 := l1 1
  have q2 : v156 (ix2 r 64) = L1 2 := l1 2
  have q3 : v156 (ix2 r 96) = L1 3 := l1 3
  have s0 : v729 (ix3 0 r 0) = L2 0 := l2 0
  have s1 : v729 (ix3 0 r 32) = L2 1 := l2 1
  have s2 : v729 (ix3 0 r 64) = L2 2 := l2 2
  have s3 : v729 (ix3 0 r 96) = L2 3 := l2 3
  pointwise [k0_pay161, k0_pay160, k0_pay159, k0_pay158, k0_pay157, k0_pay156, k0_pay155]
  have hj := j.isLt
  by_cases h0 : j.val < 128
  · rw [dif_pos h0, a0, b0, c0, p0, q0, s0, show (⟨j.val / 128, by omega⟩ : Fin 4) = 0 from Fin.ext (by show j.val / 128 = 0; omega)]
    rfl
  · rw [dif_neg h0]
    by_cases h1 : j.val - 128 < 128
    · rw [dif_pos h1, a1, b1, c1, p1, q1, s1, show (⟨j.val / 128, by omega⟩ : Fin 4) = 1 from Fin.ext (by show j.val / 128 = 1; omega)]
      rw [show (⟨128 + (j.val - 128), by omega⟩ : Fin 512) = j from Fin.ext (by show 128 + (j.val - 128) = j.val; omega)]
      rfl
    · rw [dif_neg h1]
      by_cases h2 : j.val - 128 - 128 < 128
      · rw [dif_pos h2, a2, b2, c2, p2, q2, s2, show (⟨j.val / 128, by omega⟩ : Fin 4) = 2 from Fin.ext (by show j.val / 128 = 2; omega)]
        rw [show (⟨256 + (j.val - 128 - 128), by omega⟩ : Fin 512) = j from Fin.ext (by show 256 + (j.val - 128 - 128) = j.val; omega)]
        rfl
      · rw [dif_neg h2, a3, b3, c3, p3, q3, s3, show (⟨j.val / 128, by omega⟩ : Fin 4) = 3 from Fin.ext (by show j.val / 128 = 3; omega)]
        rw [show (⟨384 + (j.val - 128 - 128 - 128), by omega⟩ : Fin 512) = j from Fin.ext (by show 384 + (j.val - 128 - 128 - 128) = j.val; omega)]
        rfl

theorem pay4_at (v : Vec Ideal S1x1x512x128 .bf16) (r : Fin 512) (d : Fin 128) : k0_pay4 (F := Ideal) v (ix2 r d) = v (ix4 0 0 r d) := by
  pointwise [k0_pay4]
theorem pay8_at (v : Vec Ideal S1x1x512x128 .f32) (r : Fin 512) (d : Fin 128) : k0_pay8 (F := Ideal) v (ix2 r d) = v (ix4 0 0 r d) := by
  pointwise [k0_pay8]
theorem pay151_at (v : Vec Ideal S1x512x128 .f32) (r : Fin 512) (d : Fin 128) : k0_pay151 (F := Ideal) v (ix2 r d) = v (ix3 0 r d) := by
  pointwise [k0_pay151]
theorem pay2_at (v : Vec Ideal S1x512x1024 .f32) (r : Fin 512) (k : Fin 1024) : k0_pay2 (F := Ideal) v (ix2 r k) = v (ix3 0 r k) := by
  pointwise [k0_pay2]

section
variable (x4 : Vec Ideal S1x4x128x512 .bf16) (x5 : Vec Ideal S1x16x32x512 .bf16)
  (x7 : Vec Ideal S1x4x128x128 .f32) (x8 : Vec Ideal S1x16x32x128 .f32)

theorem gS_o {s : ℕ} (hs : s < 4) (r : Fin 512) (d : Fin 128) : gS x4 x5 x7 x8 s r.val d.val
    = x4 (ix4 0 ⟨r.val % 4, by omega⟩ ⟨r.val / 4, by omega⟩ ⟨128 * s + d.val, by omega⟩) := by
  rw [gS, if_pos hs]
  refine congrArg x4 (funext fun a => Fin.ext ?_)
  fin_cases a <;> simp [ix4, Fin.ofNat] <;> omega
theorem gS_l (r : Fin 512) (d : Fin 128) : gS x4 x5 x7 x8 4 r.val d.val
    = x7 (ix4 0 ⟨r.val % 4, by omega⟩ ⟨r.val / 4, by omega⟩ d) := by
  rw [gS, if_neg (by omega), if_pos rfl]
  refine congrArg x7 (funext fun a => Fin.ext ?_)
  fin_cases a <;> simp [ix4, Fin.ofNat] <;> omega
theorem gS_p {s : ℕ} (h : ℕ) (hs : s = 5 + h) (hh : h < 4) (r : Fin 512) (d : Fin 128) : gS x4 x5 x7 x8 s r.val d.val
    = x5 (ix4 0 ⟨r.val % 16, by omega⟩ ⟨r.val / 16, by omega⟩ ⟨128 * h + d.val, by omega⟩) := by
  rw [gS, if_neg (by omega), if_neg (by omega), if_pos (by omega)]
  refine congrArg x5 (funext fun a => Fin.ext ?_)
  fin_cases a <;> simp [ix4, Fin.ofNat] <;> omega
theorem gS_m (r : Fin 512) (d : Fin 128) : gS x4 x5 x7 x8 9 r.val d.val
    = x8 (ix4 0 ⟨r.val % 16, by omega⟩ ⟨r.val / 16, by omega⟩ d) := by
  rw [gS, if_neg (by omega), if_neg (by omega), if_neg (by omega), if_pos rfl]
  refine congrArg x8 (funext fun a => Fin.ext ?_)
  fin_cases a <;> simp [ix4, Fin.ofNat] <;> omega
end

theorem rd3 (m : Memref sig .tc .vmem S1x1x512x512 .bf16) (hm : m.IsWhole) (x : Vec Ideal S1x1x512x512 .bf16) {o : ℕ} (ho : o + 128 ≤ 512)
    (i1 : ∀ a, (![0, 0, 0, o] : Fin 4 → ℕ) a + S1x1x512x128.size a ≤ S1x1x512x512.size a) (r : Fin 512) (d : Fin 128) :
    View.readAt (Elt Ideal) m.view (Rect.unit (s := S1x1x512x512) ![0, 0, 0, o] S1x1x512x128.size i1).toLoadRect (hm.unread x) (ix4 0 0 r d)
      = x (ix4 0 0 r ⟨o + d.val, by omega⟩) := by
  rw [hm.readAt_unread]
  refine congrArg x (funext fun a => Fin.ext ?_)
  fin_cases a <;> simp [LoadRect.idx_apply, ix4]
theorem rd6 (m : Memref sig .tc .vmem S1x1x512x128 .f32) (hm : m.IsWhole) (x : Vec Ideal S1x1x512x128 .f32)
    (i1 : ∀ a, (![0, 0, 0, 0] : Fin 4 → ℕ) a + S1x1x512x128.size a ≤ S1x1x512x128.size a) (r : Fin 512) (d : Fin 128) :
    View.readAt (Elt Ideal) m.view (Rect.unit (s := S1x1x512x128) ![0, 0, 0, 0] S1x1x512x128.size i1).toLoadRect (hm.unread x) (ix4 0 0 r d)
      = x (ix4 0 0 r d) := by
  rw [hm.readAt_unread]
  refine congrArg x (funext fun a => Fin.ext ?_)
  fin_cases a <;> simp [LoadRect.idx_apply, ix4]
theorem rd0 (m : Memref sig .tc .vmem S1x512x1024 .f32) (hm : m.IsWhole) (x : Vec Ideal S1x512x1024 .f32)
    (i1 : ∀ a, (![0, 0, 0] : Fin 3 → ℕ) a + S1x512x1024.size a ≤ S1x512x1024.size a) (r : Fin 512) (k : Fin 1024) :
    View.readAt (Elt Ideal) m.view (Rect.unit (s := S1x512x1024) ![0, 0, 0] S1x512x1024.size i1).toLoadRect (hm.unread x) (ix3 0 r k)
      = x (ix3 0 r k) := by
  rw [hm.readAt_unread]
  refine congrArg x (funext fun a => Fin.ext ?_)
  fin_cases a <;> simp [LoadRect.idx_apply, ix2, ix3]
theorem rd1 (m : Memref sig .tc .vmem S1x1024 .f32) (hm : m.IsWhole) (x : Vec Ideal S1x1024 .f32)
    (i1 : ∀ a, (![0, 0] : Fin 2 → ℕ) a + S1x1024.size a ≤ S1x1024.size a) (k : Fin 1024) :
    View.readAt (Elt Ideal) m.view (Rect.unit (s := S1x1024) ![0, 0] S1x1024.size i1).toLoadRect (hm.unread x) (ix2 0 k)
      = x (ix2 0 k) := by
  rw [hm.readAt_unread]
  refine congrArg x (funext fun a => Fin.ext ?_)
  fin_cases a <;> simp [LoadRect.idx_apply, ix2, ix3]
theorem rd2 (m : Memref sig .tc .vmem S1x512x512 .bf16) (hm : m.IsWhole) (x : Vec Ideal S1x512x512 .bf16)
    (i1 : ∀ a, (![0, 0, 0] : Fin 3 → ℕ) a + S1x512x512.size a ≤ S1x512x512.size a) (r j : Fin 512) :
    View.readAt (Elt Ideal) m.view (Rect.unit (s := S1x512x512) ![0, 0, 0] S1x512x512.size i1).toLoadRect (hm.unread x) (ix3 0 r j)
      = x (ix3 0 r j) := by
  rw [hm.readAt_unread]
  refine congrArg x (funext fun a => Fin.ext ?_)
  fin_cases a <;> simp [LoadRect.idx_apply, ix2, ix3]
theorem rd10 (m : Memref sig .tc .vmem S1024x3072 .bf16) (hm : m.IsWhole) (x : Vec Ideal S1024x3072 .bf16) {o : ℕ} (ho : o + 1024 ≤ 3072)
    (i1 : ∀ a, (![0, o] : Fin 2 → ℕ) a + S1024x1024.size a ≤ S1024x3072.size a) (c i : Fin 1024) :
    View.readAt (Elt Ideal) m.view (Rect.unit (s := S1024x3072) ![0, o] S1024x1024.size i1).toLoadRect (hm.unread x) (ix2 c i)
      = x (ix2 c ⟨o + i.val, by omega⟩) := by
  rw [hm.readAt_unread]
  refine congrArg x (funext fun a => Fin.ext ?_)
  fin_cases a <;> simp [LoadRect.idx_apply, ix2, ix3]
theorem rd11 (m : Memref sig .tc .vmem S3x1024 .f32) (hm : m.IsWhole) (x : Vec Ideal S3x1024 .f32) {g : ℕ} (hg : g < 3)
    (i1 : ∀ a, (![g, 0] : Fin 2 → ℕ) a + S1x1024.size a ≤ S3x1024.size a) (i : Fin 1024) :
    View.readAt (Elt Ideal) m.view (Rect.unit (s := S3x1024) ![g, 0] S1x1024.size i1).toLoadRect (hm.unread x) (ix2 0 i)
      = x (ix2 ⟨g, hg⟩ i) := by
  rw [hm.readAt_unread]
  refine congrArg x (funext fun a => Fin.ext ?_)
  fin_cases a <;> simp [LoadRect.idx_apply, ix2, ix3]
theorem rd12 (m : Memref sig .tc .vmem S3x512x1024 .bf16) (hm : m.IsWhole) (x : Vec Ideal S3x512x1024 .bf16) {g : ℕ} (hg : g < 3)
    (i1 : ∀ a, (![g, 0, 0] : Fin 3 → ℕ) a + S1x512x1024.size a ≤ S3x512x1024.size a) (j : Fin 512) (i : Fin 1024) :
    View.readAt (Elt Ideal) m.view (Rect.unit (s := S3x512x1024) ![g, 0, 0] S1x512x1024.size i1).toLoadRect (hm.unread x) (ix3 0 j i)
      = x (ix3 ⟨g, hg⟩ j i) := by
  rw [hm.readAt_unread]
  refine congrArg x (funext fun a => Fin.ext ?_)
  fin_cases a <;> simp [LoadRect.idx_apply, ix2, ix3]
theorem rd13 (m : Memref sig .tc .vmem S1024x1024 .bf16) (hm : m.IsWhole) (x : Vec Ideal S1024x1024 .bf16)
    (i1 : ∀ a, (![0, 0] : Fin 2 → ℕ) a + S1024x1024.size a ≤ S1024x1024.size a) (c i : Fin 1024) :
    View.readAt (Elt Ideal) m.view (Rect.unit (s := S1024x1024) ![0, 0] S1024x1024.size i1).toLoadRect (hm.unread x) (ix2 c i)
      = x (ix2 c i) := by
  rw [hm.readAt_unread]
  refine congrArg x (funext fun a => Fin.ext ?_)
  fin_cases a <;> simp [LoadRect.idx_apply, ix2, ix3]

section
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x512x512 .bf16) (harg4 : arg4.IsWhole) (arg5 : Memref sig .tc .vmem S1x1x512x512 .bf16) (harg5 : arg5.IsWhole) (arg6 : Memref sig .tc .vmem S1x4x128x512 .bf16) (harg6 : arg6.IsWhole) (arg7 : Memref sig .tc .vmem S1x16x32x512 .bf16) (harg7 : arg7.IsWhole) (arg8 : Memref sig .tc .vmem S1x1x512x128 .f32) (harg8 : arg8.IsWhole) (arg9 : Memref sig .tc .vmem S1x4x128x128 .f32) (harg9 : arg9.IsWhole) (arg10 : Memref sig .tc .vmem S1x16x32x128 .f32) (harg10 : arg10.IsWhole) (arg11 : Memref sig .tc .vmem S1x512x512 .bf16) (harg11 : arg11.IsWhole) (arg12 : Memref sig .tc .vmem S1024x3072 .bf16) (harg12 : arg12.IsWhole) (arg13 : Memref sig .tc .vmem S3x1024 .f32) (harg13 : arg13.IsWhole) (arg14 : Memref sig .tc .vmem S3x512x1024 .bf16) (harg14 : arg14.IsWhole) (arg15 : Memref sig .tc .vmem S1024x1024 .bf16) (harg15 : arg15.IsWhole) (arg16 : Memref sig .tc .vmem S1x512x1024 .f32) (harg16 : arg16.IsWhole) (arg17 : Memref sig .tc .vmem S15x512x128 .f32) (harg17 : arg17.IsWhole)
    (x0 : Vec Ideal S1x512x1024 .f32) (x1 : Vec Ideal S1x1024 .f32) (x2 : Vec Ideal S1x512x512 .bf16) (x3 : Vec Ideal S1x1x512x512 .bf16) (x4 : Vec Ideal S1x4x128x512 .bf16) (x5 : Vec Ideal S1x16x32x512 .bf16) (x6 : Vec Ideal S1x1x512x128 .f32) (x7 : Vec Ideal S1x4x128x128 .f32) (x8 : Vec Ideal S1x16x32x128 .f32) (x9 : Vec Ideal S1x512x512 .bf16) (x10 : Vec Ideal S1024x3072 .bf16) (x11 : Vec Ideal S3x1024 .f32) (x12 : Vec Ideal S3x512x1024 .bf16) (x13 : Vec Ideal S1024x1024 .bf16)

/-- The mixture of the groups' outputs. -/
theorem mix_at (r j : Fin 512) :
    kernelRun0_A.sl.r_31 (F := Ideal) c arg5 harg5 arg6 harg6 arg7 harg7 arg8 harg8 arg9 harg9 arg10 harg10 arg17 x3 x4 x5 x6 x7 x8 (ix2 r j)
      = mixK (x6 (ix4 0 0 r ⟨32 * (j.val / 128), by omega⟩)) (x7 (ix4 0 ⟨r.val % 4, by omega⟩ ⟨r.val / 4, by omega⟩ ⟨32 * (j.val / 128), by omega⟩))
        (x8 (ix4 0 ⟨r.val % 16, by omega⟩ ⟨r.val / 16, by omega⟩ ⟨32 * (j.val / 128), by omega⟩)) (x3 (ix4 0 0 r j))
        (x4 (ix4 0 ⟨r.val % 4, by omega⟩ ⟨r.val / 4, by omega⟩ j)) (x5 (ix4 0 ⟨r.val % 16, by omega⟩ ⟨r.val / 16, by omega⟩ j)) := by
  have e := ob_at (kernelRun0_A.sl.r_2 (F := Ideal) c arg5 harg5 x3) (kernelRun0_A.sl.r_3 (F := Ideal) c arg5 harg5 x3) (kernelRun0_A.sl.r_4 (F := Ideal) c arg5 harg5 x3) (kernelRun0_A.sl.r_5 (F := Ideal) c arg5 harg5 x3)
    (kernelRun0_A.sl.v148 (F := Ideal) c arg6 harg6 arg9 harg9 arg17 x4 x7) (kernelRun0_A.sl.v150 (F := Ideal) c arg6 harg6 arg9 harg9 arg17 x4 x7) (kernelRun0_A.sl.v152 (F := Ideal) c arg6 harg6 arg9 harg9 arg17 x4 x7) (kernelRun0_A.sl.v154 (F := Ideal) c arg6 harg6 arg9 harg9 arg17 x4 x7)
    (kernelRun0_A.sl.r_23 (F := Ideal) c arg6 harg6 arg7 harg7 arg9 harg9 arg10 harg10 arg17 x4 x5 x7 x8) (kernelRun0_A.sl.r_24 (F := Ideal) c arg6 harg6 arg7 harg7 arg9 harg9 arg10 harg10 arg17 x4 x5 x7 x8) (kernelRun0_A.sl.r_25 (F := Ideal) c arg6 harg6 arg7 harg7 arg9 harg9 arg10 harg10 arg17 x4 x5 x7 x8) (kernelRun0_A.sl.r_26 (F := Ideal) c arg6 harg6 arg7 harg7 arg9 harg9 arg10 harg10 arg17 x4 x5 x7 x8)
    (kernelRun0_A.sl.r_7 (F := Ideal) c arg8 harg8 x6) (kernelRun0_A.sl.r_10 (F := Ideal) c arg6 harg6 arg9 harg9 arg17 x4 x7) (kernelRun0_A.sl.v729 (F := Ideal) c arg6 harg6 arg7 harg7 arg9 harg9 arg10 harg10 arg17 x4 x5 x7 x8) r
    (fun j => x3 (ix4 0 0 r j)) (fun j => x4 (ix4 0 ⟨r.val % 4, by omega⟩ ⟨r.val / 4, by omega⟩ j)) (fun j => x5 (ix4 0 ⟨r.val % 16, by omega⟩ ⟨r.val / 16, by omega⟩ j))
    (fun h => x6 (ix4 0 0 r ⟨32 * h.val, by omega⟩)) (fun h => x7 (ix4 0 ⟨r.val % 4, by omega⟩ ⟨r.val / 4, by omega⟩ ⟨32 * h.val, by omega⟩))
    (fun h => x8 (ix4 0 ⟨r.val % 16, by omega⟩ ⟨r.val / 16, by omega⟩ ⟨32 * h.val, by omega⟩))
    (fun d => (pay4_at _ r d).trans ((rd3 arg5 harg5 x3 (o := 0) (by decide) _ r d).trans (congrArg (fun z => x3 (ix4 0 0 r z)) (Fin.ext (Nat.zero_add _)))))
    (fun d => (pay4_at _ r d).trans (rd3 arg5 harg5 x3 (o := 128) (by decide) _ r d))
    (fun d => (pay4_at _ r d).trans (rd3 arg5 harg5 x3 (o := 256) (by decide) _ r d))
    (fun d => (pay4_at _ r d).trans (rd3 arg5 harg5 x3 (o := 384) (by decide) _ r d))
    (fun d => (pay151_at _ r d).trans ((v147_at c arg6 harg6 arg7 harg7 arg9 harg9 arg10 harg10 arg17 x4 x5 x7 x8 r d).trans ((gS_o x4 x5 x7 x8 (s := 0) (by decide) r d).trans (congrArg (fun z => x4 (ix4 0 _ _ z)) (Fin.ext (Nat.zero_add _))))))
    (fun d => (pay151_at _ r d).trans ((v149_at c arg6 harg6 arg7 harg7 arg9 harg9 arg10 harg10 arg17 x4 x5 x7 x8 r d).trans ((gS_o x4 x5 x7 x8 (s := 1) (by decide) r d))))
    (fun d => (pay151_at _ r d).trans ((v151_at c arg6 harg6 arg7 harg7 arg9 harg9 arg10 harg10 arg17 x4 x5 x7 x8 r d).trans ((gS_o x4 x5 x7 x8 (s := 2) (by decide) r d))))
    (fun d => (pay151_at _ r d).trans ((v153_at c arg6 harg6 arg7 harg7 arg9 harg9 arg10 harg10 arg17 x4 x5 x7 x8 r d).trans ((gS_o x4 x5 x7 x8 (s := 3) (by decide) r d))))
    (fun d => (pay151_at _ r d).trans ((v721_at c arg6 harg6 arg7 harg7 arg9 harg9 arg10 harg10 arg17 x4 x5 x7 x8 r d).trans ((gS_p x4 x5 x7 x8 (s := 5) 0 rfl (by decide) r d).trans (congrArg (fun z => x5 (ix4 0 _ _ z)) (Fin.ext (Nat.zero_add _))))))
    (fun d => (pay151_at _ r d).trans ((v723_at c arg6 harg6 arg7 harg7 arg9 harg9 arg10 harg10 arg17 x4 x5 x7 x8 r d).trans ((gS_p x4 x5 x7 x8 (s := 6) 1 rfl (by decide) r d))))
    (fun d => (pay151_at _ r d).trans ((v725_at c arg6 harg6 arg7 harg7 arg9 harg9 arg10 harg10 arg17 x4 x5 x7 x8 r d).trans ((gS_p x4 x5 x7 x8 (s := 7) 2 rfl (by decide) r d))))
    (fun d => (pay151_at _ r d).trans ((v727_at c arg6 harg6 arg7 harg7 arg9 harg9 arg10 harg10 arg17 x4 x5 x7 x8 r d).trans ((gS_p x4 x5 x7 x8 (s := 8) 3 rfl (by decide) r d))))
    (fun h => (pay8_at _ r _).trans (rd6 arg8 harg8 x6 _ r _))
    (fun h => (pay151_at _ r _).trans ((v155_at c arg6 harg6 arg7 harg7 arg9 harg9 arg10 harg10 arg17 x4 x5 x7 x8 r _).trans (gS_l x4 x5 x7 x8 r _)))
    (fun h => (v729_at c arg6 harg6 arg7 harg7 arg9 harg9 arg10 harg10 arg17 x4 x5 x7 x8 r _).trans (gS_m x4 x5 x7 x8 r _)) j
  exact e

/-- A row of what the body stores. -/
theorem row_at (r : Fin 512) (k : Fin 1024) :
    k0_pay1 (F := Ideal) (kernelRun0_A.sl.r (F := Ideal) c arg2 harg2 x0) (kernelRun0_A.sl.r_33 (F := Ideal) c arg11 harg11 x9)
      (kernelRun0_A.sl.r_37 (F := Ideal) c arg2 harg2 arg3 harg3 arg4 harg4 arg5 harg5 arg6 harg6 arg7 harg7 arg8 harg8 arg9 harg9 arg10 harg10 arg12 harg12 arg13 harg13 arg14 harg14 arg17 x0 x1 x2 x3 x4 x5 x6 x7 x8 x10 x11 x12)
      (kernelRun0_A.sl.r_38 (F := Ideal) c arg2 harg2 arg3 harg3 arg12 harg12 arg13 harg13 x0 x1 x10 x11)
      (View.readAt (Elt Ideal) arg14.view (Rect.unit (s := S3x512x1024) ![2, 0, 0] S1x512x1024.size inb_S3x512x1024_S1x512x1024_2_0_0).toLoadRect (harg14.unread x12))
      (View.readAt (Elt Ideal) arg15.view (Rect.unit (s := S1024x1024) ![0, 0] S1024x1024.size inb_S1024x1024_S1024x1024_0_0).toLoadRect (harg15.unread x13)) (ix3 0 r k)
      = outS (fun k => x0 (ix3 0 r k)) (fun k => x1 (ix2 0 k)) (fun j => x2 (ix3 0 r j)) (fun j => mixK (x6 (ix4 0 0 r ⟨32 * (j.val / 128), by omega⟩)) (x7 (ix4 0 ⟨r.val % 4, by omega⟩ ⟨r.val / 4, by omega⟩ ⟨32 * (j.val / 128), by omega⟩))
        (x8 (ix4 0 ⟨r.val % 16, by omega⟩ ⟨r.val / 16, by omega⟩ ⟨32 * (j.val / 128), by omega⟩)) (x3 (ix4 0 0 r j))
        (x4 (ix4 0 ⟨r.val % 4, by omega⟩ ⟨r.val / 4, by omega⟩ j)) (x5 (ix4 0 ⟨r.val % 16, by omega⟩ ⟨r.val / 16, by omega⟩ j)))
        (fun j => x9 (ix3 0 r j)) (fun g c i => x10 (ix2 c ⟨g.val * 1024 + i.val, by omega⟩)) (fun g i => x11 (ix2 g i))
        (fun g j i => x12 (ix3 g j i)) (fun i k => x13 (ix2 i k)) k := by
  have hh : ∀ k, kernelRun0_A.sl.r_1 (F := Ideal) c arg2 harg2 arg3 harg3 x0 x1 (ix2 r k) = hrow (fun k => x0 (ix3 0 r k)) (fun k => x1 (ix2 0 k)) k := fun k => by
    refine (pay3_at _ _ r k).trans ?_
    exact congrArg₂ (fun a b => hrow a b k) (funext fun k => rd0 arg2 harg2 x0 _ r k) (funext fun k => rd1 arg3 harg3 x1 _ k)
  have g1 : ∀ i, kernelRun0_A.sl.r_35 (F := Ideal) c arg2 harg2 arg3 harg3 arg12 harg12 arg13 harg13 x0 x1 x10 x11 (ix2 r i)
      = gateT ((∑ c, hrow (fun k => x0 (ix3 0 r k)) (fun k => x1 (ix2 0 k)) c * x10 (ix2 c ⟨1024 + i.val, by omega⟩)) + x11 (ix2 1 i)) := fun i => by
    refine (pay164_at _ _ _ r i).trans ?_
    simp only [hh, rd10 arg12 harg12 x10 (o := 1024) (by decide), rd11 arg13 harg13 x11 (g := 1) (by decide)]
    rfl
  have g2 : ∀ i, kernelRun0_A.sl.r_38 (F := Ideal) c arg2 harg2 arg3 harg3 arg12 harg12 arg13 harg13 x0 x1 x10 x11 (ix2 r i)
      = gateT ((∑ c, hrow (fun k => x0 (ix3 0 r k)) (fun k => x1 (ix2 0 k)) c * x10 (ix2 c ⟨2048 + i.val, by omega⟩)) + x11 (ix2 2 i)) := fun i => by
    refine (pay164_at _ _ _ r i).trans ?_
    simp only [hh, rd10 arg12 harg12 x10 (o := 2048) (by decide), rd11 arg13 harg13 x11 (g := 2) (by decide)]
    rfl
  have g0 : ∀ i, kernelRun0_A.sl.r_34 (F := Ideal) c arg2 harg2 arg3 harg3 arg4 harg4 arg12 harg12 arg13 harg13 arg14 harg14 x0 x1 x2 x10 x11 x12 (ix2 r i)
      = gateT ((∑ c, hrow (fun k => x0 (ix3 0 r k)) (fun k => x1 (ix2 0 k)) c * x10 (ix2 c ⟨0 + i.val, by omega⟩)) + x11 (ix2 0 i))
        * ∑ j, x2 (ix3 0 r j) * x12 (ix3 0 j i) := fun i => by
    refine (pay163_at _ _ _ _ _ r i).trans ?_
    simp only [hh, rd10 arg12 harg12 x10 (o := 0) (by decide), rd11 arg13 harg13 x11 (g := 0) (by decide), rd12 arg14 harg14 x12 (g := 0) (by decide)]
    refine congrArg (_ * ·) (Finset.sum_congr rfl fun j _ => ?_)
    exact congrArg (· * _) (rd2 arg4 harg4 x2 _ r j)
  have h36 : ∀ j i, kernelRun0_A.sl.r_36 (F := Ideal) c arg14 harg14 x12 (ix3 0 j i) = x12 (ix3 1 j i) := fun j i =>
    rd12 arg14 harg14 x12 (g := 1) (by decide) _ j i
  have g3 : ∀ i, kernelRun0_A.sl.r_37 (F := Ideal) c arg2 harg2 arg3 harg3 arg4 harg4 arg5 harg5 arg6 harg6 arg7 harg7 arg8 harg8 arg9 harg9 arg10 harg10 arg12 harg12 arg13 harg13 arg14 harg14 arg17 x0 x1 x2 x3 x4 x5 x6 x7 x8 x10 x11 x12 (ix2 r i)
      = gateT ((∑ c, hrow (fun k => x0 (ix3 0 r k)) (fun k => x1 (ix2 0 k)) c * x10 (ix2 c ⟨0 + i.val, by omega⟩)) + x11 (ix2 0 i))
        * (∑ j, x2 (ix3 0 r j) * x12 (ix3 0 j i))
      + gateT ((∑ c, hrow (fun k => x0 (ix3 0 r k)) (fun k => x1 (ix2 0 k)) c * x10 (ix2 c ⟨1024 + i.val, by omega⟩)) + x11 (ix2 1 i))
        * ∑ j : Fin 512, mixK (x6 (ix4 0 0 r ⟨32 * (j.val / 128), by omega⟩)) (x7 (ix4 0 ⟨r.val % 4, by omega⟩ ⟨r.val / 4, by omega⟩ ⟨32 * (j.val / 128), by omega⟩))
        (x8 (ix4 0 ⟨r.val % 16, by omega⟩ ⟨r.val / 16, by omega⟩ ⟨32 * (j.val / 128), by omega⟩)) (x3 (ix4 0 0 r j))
        (x4 (ix4 0 ⟨r.val % 4, by omega⟩ ⟨r.val / 4, by omega⟩ j)) (x5 (ix4 0 ⟨r.val % 16, by omega⟩ ⟨r.val / 16, by omega⟩ j)) * x12 (ix3 1 j i) := fun i => by
    refine (pay165_at _ _ _ _ r i).trans (congrArg₂ (· + ·) (g0 i) (congrArg₂ (· * ·) (g1 i) (Finset.sum_congr rfl fun j _ => ?_)))
    exact congrArg₂ (· * ·) (mix_at c arg5 harg5 arg6 harg6 arg7 harg7 arg8 harg8 arg9 harg9 arg10 harg10 arg17 x3 x4 x5 x6 x7 x8 r j) (h36 j i)
  refine (pay1_at _ _ _ _ _ _ r k).trans ?_
  rw [outS]
  refine congrArg₂ (· + ·) ((pay2_at _ r k).trans (rd0 arg2 harg2 x0 _ r k)) (Finset.sum_congr rfl fun i _ => ?_)
  refine congrArg₂ (· * ·) (congrArg₂ (· + ·) ((g3 i).trans ?_) (congrArg₂ (· * ·) (g2 i) (Finset.sum_congr rfl fun j _ => ?_))) (rd13 arg15 harg15 x13 _ i k)
  · refine congrArg₂ (· + ·) (congrArg₂ (· * ·) ?_ rfl) rfl
    rfl
  · exact congrArg₂ (· * ·) ((pay162_at _ r j).trans (rd2 arg11 harg11 x9 _ r j)) (rd12 arg14 harg14 x12 (g := 2) (by decide) _ j i)
end

end Cert.Proof.KM
-- ==== Proof.MergeRef.lean ====
/-
  What the reference's merge leaves at an index.
-/
module

public import proofs.«01_k».proof.Proof.MergeSpec
public import proofs.«01_k».proof.Proof.Gen.Reference3Ideal.Read

@[expose] public section

set_option maxRecDepth 16384
set_option maxHeartbeats 1000000

noncomputable section

namespace Cert.Proof.KM

open Idealize.ShloMosaic Idealize.ShloMosaic.TcCoe Idealize.SL.Sem

section
open Cert.Reference3Ideal.Read
variable [Cert.Reference3Ideal.Facts]

theorem ref_h (x0 : FVec Ideal Cert.Reference3Ideal.S8x2048x1024 .f32) (x1 : FVec Ideal Cert.Reference3Ideal.S1024 .f32)
    (b : Fin 8) (s : Fin 2048) (k : Fin 1024) :
    val_main_v33 (F := Ideal) x0 x1 (ix3 b s k) = hrow (fun k => x0 (ix3 b s k)) (fun k => x1 (ix1 k)) k := by
  pointwise [val_main_v33, val_main_v32, val_main_v31, val_main_v30, val_main_v29, val_main_v28, val_main_v27, val_main_v26, val_main_v25,
    val_main_v24, val_main_v23, val_main_v22, val_main_v21, val_main_cst_2, val_main_cst_3, val_main_cst_4, hrow]

theorem ref_top (x6 x7 x8 : FVec Ideal Cert.Reference3Ideal.S8x2048x4 .f32) (b : Fin 8) (s : Fin 2048) (h : Fin 4) :
    val_main_v6 (F := Ideal) x6 x7 x8 (ix3 b s h) = max (max (x6 (ix3 b s h)) (x7 (ix3 b s h))) (x8 (ix3 b s h)) := by
  have hb : Ideal.ofBits .f32 4286578688#32 = ⊥ := by
    simp [Ideal.ofBits, Ideal.ieee]
  pointwise [val_main_v6, val_main_v5, val_main_v4, val_main_v3, val_main_v2, val_main_v1, val_main_v0, val_main_cst, val_main_cst_0]
  rw [hb, show (Finset.univ : Finset (Fin 3)) = {0, 1, 2} from rfl]
  simp [max_assoc]

theorem ref_e (x6 x7 x8 : FVec Ideal Cert.Reference3Ideal.S8x2048x4 .f32) (g : Fin 3) (b : Fin 8) (s : Fin 2048) (h : Fin 4) :
    val_main_v10 (F := Ideal) x6 x7 x8 (ix4 g b s h)
      = Ideal.exp ((![x6 (ix3 b s h), x7 (ix3 b s h), x8 (ix3 b s h)] : Fin 3 → EReal) g
        - max (max (x6 (ix3 b s h)) (x7 (ix3 b s h))) (x8 (ix3 b s h))) := by
  have e := ref_top x6 x7 x8 b s h
  unfold val_main_v10 val_main_v9 val_main_v8 val_main_v7
  generalize val_main_v6 (F := Ideal) x6 x7 x8 = M at e
  pointwise [val_main_v3, val_main_v2, val_main_v1, val_main_v0]
  rw [e]
  fin_cases g <;> rfl

theorem ref_w (x6 x7 x8 : FVec Ideal Cert.Reference3Ideal.S8x2048x4 .f32) (g : Fin 3) (b : Fin 8) (s : Fin 2048) (h : Fin 4) :
    val_main_v14 (F := Ideal) x6 x7 x8 (ix4 g b s h)
      = Ideal.div (val_main_v10 (F := Ideal) x6 x7 x8 (ix4 g b s h)) (∑ g : Fin 3, val_main_v10 (F := Ideal) x6 x7 x8 (ix4 g b s h)) := by
  unfold val_main_v14 val_main_v13 val_main_v12 val_main_v11
  generalize val_main_v10 (F := Ideal) x6 x7 x8 = M
  pointwise [val_main_cst_1]

theorem ref_mix (x3 x4 x5 : FVec Ideal Cert.Reference3Ideal.S8x2048x4x128 .f32) (x6 x7 x8 : FVec Ideal Cert.Reference3Ideal.S8x2048x4 .f32)
    (b : Fin 8) (s : Fin 2048) (j : Fin 512) :
    val_main_v20 (F := Ideal) x3 x4 x5 x6 x7 x8 (ix3 b s j)
      = ∑ g : Fin 3, val_main_v14 (F := Ideal) x6 x7 x8 (ix4 g b s ⟨j.val / 128, by omega⟩)
        * (![x3 (ix4 b s ⟨j.val / 128, by omega⟩ ⟨j.val % 128, by omega⟩), x4 (ix4 b s ⟨j.val / 128, by omega⟩ ⟨j.val % 128, by omega⟩),
          x5 (ix4 b s ⟨j.val / 128, by omega⟩ ⟨j.val % 128, by omega⟩)] : Fin 3 → EReal) g := by
  unfold val_main_v20 val_main_v19
  generalize val_main_v14 (F := Ideal) x6 x7 x8 = M
  pointwise [val_main_v18, val_main_v17, val_main_v16, val_main_v15]
  exact Finset.sum_congr rfl fun x _ => by fin_cases x <;> rfl

theorem ref_gate (x0 : FVec Ideal Cert.Reference3Ideal.S8x2048x1024 .f32) (x1 : FVec Ideal Cert.Reference3Ideal.S1024 .f32)
    (x10 : FVec Ideal Cert.Reference3Ideal.S1024x8960 .f32) (x11 : FVec Ideal Cert.Reference3Ideal.S3x1024 .f32)
    (b : Fin 8) (s : Fin 2048) (g : Fin 3) (i : Fin 1024) :
    val_main_v51 (F := Ideal) x0 x1 x10 x11 (ix4 b s g i) = gateT ((∑ c : Fin 1024, hrow (fun k => x0 (ix3 b s k)) (fun k => x1 (ix1 k)) c
      * x10 (ix2 c ⟨5888 + (g.val * 1024 + i.val), by omega⟩)) + x11 (ix2 g i)) := by
  simp only [← ref_h]
  rw [gate_eq]
  unfold val_main_v51 val_main_v50 val_main_v49 val_main_v48 val_main_v47 val_main_v46 val_main_v45 val_main_v44 val_main_v43 val_main_v42 val_main_v35 val_main_v34
    val_main_cst_5 val_main_cst_6
  generalize val_main_v33 (F := Ideal) x0 x1 = h
  pointwise

theorem ref_br (x2 : FVec Ideal Cert.Reference3Ideal.S8x2048x512 .f32) (x3 x4 x5 : FVec Ideal Cert.Reference3Ideal.S8x2048x4x128 .f32) (x6 x7 x8 : FVec Ideal Cert.Reference3Ideal.S8x2048x4 .f32)
    (x9 : FVec Ideal Cert.Reference3Ideal.S8x2048x512 .f32) (x12 : FVec Ideal Cert.Reference3Ideal.S3x512x1024 .f32)
    (b : Fin 8) (s : Fin 2048) (g : Fin 3) (i : Fin 1024) :
    val_main_v41 (F := Ideal) x2 x3 x4 x5 x6 x7 x8 x9 x12 (ix4 b s g i)
      = ∑ j : Fin 512, x12 (ix3 g j i) * (![x2 (ix3 b s j), val_main_v20 (F := Ideal) x3 x4 x5 x6 x7 x8 (ix3 b s j), x9 (ix3 b s j)] : Fin 3 → EReal) g := by
  unfold val_main_v41 val_main_v40 val_main_v39 val_main_v38 val_main_v37 val_main_v36
  generalize val_main_v20 (F := Ideal) x3 x4 x5 x6 x7 x8 = h
  pointwise
  exact Finset.sum_congr rfl fun x _ => by fin_cases g <;> rfl

theorem ref_sum (x0 : FVec Ideal Cert.Reference3Ideal.S8x2048x1024 .f32) (x1 : FVec Ideal Cert.Reference3Ideal.S1024 .f32)
    (x2 : FVec Ideal Cert.Reference3Ideal.S8x2048x512 .f32) (x3 x4 x5 : FVec Ideal Cert.Reference3Ideal.S8x2048x4x128 .f32) (x6 x7 x8 : FVec Ideal Cert.Reference3Ideal.S8x2048x4 .f32)
    (x9 : FVec Ideal Cert.Reference3Ideal.S8x2048x512 .f32) (x10 : FVec Ideal Cert.Reference3Ideal.S1024x8960 .f32) (x11 : FVec Ideal Cert.Reference3Ideal.S3x1024 .f32)
    (x12 : FVec Ideal Cert.Reference3Ideal.S3x512x1024 .f32) (x13 : FVec Ideal Cert.Reference3Ideal.S1024x1024 .f32)
    (b : Fin 8) (s : Fin 2048) (k : Fin 1024) :
    val_main_v55 (F := Ideal) x0 x1 x2 x3 x4 x5 x6 x7 x8 x9 x10 x11 x12 x13 (ix3 b s k)
      = x0 (ix3 b s k) + ∑ i : Fin 1024, (∑ g : Fin 3, val_main_v51 (F := Ideal) x0 x1 x10 x11 (ix4 b s g i)
        * val_main_v41 (F := Ideal) x2 x3 x4 x5 x6 x7 x8 x9 x12 (ix4 b s g i)) * x13 (ix2 i k) := by
  unfold val_main_v55 val_main_v54 val_main_v53 val_main_v52 val_main_cst_7
  generalize val_main_v51 (F := Ideal) x0 x1 x10 x11 = G
  generalize val_main_v41 (F := Ideal) x2 x3 x4 x5 x6 x7 x8 x9 x12 = h
  pointwise

/-- A row of the reference, the log denominators finite. -/
theorem ref_at (x0 : FVec Ideal Cert.Reference3Ideal.S8x2048x1024 .f32) (x1 : FVec Ideal Cert.Reference3Ideal.S1024 .f32)
    (x2 : FVec Ideal Cert.Reference3Ideal.S8x2048x512 .f32) (x3 x4 x5 : FVec Ideal Cert.Reference3Ideal.S8x2048x4x128 .f32) (x6 x7 x8 : FVec Ideal Cert.Reference3Ideal.S8x2048x4 .f32)
    (x9 : FVec Ideal Cert.Reference3Ideal.S8x2048x512 .f32) (x10 : FVec Ideal Cert.Reference3Ideal.S1024x8960 .f32) (x11 : FVec Ideal Cert.Reference3Ideal.S3x1024 .f32)
    (x12 : FVec Ideal Cert.Reference3Ideal.S3x512x1024 .f32) (x13 : FVec Ideal Cert.Reference3Ideal.S1024x1024 .f32)
    (h6 : ∀ i, ∃ r : ℝ, x6 i = r) (h7 : ∀ i, ∃ r : ℝ, x7 i = r) (h8 : ∀ i, ∃ r : ℝ, x8 i = r)
    (b : Fin 8) (s : Fin 2048) (k : Fin 1024) :
    val_main_v55 (F := Ideal) x0 x1 x2 x3 x4 x5 x6 x7 x8 x9 x10 x11 x12 x13 (ix3 b s k)
      = outS (fun k => x0 (ix3 b s k)) (fun k => x1 (ix1 k)) (fun j => x2 (ix3 b s j))
        (fun j => mixK (x6 (ix3 b s ⟨j.val / 128, by omega⟩)) (x7 (ix3 b s ⟨j.val / 128, by omega⟩)) (x8 (ix3 b s ⟨j.val / 128, by omega⟩))
          (x3 (ix4 b s ⟨j.val / 128, by omega⟩ ⟨j.val % 128, by omega⟩)) (x4 (ix4 b s ⟨j.val / 128, by omega⟩ ⟨j.val % 128, by omega⟩))
          (x5 (ix4 b s ⟨j.val / 128, by omega⟩ ⟨j.val % 128, by omega⟩)))
        (fun j => x9 (ix3 b s j)) (fun g c i => x10 (ix2 c ⟨5888 + (g.val * 1024 + i.val), by omega⟩)) (fun g i => x11 (ix2 g i))
        (fun g j i => x12 (ix3 g j i)) (fun i k => x13 (ix2 i k)) k := by
  have hm : ∀ j : Fin 512, val_main_v20 (F := Ideal) x3 x4 x5 x6 x7 x8 (ix3 b s j)
      = mixK (x6 (ix3 b s ⟨j.val / 128, by omega⟩)) (x7 (ix3 b s ⟨j.val / 128, by omega⟩)) (x8 (ix3 b s ⟨j.val / 128, by omega⟩))
          (x3 (ix4 b s ⟨j.val / 128, by omega⟩ ⟨j.val % 128, by omega⟩)) (x4 (ix4 b s ⟨j.val / 128, by omega⟩ ⟨j.val % 128, by omega⟩))
          (x5 (ix4 b s ⟨j.val / 128, by omega⟩ ⟨j.val % 128, by omega⟩)) := fun j => by
    obtain ⟨r6, e6⟩ := h6 (ix3 b s ⟨j.val / 128, by omega⟩)
    obtain ⟨r7, e7⟩ := h7 (ix3 b s ⟨j.val / 128, by omega⟩)
    obtain ⟨r8, e8⟩ := h8 (ix3 b s ⟨j.val / 128, by omega⟩)
    rw [ref_mix]
    simp only [ref_w, ref_e]
    rw [e6, e7, e8]
    refine Eq.trans ?_ (mix_eq ![r6, r7, r8] ![x3 (ix4 b s ⟨j.val / 128, by omega⟩ ⟨j.val % 128, by omega⟩),
      x4 (ix4 b s ⟨j.val / 128, by omega⟩ ⟨j.val % 128, by omega⟩), x5 (ix4 b s ⟨j.val / 128, by omega⟩ ⟨j.val % 128, by omega⟩)])
    simp only [Fin.sum_univ_three]
    rfl
  rw [ref_sum, outS]
  simp only [ref_gate, ref_br, Fin.sum_univ_three, hm]
  refine congrArg (x0 (ix3 b s k) + ·) (Finset.sum_congr rfl fun i _ => ?_)
  simp only [mul_comm (x12 _)]
  rfl

end

end Cert.Proof.KM
-- ==== Proof.MergeArr.lean ====
/-
  The array the merge's kernel leaves, read at an index, and the array its reference leaves.
-/
module

public import proofs.«01_k».proof.Proof.MergeBody
public import proofs.«01_k».proof.Proof.MergeRef
public import Idealize.ShloMosaic.Lib.WritesUnit
public import Idealize.ShloMosaic.Lib.Pipeline.ValueKit
public import Idealize.ShloMosaic.Lib.Pipeline.ValueKit.Acc

@[expose] public section

set_option maxRecDepth 16384
set_option maxHeartbeats 1000000

noncomputable section

namespace Cert.Proof.KM

open Idealize.ShloMosaic Idealize.ShloMosaic.TcCoe Idealize.SL.Sem
open Cert.Kernel3Ideal Cert.Kernel3Ideal.Gen

section
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x512x512 .bf16) (harg4 : arg4.IsWhole) (arg5 : Memref sig .tc .vmem S1x1x512x512 .bf16) (harg5 : arg5.IsWhole) (arg6 : Memref sig .tc .vmem S1x4x128x512 .bf16) (harg6 : arg6.IsWhole) (arg7 : Memref sig .tc .vmem S1x16x32x512 .bf16) (harg7 : arg7.IsWhole) (arg8 : Memref sig .tc .vmem S1x1x512x128 .f32) (harg8 : arg8.IsWhole) (arg9 : Memref sig .tc .vmem S1x4x128x128 .f32) (harg9 : arg9.IsWhole) (arg10 : Memref sig .tc .vmem S1x16x32x128 .f32) (harg10 : arg10.IsWhole) (arg11 : Memref sig .tc .vmem S1x512x512 .bf16) (harg11 : arg11.IsWhole) (arg12 : Memref sig .tc .vmem S1024x3072 .bf16) (harg12 : arg12.IsWhole) (arg13 : Memref sig .tc .vmem S3x1024 .f32) (harg13 : arg13.IsWhole) (arg14 : Memref sig .tc .vmem S3x512x1024 .bf16) (harg14 : arg14.IsWhole) (arg15 : Memref sig .tc .vmem S1024x1024 .bf16) (harg15 : arg15.IsWhole) (arg16 : Memref sig .tc .vmem S1x512x1024 .f32) (harg16 : arg16.IsWhole) (arg17 : Memref sig .tc .vmem S15x512x128 .f32) (harg17 : arg17.IsWhole)
    (x0 : Vec Ideal S1x512x1024 .f32) (x1 : Vec Ideal S1x1024 .f32) (x2 : Vec Ideal S1x512x512 .bf16) (x3 : Vec Ideal S1x1x512x512 .bf16) (x4 : Vec Ideal S1x4x128x512 .bf16) (x5 : Vec Ideal S1x16x32x512 .bf16) (x6 : Vec Ideal S1x1x512x128 .f32) (x7 : Vec Ideal S1x4x128x128 .f32) (x8 : Vec Ideal S1x16x32x128 .f32) (x9 : Vec Ideal S1x512x512 .bf16) (x10 : Vec Ideal S1024x3072 .bf16) (x11 : Vec Ideal S3x1024 .f32) (x12 : Vec Ideal S3x512x1024 .bf16) (x13 : Vec Ideal S1024x1024 .bf16)

/-- What one grid point writes back, at an index. -/
theorem out_at (r : Fin 512) (k : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix3 0 r k)
      = outS (fun k => x0 (ix3 0 r k)) (fun k => x1 (ix2 0 k)) (fun j => x2 (ix3 0 r j)) (fun j => mixK (x6 (ix4 0 0 r ⟨32 * (j.val / 128), by omega⟩)) (x7 (ix4 0 ⟨r.val % 4, by omega⟩ ⟨r.val / 4, by omega⟩ ⟨32 * (j.val / 128), by omega⟩))
        (x8 (ix4 0 ⟨r.val % 16, by omega⟩ ⟨r.val / 16, by omega⟩ ⟨32 * (j.val / 128), by omega⟩)) (x3 (ix4 0 0 r j))
        (x4 (ix4 0 ⟨r.val % 4, by omega⟩ ⟨r.val / 4, by omega⟩ j)) (x5 (ix4 0 ⟨r.val % 16, by omega⟩ ⟨r.val / 16, by omega⟩ j)))
        (fun j => x9 (ix3 0 r j)) (fun g c i => x10 (ix2 c ⟨g.val * 1024 + i.val, by omega⟩)) (fun g i => x11 (ix2 g i))
        (fun g j i => x12 (ix3 g j i)) (fun i k => x13 (ix2 i k)) k := by
  unfold out0_A_14 kernelRun0_A
  dsimp only
  refine (View.read_writes_cons_unit_of_mem _ _ _ _ _ (ix3 0 r k) (ix3 0 r k) rfl
    (fun a => by fin_cases a <;> simp [ix3])).trans ?_
  exact row_at c arg2 harg2 arg3 harg3 arg4 harg4 arg5 harg5 arg6 harg6 arg7 harg7 arg8 harg8 arg9 harg9 arg10 harg10 arg11 harg11 arg12 harg12 arg13 harg13 arg14 harg14 arg15 harg15 arg17 x0 x1 x2 x3 x4 x5 x6 x7 x8 x9 x10 x11 x12 x13 r k
end

variable (m : (ℓ : Loc nD τ sig) → Buf (Elt Ideal) ℓ) (c : Dev nD) (t : Fin cfg0.N)

theorem idx0 : ∀ t : Fin grid0.N, (win0_0.index t = ![(grid0.coords t 0).val, (grid0.coords t 1).val, 0] ∧ win0_2.index t = ![(grid0.coords t 0).val, (grid0.coords t 1).val, 0]
    ∧ win0_9.index t = ![(grid0.coords t 0).val, (grid0.coords t 1).val, 0] ∧ win0_14.index t = ![(grid0.coords t 0).val, (grid0.coords t 1).val, 0])
    ∧ (win0_3.index t = ![(grid0.coords t 0).val, 0, (grid0.coords t 1).val, 0] ∧ win0_4.index t = ![(grid0.coords t 0).val, 0, (grid0.coords t 1).val, 0]
    ∧ win0_5.index t = ![(grid0.coords t 0).val, 0, (grid0.coords t 1).val, 0] ∧ win0_6.index t = ![(grid0.coords t 0).val, 0, (grid0.coords t 1).val, 0]
    ∧ win0_7.index t = ![(grid0.coords t 0).val, 0, (grid0.coords t 1).val, 0] ∧ win0_8.index t = ![(grid0.coords t 0).val, 0, (grid0.coords t 1).val, 0])
    ∧ (win0_1.index t = ![0, 0] ∧ win0_10.index t = ![0, 0] ∧ win0_11.index t = ![0, 0] ∧ win0_12.index t = ![0, 0, 0] ∧ win0_13.index t = ![0, 0])
    ∧ (grid0.coords t 0).val < 8 ∧ (grid0.coords t 1).val < 4 := by
  decide +kernel

section
variable (hb : (grid0.coords t 0).val < 8) (hq : (grid0.coords t 1).val < 4)
include hb hq

theorem b0 (r : Fin 512) (k : Fin 1024) : iblk (F := Ideal) m c 0 t (ix3 0 r k) = m ((c : Thread nD τ).loc main_arg0) (ix3 ⟨(grid0.coords t 0).val, hb⟩ ⟨(grid0.coords t 1).val * 512 + r.val, by omega⟩ k) := by
  blk_ext! [iblk, V, idx0 t]

theorem b1 (k : Fin 1024) : iblk (F := Ideal) m c 1 t (ix2 0 k) = m ((c : Thread nD τ).loc main_arg1) (ix1 k) := by
  blk_ext! [iblk, V, idx0 t]

theorem b2 (r j : Fin 512) : iblk (F := Ideal) m c 2 t (ix3 0 r j) = m ((c : Thread nD τ).loc main_arg2) (ix3 ⟨(grid0.coords t 0).val, hb⟩ ⟨(grid0.coords t 1).val * 512 + r.val, by omega⟩ j) := by
  blk_ext! [iblk, V, idx0 t]

theorem b3 (r j : Fin 512) : iblk (F := Ideal) m c 3 t (ix4 0 0 r j) = m ((c : Thread nD τ).loc main_arg3) (ix4 ⟨(grid0.coords t 0).val, hb⟩ ⟨(grid0.coords t 1).val * 512 + r.val, by omega⟩ ⟨j.val / 128, by omega⟩ ⟨j.val % 128, by omega⟩) := by
  blk_ext! [iblk, V, idx0 t]

theorem b4 (r j : Fin 512) : iblk (F := Ideal) m c 4 t (ix4 0 ⟨r.val % 4, by omega⟩ ⟨r.val / 4, by omega⟩ j) = m ((c : Thread nD τ).loc main_arg4) (ix4 ⟨(grid0.coords t 0).val, hb⟩ ⟨(grid0.coords t 1).val * 512 + r.val, by omega⟩ ⟨j.val / 128, by omega⟩ ⟨j.val % 128, by omega⟩) := by
  blk_ext! [iblk, V, idx0 t]

theorem b5 (r j : Fin 512) : iblk (F := Ideal) m c 5 t (ix4 0 ⟨r.val % 16, by omega⟩ ⟨r.val / 16, by omega⟩ j) = m ((c : Thread nD τ).loc main_arg5) (ix4 ⟨(grid0.coords t 0).val, hb⟩ ⟨(grid0.coords t 1).val * 512 + r.val, by omega⟩ ⟨j.val / 128, by omega⟩ ⟨j.val % 128, by omega⟩) := by
  blk_ext! [iblk, V, idx0 t]

theorem b6 (r j : Fin 512) : iblk (F := Ideal) m c 6 t (ix4 0 0 r ⟨32 * (j.val / 128), by omega⟩) = m ((c : Thread nD τ).loc main_arg6) (ix3 ⟨(grid0.coords t 0).val, hb⟩ ⟨(grid0.coords t 1).val * 512 + r.val, by omega⟩ ⟨j.val / 128, by omega⟩) := by
  blk_ext! [iblk, V, idx0 t]

theorem b7 (r j : Fin 512) : iblk (F := Ideal) m c 7 t (ix4 0 ⟨r.val % 4, by omega⟩ ⟨r.val / 4, by omega⟩ ⟨32 * (j.val / 128), by omega⟩) = m ((c : Thread nD τ).loc main_arg7) (ix3 ⟨(grid0.coords t 0).val, hb⟩ ⟨(grid0.coords t 1).val * 512 + r.val, by omega⟩ ⟨j.val / 128, by omega⟩) := by
  blk_ext! [iblk, V, idx0 t]

theorem b8 (r j : Fin 512) : iblk (F := Ideal) m c 8 t (ix4 0 ⟨r.val % 16, by omega⟩ ⟨r.val / 16, by omega⟩ ⟨32 * (j.val / 128), by omega⟩) = m ((c : Thread nD τ).loc main_arg8) (ix3 ⟨(grid0.coords t 0).val, hb⟩ ⟨(grid0.coords t 1).val * 512 + r.val, by omega⟩ ⟨j.val / 128, by omega⟩) := by
  blk_ext! [iblk, V, idx0 t]

theorem b9 (r j : Fin 512) : iblk (F := Ideal) m c 9 t (ix3 0 r j) = m ((c : Thread nD τ).loc main_arg9) (ix3 ⟨(grid0.coords t 0).val, hb⟩ ⟨(grid0.coords t 1).val * 512 + r.val, by omega⟩ j) := by
  blk_ext! [iblk, V, idx0 t]

theorem b10 (k : Fin 1024) (g : Fin 3) (i : Fin 1024) : iblk (F := Ideal) m c 10 t (ix2 k ⟨g.val * 1024 + i.val, by omega⟩) = m ((c : Thread nD τ).loc main_arg10) (ix2 k ⟨5888 + (g.val * 1024 + i.val), by omega⟩) := by
  blk_ext! [iblk, V, idx0 t]

theorem b11 (g : Fin 3) (i : Fin 1024) : iblk (F := Ideal) m c 11 t (ix2 g i) = m ((c : Thread nD τ).loc main_arg11) (ix2 g i) := by
  blk_ext! [iblk, V, idx0 t]

theorem b12 (g : Fin 3) (j : Fin 512) (i : Fin 1024) : iblk (F := Ideal) m c 12 t (ix3 g j i) = m ((c : Thread nD τ).loc main_arg12) (ix3 g j i) := by
  blk_ext! [iblk, V, idx0 t]

theorem b13 (i k : Fin 1024) : iblk (F := Ideal) m c 13 t (ix2 i k) = m ((c : Thread nD τ).loc main_arg13) (ix2 i k) := by
  blk_ext! [iblk, V, idx0 t]
end

/-- The array the kernel leaves is the one the reference leaves, at finite log denominators. -/
theorem arr_eq [Cert.Reference3Ideal.Facts] (c : Dev nD) (h6 : ∀ i, ∃ r : ℝ, m ((c : Thread nD τ).loc main_arg6) i = (r : EReal)) (h7 : ∀ i, ∃ r : ℝ, m ((c : Thread nD τ).loc main_arg7) i = (r : EReal))
    (h8 : ∀ i, ∃ r : ℝ, m ((c : Thread nD τ).loc main_arg8) i = (r : EReal)) : (dats (F := Ideal) m 0 c).arrAt 14 cfg0.N
    = Cert.Reference3Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t hf y => ?_
  blk_simp
  rw [after0_14]
  obtain ⟨-, -, -, hb, hq⟩ := idx0 t
  have key : ∀ (r : Fin 512) (k : Fin 1024), outsAt0 (F := Ideal) m c t (ix3 0 r k)
      = Cert.Reference3Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
        (ix3 ⟨(grid0.coords t 0).val, hb⟩ ⟨(grid0.coords t 1).val * 512 + r.val, by omega⟩ k) := fun r k => by
    refine Eq.trans ?_ (ref_at _ _ _ _ _ _ _ _ _ _ _ _ _ _ h6 h7 h8 _ _ _).symm
    unfold outsAt0
    refine (out_at _ _ _ _ _ _ _ _ _ _ _ _ _ _ _ _ _ _ _ _ _ _ _ _ _ _ _ _ _ _ _ _ _ _ _ _ _ _ _ _ _ _ _ _ _ _ _ _ r k).trans ?_
    simp only [b0 m c t hb hq, b1 m c t hb hq, b2 m c t hb hq, b3 m c t hb hq, b4 m c t hb hq, b5 m c t hb hq, b6 m c t hb hq, b7 m c t hb hq,
      b8 m c t hb hq, b9 m c t hb hq, b10 m c t hb hq, b11 m c t hb hq, b12 m c t hb hq, b13 m c t hb hq]
  have he : (win0_14.blk t).view.emb y = ix3 (⟨(grid0.coords t 0).val, hb⟩ : Fin 8)
      (⟨(grid0.coords t 1).val * 512 + (y 1).val, by have := (y 1).isLt; simp at this; omega⟩ : Fin 2048) (y 2 : Fin 1024) := by
    blk_ext [idx0 t]
  have hy : y = ix3 (0 : Fin 1) (y 1 : Fin 512) (y 2 : Fin 1024) := by blk_ext [idx0 t]
  exact (congrArg (outsAt0 (F := Ideal) m c t) hy).trans ((key (y 1) (y 2)).trans (congrArg _ he.symm))

end Cert.Proof.KM
-- ==== Proof.Tiles.lean ====
/-
  One tile of the attention: 128 queries of one head against the 256 keys of their window, as the kernel computes it,
  and what it reads at an index over the extended reals.
-/
module

public import proofs.«01_k».proof.Proof.Body0
public import Idealize.ShloMosaic.Lib.Pointwise

@[expose] public section

set_option maxRecDepth 16384
set_option maxHeartbeats 1000000

noncomputable section

namespace Cert.Proof.KI

open Cert.KernelIdeal Cert.KernelIdeal.Gen
open Idealize.ShloMosaic
open Idealize.ShloMosaic.TcCoe

section
variable {F : FTy → Type} [FloatOps F] [Named F]

/-- The scores: queries times keys, plus the bias. -/
abbrev sT (qv : Vec F S1x1x128x128 .bf16) (kv : Vec F S1x256x128 .bf16) (bv : Vec F S1x1x128x256 .f32) : FVec F S128x256 .f32 :=
  addf (matmul dot_S128x128_S256x128_S128x256_1_1_0_0_n_n none (shapeCast S128x128 qv shapeCasts_S1x1x128x128_S128x128)
    (shapeCast S256x128 kv shapeCasts_S1x256x128_S256x128) (constant S128x256 .f32 0x00000000#32))
    (shapeCast S128x256 bv shapeCasts_S1x1x128x256_S128x256)
/-- The row maxima of the scores. -/
abbrev mxT (s : FVec F S128x256 .f32) : FVec F S128x1 .f32 :=
  shapeCast S128x1 (multiReduction .maximumf [1] S128 s 0xFF800000#32 reduces_S128x256_S128 (.inl rfl) rfl) shapeCasts_S128_S128x1
/-- The weights of the row maximum loop. -/
abbrev pM (s : FVec F S128x256 .f32) : FVec F S128x256 .f32 := exp2 (subf s (broadcastTo S128x256 (mxT s) broadcasts_S128x1_S128x256))
/-- The row sums of the weights. -/
abbrev denT (p : FVec F S128x256 .f32) : FVec F S128x1 .f32 :=
  shapeCast S128x1 (multiReduction .add [1] S128 p 0x00000000#32 reduces_S128x256_S128 (.inl rfl) rfl) shapeCasts_S128_S128x1
/-- The tile's output: weights times values, over the row sums. -/
abbrev oT (p : FVec F S128x256 .f32) (vv : Vec F S1x256x128 .bf16) : FVec F S1x1x128x128 .bf16 :=
  shapeCast S1x1x128x128 (truncf .bf16 (mulf
    (matmul dot_S128x256_S256x128_S128x128_1_0_0_1_n_n none (truncf .bf16 p bitsLt_bf16_f32)
      (shapeCast S256x128 vv shapeCasts_S1x256x128_S256x128) (constant S128x128 .f32 0x00000000#32))
    (broadcastTo S128x128 (divf (broadcast S128x1 (Scalar.ofBits .f32 0x3F800000#32 : F .f32)) (denT p)) broadcasts_S128x1_S128x128)) bitsLt_bf16_f32)
    shapeCasts_S128x128_S1x1x128x128
abbrev bcT (a : FVec F S128x1 .f32) : FVec F S128x128 .f32 :=
  broadcastTo S128x128 (shapeCast S128x1 a shapeCasts_S128x1_S128x1) broadcasts_S128x1_S128x128
/-- A column per head spread over the head's thirty-two lanes. -/
abbrev mixT (a b c d : FVec F S128x1 .f32) : FVec F S128x128 .f32 :=
  select (cmpi .sge laneI (broadcast S128x128 96#32)) (bcT d) (select (cmpi .sge laneI (broadcast S128x128 64#32)) (bcT c)
    (select (cmpi .sge laneI (broadcast S128x128 32#32)) (bcT b) (bcT a)))
/-- The tile's logarithm of the sum of exponentials, from the shift and the row sums per lane. -/
abbrev lT (m den : FVec F S128x128 .f32) : FVec F S1x1x128x128 .f32 :=
  shapeCast S1x1x128x128 (mulf (addf m (mulf (log den) (broadcast S128x128 (Named.named κ "log2e" 0x3FB8AA3B#32 : F .f32))))
    (broadcast S128x128 (Named.named κ "ln2" 0x3F317218#32 : F .f32))) shapeCasts_S128x128_S1x1x128x128
end

/-! ## At an index -/

theorem sT_at (qv : Vec Ideal S1x1x128x128 .bf16) (kv : Vec Ideal S1x256x128 .bf16) (bv : Vec Ideal S1x1x128x256 .f32) (r : Fin 128) (k : Fin 256) :
    sT qv kv bv (ix2 r k) = (∑ d : Fin 128, qv (ix4 0 0 r d) * kv (ix3 0 k d)) + bv (ix4 0 0 r k) := by
  pointwise [sT]

theorem negInf_bits : Ideal.ofBits .f32 0xFF800000#32 = (⊥ : EReal) := by
  simp [Ideal.ofBits, Ideal.ieee]

theorem mxT_at (s : FVec Ideal S128x256 .f32) (r : Fin 128) (z : Fin 1) :
    mxT s (ix2 r z) = Finset.univ.fold max (⊥ : EReal) fun k : Fin 256 => s (ix2 r k) := by
  pointwise [mxT]
  rw [negInf_bits]

theorem pM_at (s : FVec Ideal S128x256 .f32) (r : Fin 128) (k : Fin 256) :
    pM s (ix2 r k) = Ideal.exp2 (s (ix2 r k) - Finset.univ.fold max (⊥ : EReal) fun k : Fin 256 => s (ix2 r k)) := by
  unfold pM
  generalize hm : mxT s = m
  pointwise
  rw [← hm]
  rw [mxT_at]
  rfl

theorem denT_at (p : FVec Ideal S128x256 .f32) (r : Fin 128) (z : Fin 1) :
    denT p (ix2 r z) = ∑ k : Fin 256, p (ix2 r k) := by
  pointwise [denT]

theorem oT_at (p : FVec Ideal S128x256 .f32) (vv : Vec Ideal S1x256x128 .bf16) (r c : Fin 128) :
    oT p vv (ix4 0 0 r c) = (∑ k : Fin 256, p (ix2 r k) * vv (ix3 0 k c)) * Ideal.div 1 (∑ k : Fin 256, p (ix2 r k)) := by
  pointwise [oT]

theorem mixT_at (a b c d : FVec Ideal S128x1 .f32) (r l : Fin 128) :
    mixT a b c d (ix2 r l) = if 96 ≤ l.val then d (ix2 r 0) else if 64 ≤ l.val then c (ix2 r 0) else if 32 ≤ l.val then b (ix2 r 0) else a (ix2 r 0) := by
  have e : ∀ (l : Fin 128) (x : BitVec 32) (n : Fin 128), x = BitVec.ofNat 32 n.val → ∀ u v : EReal,
      Scalar.select (IntOp.cmpi .sge (BitVec.ofNat 32 l.val) x) u v = if n.val ≤ l.val then u else v := by
    intro l x n hx u v
    subst hx
    have h : ∀ l n : Fin 128, IntOp.cmpi .sge (BitVec.ofNat 32 l.val) (BitVec.ofNat 32 n.val) = if n.val ≤ l.val then 1#1 else 0#1 := by
      decide +kernel
    rw [h]
    split <;> rfl
  pointwise [mixT]
  rw [e l 96#32 96 rfl, e l 64#32 64 rfl, e l 32#32 32 rfl]
  rfl

theorem lT_at (m den : FVec Ideal S128x128 .f32) (r l : Fin 128) :
    lT m den (ix4 0 0 r l) = (m (ix2 r l) + Ideal.log (den (ix2 r l)) * (((Real.log 2)⁻¹ : ℝ) : EReal)) * ((Real.log 2 : ℝ) : EReal) := by
  pointwise [lT]
  rfl

/-! ## The loops' pieces are tiles -/

section
variable {F : FTy → Type} [FloatOps F] [Named F]
variable (c : Dev nD) (i : grid0.Coords) (S : Stg) (x0 x1 x2 : Vec F S1x4x512x512 .bf16) (x3 : Vec F S2 .f32)

/-- The offsets of the queries' (and the output's) tiles: block `n / 4`, head `n % 4`. -/
abbrev offQF : Fin 16 → Fin k0_t1_loop.trips → BitVec 32 → Fin 4 → ℕ :=
  ![k0_off1, k0_off3, k0_off5, k0_off7, k0_off9, k0_off11, k0_off13, k0_off15, k0_off17, k0_off19, k0_off21, k0_off23, k0_off25, k0_off27, k0_off29, k0_off31]
/-- The offsets of the keys' windows. -/
abbrev offKF : Fin 16 → Fin k0_t1_loop.trips → BitVec 32 → Fin 3 → ℕ :=
  ![k0_off2, k0_off4, k0_off6, k0_off8, k0_off10, k0_off12, k0_off14, k0_off16, k0_off18, k0_off20, k0_off22, k0_off24, k0_off26, k0_off28, k0_off30, k0_off32]
/-- The offsets of the bias table's entries. -/
abbrev offBF : Fin 4 → grid0.Coords → BitVec 32 → Fin 4 → ℕ := ![k0_off33, k0_off34, k0_off35, k0_off36]
abbrev offLF : Fin 4 → Fin k0_t1_loop.trips → BitVec 32 → Fin 4 → ℕ := ![k0_off37, k0_off38, k0_off39, k0_off40]

theorem offQF_eq : ∀ (n : Fin 16) (k : Fin k0_t1_loop.trips) (r : Fin 2),
    offQF n k (BitVec.ofNat 32 r.val) = ![0, 2 * k.val + r.val, 128 * (n.val / 4), 128 * (n.val % 4)] := by decide +kernel
theorem offKF_eq : ∀ (n : Fin 16) (k : Fin k0_t1_loop.trips) (r : Fin 2),
    offKF n k (BitVec.ofNat 32 r.val) = ![2 * k.val + r.val, 128 * (n.val / 4), 128 * (n.val % 4)] := by decide +kernel
theorem offBF_eq : ∀ (h : Fin 4) (i : grid0.Coords) (j : Fin 4),
    offBF h i (BitVec.ofNat 32 j.val) = ![(if j.val = 0 then 1 else 0) + 2 * (if j.val = 3 then 1 else 0), h.val, 0, 0] := by decide +kernel
theorem offLF_eq : ∀ (j : Fin 4) (k : Fin k0_t1_loop.trips) (r : Fin 2),
    offLF j k (BitVec.ofNat 32 r.val) = ![0, 2 * k.val + r.val, 128 * j.val, 0] := by decide +kernel

/-- In the row maximum loop, the offsets of the queries' (and the output's) tiles: block `n / 4`, head `n % 4`. -/
abbrev offQM : Fin 16 → Fin k0_t2_loop.trips → BitVec 32 → Fin 4 → ℕ :=
  ![k0_off41, k0_off43, k0_off45, k0_off47, k0_off49, k0_off51, k0_off53, k0_off55, k0_off57, k0_off59, k0_off61, k0_off63, k0_off65, k0_off67, k0_off69, k0_off71]
/-- In the row maximum loop, the offsets of the keys' windows. -/
abbrev offKM : Fin 16 → Fin k0_t2_loop.trips → BitVec 32 → Fin 3 → ℕ :=
  ![k0_off42, k0_off44, k0_off46, k0_off48, k0_off50, k0_off52, k0_off54, k0_off56, k0_off58, k0_off60, k0_off62, k0_off64, k0_off66, k0_off68, k0_off70, k0_off72]
/-- In the row maximum loop, the offsets of the bias table's entries. -/
abbrev offBM : Fin 4 → grid0.Coords → BitVec 32 → Fin 4 → ℕ := ![k0_off73, k0_off74, k0_off75, k0_off76]
abbrev offLM : Fin 4 → Fin k0_t2_loop.trips → BitVec 32 → Fin 4 → ℕ := ![k0_off77, k0_off78, k0_off79, k0_off80]

theorem offQM_eq : ∀ (n : Fin 16) (k : Fin k0_t2_loop.trips) (r : Fin 2),
    offQM n k (BitVec.ofNat 32 r.val) = ![0, 2 * k.val + r.val, 128 * (n.val / 4), 128 * (n.val % 4)] := by decide +kernel
theorem offKM_eq : ∀ (n : Fin 16) (k : Fin k0_t2_loop.trips) (r : Fin 2),
    offKM n k (BitVec.ofNat 32 r.val) = ![2 * k.val + r.val, 128 * (n.val / 4), 128 * (n.val % 4)] := by decide +kernel
theorem offBM_eq : ∀ (h : Fin 4) (i : grid0.Coords) (j : Fin 4),
    offBM h i (BitVec.ofNat 32 j.val) = ![(if j.val = 0 then 1 else 0) + 2 * (if j.val = 3 then 1 else 0), h.val, 0, 0] := by decide +kernel
theorem offLM_eq : ∀ (j : Fin 4) (k : Fin k0_t2_loop.trips) (r : Fin 2),
    offLM j k (BitVec.ofNat 32 r.val) = ![0, 2 * k.val + r.val, 128 * j.val, 0] := by decide +kernel

end

end Cert.Proof.KI

end
-- ==== Proof.Pieces.lean ====
/-
  Every piece the two loops store is a tile: stated for any function that the tiles agree with.
-/
module

public import proofs.«01_k».proof.Proof.Tiles

@[expose] public section

set_option maxRecDepth 16384
set_option maxHeartbeats 1000000

noncomputable section

namespace Cert.Proof.KI

open Cert.KernelIdeal Cert.KernelIdeal.Gen
open Idealize.ShloMosaic
open Idealize.ShloMosaic.TcCoe

variable {F : FTy → Type} [FloatOps F] [Named F]
variable (c : Dev nD) (i : grid0.Coords) (S : Stg) (x0 x1 x2 : Vec F S1x4x512x512 .bf16) (x3 : Vec F S2 .f32)

theorem offQF_inb : ∀ (n : Fin 16) (k : Fin k0_t1_loop.trips) (r : Fin 2) (a : Fin 4),
    offQF n k (BitVec.ofNat 32 r.val) a + S1x1x128x128.size a ≤ S1x4x512x512.size a := by decide +kernel
theorem offKF_inb : ∀ (n : Fin 16) (k : Fin k0_t1_loop.trips) (r : Fin 2) (a : Fin 3),
    offKF n k (BitVec.ofNat 32 r.val) a + S1x256x128.size a ≤ S4x640x512.size a := by decide +kernel
theorem offBF_inb : ∀ (h : Fin 4) (i : grid0.Coords) (j : Fin 4) (a : Fin 4),
    offBF h i (BitVec.ofNat 32 j.val) a + S1x1x128x256.size a ≤ S4x4x128x256.size a := by decide +kernel
theorem offLF_inb : ∀ (j : Fin 4) (k : Fin k0_t1_loop.trips) (r : Fin 2) (a : Fin 4),
    offLF j k (BitVec.ofNat 32 r.val) a + S1x1x128x128.size a ≤ S1x4x512x128.size a := by decide +kernel

/-- The queries of tile `n` of a pass's plane `r`. -/
abbrev qF (k : Fin k0_t1_loop.trips) (r : Fin 2) (n : Fin 16) : Vec F S1x1x128x128 .bf16 :=
  View.readAt (Elt F) S.m0.view (Rect.unit (s := S1x4x512x512) (offQF n k (BitVec.ofNat 32 r.val)) S1x1x128x128.size (offQF_inb n k r)).toLoadRect (S.h0.unread x0)
abbrev kF (k : Fin k0_t1_loop.trips) (r : Fin 2) (n : Fin 16) : Vec F S1x256x128 .bf16 :=
  View.readAt (Elt F) kb.view (Rect.unit (s := S4x640x512) (offKF n k (BitVec.ofNat 32 r.val)) S1x256x128.size (offKF_inb n k r)).toLoadRect (padX x1)
abbrev vF (k : Fin k0_t1_loop.trips) (r : Fin 2) (n : Fin 16) : Vec F S1x256x128 .bf16 :=
  View.readAt (Elt F) vb.view (Rect.unit (s := S4x640x512) (offKF n k (BitVec.ofNat 32 r.val)) S1x256x128.size (offKF_inb n k r)).toLoadRect (padY x2)
abbrev bF (j h : Fin 4) : Vec F S1x1x128x256 .f32 :=
  View.readAt (Elt F) bm.view (Rect.unit (s := S4x4x128x256) (offBF h i (BitVec.ofNat 32 j.val)) S1x1x128x256.size (offBF_inb h i j)).toLoadRect (biasX x3)
/-- The weights of block `j`, head `h`. -/
abbrev pF (k : Fin k0_t1_loop.trips) (r : Fin 2) (j h : Fin 4) (n : Fin 16) : FVec F S128x256 .f32 :=
  exp2 (sT (qF S x0 k r n) (kF x1 k r n) (bF i x3 j h))

theorem piecesF7 (k : Fin k0_t1_loop.trips) (G : S1x4x512x512.Idx → Elt F .bf16)
    (hG : ∀ (r : Fin 2) (j h : Fin 4) (n : Fin 16), n.val = 4 * j.val + h.val → ∀ x,
      oT (pF i S x0 x1 x3 k r j h n) (vF x2 k r n) x
        = G ((Rect.unit (s := S1x4x512x512) (offQF n k (BitVec.ofNat 32 r.val)) S1x1x128x128.size (offQF_inb n k r)).emb x)) :
    ∀ p ∈ (tripF c i S x0 x1 x2 x3 k).1, ∀ x, p.2 x = G (p.1.emb x) := by
  unfold tripF tripL_k0_t1 trip_k0_t1
  dsimp only
  simp only [List.forall_mem_cons]
  exact ⟨hG 1 3 3 15 rfl, hG 1 3 2 14 rfl, hG 1 3 1 13 rfl, hG 1 3 0 12 rfl,
    hG 1 2 3 11 rfl, hG 1 2 2 10 rfl, hG 1 2 1 9 rfl, hG 1 2 0 8 rfl,
    hG 1 1 3 7 rfl, hG 1 1 2 6 rfl, hG 1 1 1 5 rfl, hG 1 1 0 4 rfl,
    hG 1 0 3 3 rfl, hG 1 0 2 2 rfl, hG 1 0 1 1 rfl, hG 1 0 0 0 rfl,
    hG 0 3 3 15 rfl, hG 0 3 2 14 rfl, hG 0 3 1 13 rfl, hG 0 3 0 12 rfl,
    hG 0 2 3 11 rfl, hG 0 2 2 10 rfl, hG 0 2 1 9 rfl, hG 0 2 0 8 rfl,
    hG 0 1 3 7 rfl, hG 0 1 2 6 rfl, hG 0 1 1 5 rfl, hG 0 1 0 4 rfl,
    hG 0 0 3 3 rfl, hG 0 0 2 2 rfl, hG 0 0 1 1 rfl, hG 0 0 0 0 rfl, fun _ h => absurd h List.not_mem_nil⟩

theorem piecesF8 (k : Fin k0_t1_loop.trips) (G : S1x4x512x128.Idx → Elt F .f32)
    (hG : ∀ (r : Fin 2) (j : Fin 4) (n0 n1 n2 n3 : Fin 16), n0.val = 4 * j.val → n1.val = 4 * j.val + 1 → n2.val = 4 * j.val + 2 → n3.val = 4 * j.val + 3 → ∀ x,
      lT (broadcast S128x128 (View.readAt (Elt F) S.m3.view (Rect.unit (s := S2) ![1] S1.size inb_S2_S1_1).toLoadRect (S.h3.unread x3) (Shape.Idx.first idx1) : F .f32))
          (mixT (denT (pF i S x0 x1 x3 k r j 0 n0)) (denT (pF i S x0 x1 x3 k r j 1 n1)) (denT (pF i S x0 x1 x3 k r j 2 n2)) (denT (pF i S x0 x1 x3 k r j 3 n3))) x
        = G ((Rect.unit (s := S1x4x512x128) (offLF j k (BitVec.ofNat 32 r.val)) S1x1x128x128.size (offLF_inb j k r)).emb x)) :
    ∀ p ∈ (tripF c i S x0 x1 x2 x3 k).2, ∀ x, p.2 x = G (p.1.emb x) := by
  unfold tripF tripL_k0_t1 trip_k0_t1
  dsimp only
  simp only [List.forall_mem_cons]
  exact ⟨hG 1 3 12 13 14 15 rfl rfl rfl rfl, hG 1 2 8 9 10 11 rfl rfl rfl rfl, hG 1 1 4 5 6 7 rfl rfl rfl rfl, hG 1 0 0 1 2 3 rfl rfl rfl rfl,
    hG 0 3 12 13 14 15 rfl rfl rfl rfl, hG 0 2 8 9 10 11 rfl rfl rfl rfl, hG 0 1 4 5 6 7 rfl rfl rfl rfl, hG 0 0 0 1 2 3 rfl rfl rfl rfl,
    fun _ h => absurd h List.not_mem_nil⟩

/-! ## The row maximum loop -/

theorem offQM_inb : ∀ (n : Fin 16) (k : Fin k0_t2_loop.trips) (r : Fin 2) (a : Fin 4),
    offQM n k (BitVec.ofNat 32 r.val) a + S1x1x128x128.size a ≤ S1x4x512x512.size a := by decide +kernel
theorem offKM_inb : ∀ (n : Fin 16) (k : Fin k0_t2_loop.trips) (r : Fin 2) (a : Fin 3),
    offKM n k (BitVec.ofNat 32 r.val) a + S1x256x128.size a ≤ S4x640x512.size a := by decide +kernel
theorem offBM_inb : ∀ (h : Fin 4) (i : grid0.Coords) (j : Fin 4) (a : Fin 4),
    offBM h i (BitVec.ofNat 32 j.val) a + S1x1x128x256.size a ≤ S4x4x128x256.size a := by decide +kernel
theorem offLM_inb : ∀ (j : Fin 4) (k : Fin k0_t2_loop.trips) (r : Fin 2) (a : Fin 4),
    offLM j k (BitVec.ofNat 32 r.val) a + S1x1x128x128.size a ≤ S1x4x512x128.size a := by decide +kernel

/-- The queries of tile `n` of a pass's plane `r`. -/
abbrev qM (k : Fin k0_t2_loop.trips) (r : Fin 2) (n : Fin 16) : Vec F S1x1x128x128 .bf16 :=
  View.readAt (Elt F) S.m0.view (Rect.unit (s := S1x4x512x512) (offQM n k (BitVec.ofNat 32 r.val)) S1x1x128x128.size (offQM_inb n k r)).toLoadRect (S.h0.unread x0)
abbrev kM (k : Fin k0_t2_loop.trips) (r : Fin 2) (n : Fin 16) : Vec F S1x256x128 .bf16 :=
  View.readAt (Elt F) kb.view (Rect.unit (s := S4x640x512) (offKM n k (BitVec.ofNat 32 r.val)) S1x256x128.size (offKM_inb n k r)).toLoadRect (padX x1)
abbrev vM (k : Fin k0_t2_loop.trips) (r : Fin 2) (n : Fin 16) : Vec F S1x256x128 .bf16 :=
  View.readAt (Elt F) vb.view (Rect.unit (s := S4x640x512) (offKM n k (BitVec.ofNat 32 r.val)) S1x256x128.size (offKM_inb n k r)).toLoadRect (padY x2)
abbrev bM (j h : Fin 4) : Vec F S1x1x128x256 .f32 :=
  View.readAt (Elt F) bm.view (Rect.unit (s := S4x4x128x256) (offBM h i (BitVec.ofNat 32 j.val)) S1x1x128x256.size (offBM_inb h i j)).toLoadRect (biasX x3)
/-- The scores of block `j`, head `h`. -/
abbrev sM (k : Fin k0_t2_loop.trips) (r : Fin 2) (j h : Fin 4) (n : Fin 16) : FVec F S128x256 .f32 :=
  sT (qM S x0 k r n) (kM x1 k r n) (bM i x3 j h)
/-- The weights of block `j`, head `h`. -/
abbrev pMx (k : Fin k0_t2_loop.trips) (r : Fin 2) (j h : Fin 4) (n : Fin 16) : FVec F S128x256 .f32 :=
  pM (sM i S x0 x1 x3 k r j h n)

theorem piecesM7 (k : Fin k0_t2_loop.trips) (G : S1x4x512x512.Idx → Elt F .bf16)
    (hG : ∀ (r : Fin 2) (j h : Fin 4) (n : Fin 16), n.val = 4 * j.val + h.val → ∀ x,
      oT (pMx i S x0 x1 x3 k r j h n) (vM x2 k r n) x
        = G ((Rect.unit (s := S1x4x512x512) (offQM n k (BitVec.ofNat 32 r.val)) S1x1x128x128.size (offQM_inb n k r)).emb x)) :
    ∀ p ∈ (tripM c i S x0 x1 x2 x3 k).1, ∀ x, p.2 x = G (p.1.emb x) := by
  unfold tripM tripL_k0_t2 trip_k0_t2
  dsimp only
  simp only [List.forall_mem_cons]
  exact ⟨hG 1 3 3 15 rfl, hG 1 3 2 14 rfl, hG 1 3 1 13 rfl, hG 1 3 0 12 rfl,
    hG 1 2 3 11 rfl, hG 1 2 2 10 rfl, hG 1 2 1 9 rfl, hG 1 2 0 8 rfl,
    hG 1 1 3 7 rfl, hG 1 1 2 6 rfl, hG 1 1 1 5 rfl, hG 1 1 0 4 rfl,
    hG 1 0 3 3 rfl, hG 1 0 2 2 rfl, hG 1 0 1 1 rfl, hG 1 0 0 0 rfl,
    hG 0 3 3 15 rfl, hG 0 3 2 14 rfl, hG 0 3 1 13 rfl, hG 0 3 0 12 rfl,
    hG 0 2 3 11 rfl, hG 0 2 2 10 rfl, hG 0 2 1 9 rfl, hG 0 2 0 8 rfl,
    hG 0 1 3 7 rfl, hG 0 1 2 6 rfl, hG 0 1 1 5 rfl, hG 0 1 0 4 rfl,
    hG 0 0 3 3 rfl, hG 0 0 2 2 rfl, hG 0 0 1 1 rfl, hG 0 0 0 0 rfl, fun _ h => absurd h List.not_mem_nil⟩

theorem piecesM8 (k : Fin k0_t2_loop.trips) (G : S1x4x512x128.Idx → Elt F .f32)
    (hG : ∀ (r : Fin 2) (j : Fin 4) (n0 n1 n2 n3 : Fin 16), n0.val = 4 * j.val → n1.val = 4 * j.val + 1 → n2.val = 4 * j.val + 2 → n3.val = 4 * j.val + 3 → ∀ x,
      lT (mixT (mxT (sM i S x0 x1 x3 k r j 0 n0)) (mxT (sM i S x0 x1 x3 k r j 1 n1)) (mxT (sM i S x0 x1 x3 k r j 2 n2)) (mxT (sM i S x0 x1 x3 k r j 3 n3)))
          (mixT (denT (pMx i S x0 x1 x3 k r j 0 n0)) (denT (pMx i S x0 x1 x3 k r j 1 n1)) (denT (pMx i S x0 x1 x3 k r j 2 n2)) (denT (pMx i S x0 x1 x3 k r j 3 n3))) x
        = G ((Rect.unit (s := S1x4x512x128) (offLM j k (BitVec.ofNat 32 r.val)) S1x1x128x128.size (offLM_inb j k r)).emb x)) :
    ∀ p ∈ (tripM c i S x0 x1 x2 x3 k).2, ∀ x, p.2 x = G (p.1.emb x) := by
  unfold tripM tripL_k0_t2 trip_k0_t2
  dsimp only
  simp only [List.forall_mem_cons]
  exact ⟨hG 1 3 12 13 14 15 rfl rfl rfl rfl, hG 1 2 8 9 10 11 rfl rfl rfl rfl, hG 1 1 4 5 6 7 rfl rfl rfl rfl, hG 1 0 0 1 2 3 rfl rfl rfl rfl,
    hG 0 3 12 13 14 15 rfl rfl rfl rfl, hG 0 2 8 9 10 11 rfl rfl rfl rfl, hG 0 1 4 5 6 7 rfl rfl rfl rfl, hG 0 0 0 1 2 3 rfl rfl rfl rfl,
    fun _ h => absurd h List.not_mem_nil⟩

end Cert.Proof.KI

end
-- ==== Proof.Reads.lean ====
/-
  What the kernel reads: a tile of queries, a window of the padded keys or values, an entry of the bias table.
-/
module

public import proofs.«01_k».proof.Proof.Pieces
public import Idealize.ShloMosaic.Lib.Pipeline.ValueKit

@[expose] public section

set_option maxRecDepth 16384
set_option maxHeartbeats 1000000

noncomputable section

namespace Cert.Proof.KI

open Cert.KernelIdeal Cert.KernelIdeal.Gen
open Idealize.ShloMosaic
open Idealize.ShloMosaic.TcCoe

/-- Row `r` of block `j` of a plane. -/
def rowOf (j : Fin 4) (r : Fin 128) : Fin 512 := ⟨128 * j.val + r.val, by omega⟩
/-- Column `d` of head `h`. -/
def colOf (h : Fin 4) (d : Fin 128) : Fin 512 := ⟨128 * h.val + d.val, by omega⟩

theorem q_at (m : Memref sig .tc .vmem S1x4x512x512 .bf16) (hm : m.IsWhole) (x : Vec Ideal S1x4x512x512 .bf16)
    (off : Fin 4 → ℕ) (inb : ∀ a, off a + S1x1x128x128.size a ≤ S1x4x512x512.size a) (pl j h : Fin 4)
    (ho : off = ![0, pl.val, 128 * j.val, 128 * h.val]) (r d : Fin 128) :
    View.readAt (Elt Ideal) m.view (Rect.unit (s := S1x4x512x512) off S1x1x128x128.size inb).toLoadRect (hm.unread x) (ix4 0 0 r d)
      = x (ix4 0 pl (rowOf j r) (colOf h d)) := by
  subst ho
  rw [hm.readAt_unread]
  refine congrArg x (funext fun a => Fin.ext ?_)
  fin_cases a <;> simp [LoadRect.idx_apply, ix4, rowOf, colOf]

/-- The padded planes: 64 zero rows, the 512 rows, 64 zero rows. -/
def padG (x : Vec Ideal S1x4x512x512 .bf16) (pl : Fin 4) (a : Fin 640) (col : Fin 512) : EReal :=
  if h : 64 ≤ a.val ∧ a.val < 576 then x (ix4 0 pl ⟨a.val - 64, by omega⟩ col) else 0

theorem padPc_at (y : S1x64x512.Idx) : (padPc (F := Ideal)) y = 0 := by
  pointwise [padPc]

theorem midPc_at (v : Vec Ideal S1x1x512x512 .bf16) (a b : Fin 512) : midPc v (ix3 0 a b) = v (ix4 0 0 a b) := by
  pointwise [midPc]

theorem padG_zero (x : Vec Ideal S1x4x512x512 .bf16) (pl : Fin 4) (a : Fin 640) (col : Fin 512) (h : ¬ (64 ≤ a.val ∧ a.val < 576)) :
    padG x pl a col = 0 := dif_neg h

/-- A zero row before the plane. -/
theorem padG_lo (x : Vec Ideal S1x4x512x512 .bf16) (p : Fin 4) (inb : ∀ a, (![p.val, 0, 0] : Fin 3 → ℕ) a + S1x64x512.size a ≤ S4x640x512.size a)
    (y : (Rect.unit (s := S4x640x512) ![p.val, 0, 0] S1x64x512.size inb).shape.Idx) :
    (padPc (F := Ideal)) y = (fun y : S4x640x512.Idx => padG x (y 0) (y 1) (y 2)) ((Rect.unit (s := S4x640x512) ![p.val, 0, 0] S1x64x512.size inb).emb y) := by
  refine (padPc_at y).trans (padG_zero x _ _ _ fun hh => ?_).symm
  have h1 : (y 1).val < 64 := (y 1).isLt
  have h2 := hh.1
  have e : ((Rect.unit (s := S4x640x512) ![p.val, 0, 0] S1x64x512.size inb).emb y 1).val = 0 + 1 * (y 1).val := rfl
  rw [e] at h2
  omega

/-- A zero row after the plane. -/
theorem padG_hi (x : Vec Ideal S1x4x512x512 .bf16) (p : Fin 4) (inb : ∀ a, (![p.val, 576, 0] : Fin 3 → ℕ) a + S1x64x512.size a ≤ S4x640x512.size a)
    (y : (Rect.unit (s := S4x640x512) ![p.val, 576, 0] S1x64x512.size inb).shape.Idx) :
    (padPc (F := Ideal)) y = (fun y : S4x640x512.Idx => padG x (y 0) (y 1) (y 2)) ((Rect.unit (s := S4x640x512) ![p.val, 576, 0] S1x64x512.size inb).emb y) := by
  refine (padPc_at y).trans (padG_zero x _ _ _ fun hh => ?_).symm
  have h2 := hh.2
  have e : ((Rect.unit (s := S4x640x512) ![p.val, 576, 0] S1x64x512.size inb).emb y 1).val = 576 + 1 * (y 1).val := rfl
  rw [e] at h2
  omega

/-- A row of the plane. -/
theorem padG_mid (x : Vec Ideal S1x4x512x512 .bf16) (p : Fin 4) (inb : ∀ a, (![p.val, 64, 0] : Fin 3 → ℕ) a + S1x512x512.size a ≤ S4x640x512.size a)
    (v : Vec Ideal S1x1x512x512 .bf16) (hv : ∀ a b : Fin 512, v (ix4 0 0 a b) = x (ix4 0 p a b))
    (y : (Rect.unit (s := S4x640x512) ![p.val, 64, 0] S1x512x512.size inb).shape.Idx) :
    midPc v y = (fun y : S4x640x512.Idx => padG x (y 0) (y 1) (y 2)) ((Rect.unit (s := S4x640x512) ![p.val, 64, 0] S1x512x512.size inb).emb y) := by
  have h0 : (y 0).val < 1 := (y 0).isLt
  have h1 : (y 1).val < 512 := (y 1).isLt
  have h2 : (y 2).val < 512 := (y 2).isLt
  have ey : y = ix3 (n0 := 1) (n1 := 512) (n2 := 512) 0 ⟨(y 1).val, h1⟩ ⟨(y 2).val, h2⟩ := by
    funext a
    apply Fin.ext
    fin_cases a
    · show (y 0).val = 0
      omega
    · rfl
    · rfl
  have e0 : ((Rect.unit (s := S4x640x512) ![p.val, 64, 0] S1x512x512.size inb).emb y 0).val = p.val + 1 * (y 0).val := rfl
  have e1 : ((Rect.unit (s := S4x640x512) ![p.val, 64, 0] S1x512x512.size inb).emb y 1).val = 64 + 1 * (y 1).val := rfl
  have e2 : ((Rect.unit (s := S4x640x512) ![p.val, 64, 0] S1x512x512.size inb).emb y 2).val = 0 + 1 * (y 2).val := rfl
  refine (congrArg (midPc v) ey).trans ((midPc_at v _ _).trans ((hv _ _).trans (Eq.trans ?_ (dif_pos ⟨?_, ?_⟩).symm)))
  · refine congrArg x (funext fun a => Fin.ext ?_)
    fin_cases a
    · rfl
    · show p.val = ((Rect.unit (s := S4x640x512) ![p.val, 64, 0] S1x512x512.size inb).emb y 0).val
      omega
    · show (y 1).val = ((Rect.unit (s := S4x640x512) ![p.val, 64, 0] S1x512x512.size inb).emb y 1).val - 64
      omega
    · show (y 2).val = ((Rect.unit (s := S4x640x512) ![p.val, 64, 0] S1x512x512.size inb).emb y 2).val
      omega
  · omega
  · omega

theorem plane_at (x : Vec Ideal S1x4x512x512 .bf16) (a b : Fin 512) :
    plane0 x (ix4 0 0 a b) = x (ix4 0 0 a b) ∧ plane1 x (ix4 0 0 a b) = x (ix4 0 1 a b)
      ∧ plane2 x (ix4 0 0 a b) = x (ix4 0 2 a b) ∧ plane3 x (ix4 0 0 a b) = x (ix4 0 3 a b) := by
  refine ⟨?_, ?_, ?_, ?_⟩ <;>
    (refine congrArg x (funext fun i => Fin.ext ?_); fin_cases i <;> simp [LoadRect.idx_apply, ix4])

theorem padL_agree (x : Vec Ideal S1x4x512x512 .bf16) :
    ∀ p ∈ padL (F := Ideal) (plane0 x) (plane1 x) (plane2 x) (plane3 x), ∀ y,
      p.2 y = (fun y : S4x640x512.Idx => padG x (y 0) (y 1) (y 2)) (p.1.emb y) := by
  unfold padL
  simp only [List.forall_mem_cons]
  exact ⟨padG_hi x 3 _, padG_mid x 3 _ _ (fun a b => (plane_at x a b).2.2.2), padG_lo x 3 _,
    padG_hi x 2 _, padG_mid x 2 _ _ (fun a b => (plane_at x a b).2.2.1), padG_lo x 2 _,
    padG_hi x 1 _, padG_mid x 1 _ _ (fun a b => (plane_at x a b).2.1), padG_lo x 1 _,
    padG_hi x 0 _, padG_mid x 0 _ _ (fun a b => (plane_at x a b).1), padG_lo x 0 _,
    fun _ h => absurd h List.not_mem_nil⟩

theorem padX_read (x : Vec Ideal S1x4x512x512 .bf16) (y : S4x640x512.Idx) :
    kb.view.read (Elt Ideal) (padX x) y = padG x (y 0) (y 1) (y 2) := by
  unfold padX
  exact View.read_writes_apply_of_pieces (Val := Elt Ideal) kb.view kb.view.junk (fun y : S4x640x512.Idx => padG x (y 0) (y 1) (y 2))
    (padL (F := Ideal) (plane0 x) (plane1 x) (plane2 x) (plane3 x)) (padL_agree x) y (padL_cover _ _ _ _ y)
theorem padY_read (x : Vec Ideal S1x4x512x512 .bf16) (y : S4x640x512.Idx) :
    vb.view.read (Elt Ideal) (padY x) y = padG x (y 0) (y 1) (y 2) := by
  unfold padY
  exact View.read_writes_apply_of_pieces (Val := Elt Ideal) vb.view vb.view.junk (fun y : S4x640x512.Idx => padG x (y 0) (y 1) (y 2))
    (padL (F := Ideal) (plane0 x) (plane1 x) (plane2 x) (plane3 x)) (padL_agree x) y (padL_cover _ _ _ _ y)

/-- Key `k` of block `j`'s window, in the padded plane. -/
def winOf (j : Fin 4) (k : Fin 256) : Fin 640 := ⟨128 * j.val + k.val, by omega⟩

theorem win_at (x : Vec Ideal S1x4x512x512 .bf16) (off : Fin 3 → ℕ) (inb : ∀ a, off a + S1x256x128.size a ≤ S4x640x512.size a)
    (pl j h : Fin 4) (ho : off = ![pl.val, 128 * j.val, 128 * h.val]) (k : Fin 256) (d : Fin 128) :
    View.readAt (Elt Ideal) kb.view (Rect.unit (s := S4x640x512) off S1x256x128.size inb).toLoadRect (padX x) (ix3 0 k d)
        = padG x pl (winOf j k) (colOf h d)
      ∧ View.readAt (Elt Ideal) vb.view (Rect.unit (s := S4x640x512) off S1x256x128.size inb).toLoadRect (padY x) (ix3 0 k d)
        = padG x pl (winOf j k) (colOf h d) := by
  subst ho
  have e : (Rect.unit (s := S4x640x512) ![pl.val, 128 * j.val, 128 * h.val] S1x256x128.size inb).toLoadRect.idx (ix3 0 k d)
      = ix3 pl (winOf j k) (colOf h d) := by
    refine funext fun a => Fin.ext ?_
    fin_cases a <;> simp [LoadRect.idx_apply, ix3, winOf, colOf]
  constructor
  · exact (congrArg (kb.view.read (Elt Ideal) (padX x)) e).trans (padX_read x _)
  · exact (congrArg (vb.view.read (Elt Ideal) (padY x)) e).trans (padY_read x _)

end Cert.Proof.KI

end
-- ==== Proof.Bias.lean ====
/-
  The bias table at an index, and what the loops read of it.
-/
module

public import proofs.«01_k».proof.Proof.Reads

@[expose] public section

set_option maxRecDepth 16384
set_option maxHeartbeats 1000000

noncomputable section

namespace Cert.Proof.KI

open Cert.KernelIdeal Cert.KernelIdeal.Gen
open Idealize.ShloMosaic
open Idealize.ShloMosaic.TcCoe

/-- The distance of query `r` of a block from key `k` of its window. -/
def distN (r : Fin 128) (k : Fin 256) : ℕ := (r.val + 64 - k.val) + (k.val - (r.val + 64))

theorem distI_bits (r : Fin 128) (k : Fin 256) :
    IntOp.absi (IntOp.subi (IntOp.addi (BitVec.ofNat 32 r.val) 64#32) (BitVec.ofNat 32 k.val)) = BitVec.ofNat 32 (distN r k) := by
  revert r k
  decide +kernel

theorem distI_at (r : Fin 128) (k : Fin 256) : distI (ix2 r k) = BitVec.ofNat 32 (distN r k) := by
  refine Eq.trans ?_ (distI_bits r k)
  pointwise [distI]

theorem biasBase_at (sl sh : EReal) (r : Fin 128) (k : Fin 256) :
    biasBase (F := Ideal) sl sh (ix2 r k) = if distN r k ≤ 64 then sl * (((distN r k : ℕ) : ℝ) : EReal) - sh else ⊥ := by
  unfold biasBase
  generalize hd : distI = D
  pointwise
  rw [← hd, distI_at]
  have hlt : distN r k < 2 ^ 10 := by
    unfold distN
    omega
  have hs : (FloatOps.sitofp (F := Ideal) FTy.f32 (BitVec.ofNat 32 (distN r k))) = (((distN r k : ℕ) : ℝ) : EReal) := by
    have e : (BitVec.ofNat 32 (distN r k)).toInt = (distN r k : ℤ) := by
      have e' : (BitVec.ofNat 32 (distN r k)).toNat = distN r k := by
        rw [BitVec.toNat_ofNat]
        omega
      rw [BitVec.toInt_eq_toNat_of_lt (by rw [e']; omega), e']
    show ((((BitVec.ofNat 32 (distN r k)).toInt : ℤ) : ℝ) : EReal) = _
    rw [e]
    simp
  have hc : IntOp.cmpi .sle (BitVec.ofNat 32 (distN r k)) 64#32 = if distN r k ≤ 64 then 1#1 else 0#1 := by
    have h : ∀ n : Fin 1024, IntOp.cmpi .sle (BitVec.ofNat 32 n.val) 64#32 = if n.val ≤ 64 then 1#1 else 0#1 := by decide +kernel
    exact h ⟨_, hlt⟩
  rw [hc]
  refine (congrArg (fun z => Scalar.select _ (sl * z - sh) _) hs).trans ?_
  split <;> rfl

theorem biasLo_at (b : FVec Ideal S128x256 .f32) (r : Fin 128) (k : Fin 256) :
    biasLo b (ix2 r k) = if 64 ≤ k.val then b (ix2 r k) else (⊥ : EReal) := by
  have hc : ∀ k : Fin 256, IntOp.cmpi .sge (BitVec.ofNat 32 k.val) 64#32 = if 64 ≤ k.val then 1#1 else 0#1 := by decide +kernel
  unfold biasLo
  pointwise
  rw [hc]
  split <;> rfl

theorem biasHi_at (b : FVec Ideal S128x256 .f32) (r : Fin 128) (k : Fin 256) :
    biasHi b (ix2 r k) = if k.val < 192 then b (ix2 r k) else (⊥ : EReal) := by
  have hc : ∀ k : Fin 256, IntOp.cmpi .slt (BitVec.ofNat 32 k.val) 192#32 = if k.val < 192 then 1#1 else 0#1 := by decide +kernel
  unfold biasHi
  pointwise
  rw [hc]
  split <;> rfl

/-- The slopes of the four heads, over the logarithm of two. -/
def slopeV : Fin 4 → EReal := ![slope0 (F := Ideal), slope1 (F := Ideal), slope2 (F := Ideal), slope3 (F := Ideal)]

/-- Key `k` of the window is in the plane and near query `r`, in a block of variant `v`. -/
def okV (v : ℕ) (r : Fin 128) (k : Fin 256) : Prop :=
  distN r k ≤ 64 ∧ (v % 2 = 1 → 64 ≤ k.val) ∧ (2 ≤ v → k.val < 192)

instance (v : ℕ) (r : Fin 128) (k : Fin 256) : Decidable (okV v r k) := by
  unfold okV
  infer_instance

def biasG (sh : EReal) (v : ℕ) (h : Fin 4) (r : Fin 128) (k : Fin 256) : EReal :=
  if okV v r k then slopeV h * (((distN r k : ℕ) : ℝ) : EReal) - sh else ⊥

/-- A piece of the table, from what it holds at an index. -/
theorem bias_piece (sh : EReal) (v h : Fin 4) (inb : ∀ a, (![v.val, h.val, 0, 0] : Fin 4 → ℕ) a + S1x1x128x256.size a ≤ S4x4x128x256.size a)
    (b : FVec Ideal S128x256 .f32) (hb : ∀ r k, b (ix2 r k) = biasG sh v.val h r k)
    (y : (Rect.unit (s := S4x4x128x256) ![v.val, h.val, 0, 0] S1x1x128x256.size inb).shape.Idx) :
    biasPc b y = (fun y : S4x4x128x256.Idx => biasG sh (y 0).val (y 1) (y 2) (y 3))
      ((Rect.unit (s := S4x4x128x256) ![v.val, h.val, 0, 0] S1x1x128x256.size inb).emb y) := by
  have h0 : (y 0).val < 1 := (y 0).isLt
  have h1 : (y 1).val < 1 := (y 1).isLt
  have h2 : (y 2).val < 128 := (y 2).isLt
  have h3 : (y 3).val < 256 := (y 3).isLt
  have ey : y = ix4 (n0 := 1) (n1 := 1) (n2 := 128) (n3 := 256) 0 0 ⟨(y 2).val, h2⟩ ⟨(y 3).val, h3⟩ := by
    funext a
    apply Fin.ext
    fin_cases a
    · show (y 0).val = 0
      omega
    · show (y 1).val = 0
      omega
    · rfl
    · rfl
  have e0 : ((Rect.unit (s := S4x4x128x256) ![v.val, h.val, 0, 0] S1x1x128x256.size inb).emb y 0).val = v.val := by
    show v.val + 1 * (y 0).val = _
    omega
  have e1 : ((Rect.unit (s := S4x4x128x256) ![v.val, h.val, 0, 0] S1x1x128x256.size inb).emb y 1) = h := by
    apply Fin.ext
    show h.val + 1 * (y 1).val = _
    omega
  have e2 : ((Rect.unit (s := S4x4x128x256) ![v.val, h.val, 0, 0] S1x1x128x256.size inb).emb y 2) = (⟨(y 2).val, h2⟩ : Fin 128) := by
    apply Fin.ext
    show 0 + 1 * (y 2).val = (y 2).val
    omega
  have e3 : ((Rect.unit (s := S4x4x128x256) ![v.val, h.val, 0, 0] S1x1x128x256.size inb).emb y 3) = (⟨(y 3).val, h3⟩ : Fin 256) := by
    apply Fin.ext
    show 0 + 1 * (y 3).val = (y 3).val
    omega
  have ep : ∀ (r : Fin 128) (k : Fin 256), biasPc b (ix4 0 0 r k) = b (ix2 r k) := fun r k => by pointwise [biasPc]
  dsimp only
  rw [e0, e1, e2, e3]
  exact (congrArg (biasPc b) ey).trans ((ep _ _).trans (hb _ _))

theorem bias0 (sh : EReal) (h : Fin 4) (r : Fin 128) (k : Fin 256) :
    biasBase (F := Ideal) (slopeV h) sh (ix2 r k) = biasG sh 0 h r k := by
  rw [biasBase_at]
  exact if_congr (by simp [okV]) rfl rfl
theorem bias1 (sh : EReal) (h : Fin 4) (r : Fin 128) (k : Fin 256) :
    biasLo (biasBase (F := Ideal) (slopeV h) sh) (ix2 r k) = biasG sh 1 h r k := by
  rw [biasLo_at, biasBase_at, ← ite_and]
  exact if_congr (by simp [okV, and_comm]) rfl rfl
theorem bias2 (sh : EReal) (h : Fin 4) (r : Fin 128) (k : Fin 256) :
    biasHi (biasBase (F := Ideal) (slopeV h) sh) (ix2 r k) = biasG sh 2 h r k := by
  rw [biasHi_at, biasBase_at, ← ite_and]
  exact if_congr (by simp [okV, and_comm]) rfl rfl
theorem bias3 (sh : EReal) (h : Fin 4) (r : Fin 128) (k : Fin 256) :
    biasHi (biasLo (biasBase (F := Ideal) (slopeV h) sh)) (ix2 r k) = biasG sh 3 h r k := by
  rw [biasHi_at, bias1, biasG, ← ite_and]
  exact if_congr (by simp [okV]; tauto) rfl rfl

theorem biasL_agree (a b : EReal) :
    ∀ p ∈ biasL (F := Ideal) a b, ∀ y, p.2 y = (fun y : S4x4x128x256.Idx => biasG (shiftW (F := Ideal) a b) (y 0).val (y 1) (y 2) (y 3)) (p.1.emb y) := by
  unfold biasL
  simp only [List.forall_mem_cons]
  exact ⟨bias_piece _ 3 3 _ _ (bias3 _ 3), bias_piece _ 2 3 _ _ (bias2 _ 3), bias_piece _ 1 3 _ _ (bias1 _ 3), bias_piece _ 0 3 _ _ (bias0 _ 3),
    bias_piece _ 3 2 _ _ (bias3 _ 2), bias_piece _ 2 2 _ _ (bias2 _ 2), bias_piece _ 1 2 _ _ (bias1 _ 2), bias_piece _ 0 2 _ _ (bias0 _ 2),
    bias_piece _ 3 1 _ _ (bias3 _ 1), bias_piece _ 2 1 _ _ (bias2 _ 1), bias_piece _ 1 1 _ _ (bias1 _ 1), bias_piece _ 0 1 _ _ (bias0 _ 1),
    bias_piece _ 3 0 _ _ (bias3 _ 0), bias_piece _ 2 0 _ _ (bias2 _ 0), bias_piece _ 1 0 _ _ (bias1 _ 0), bias_piece _ 0 0 _ _ (bias0 _ 0),
    fun _ h => absurd h List.not_mem_nil⟩

theorem biasX_read (x3 : Vec Ideal S2 .f32) (y : S4x4x128x256.Idx) :
    bm.view.read (Elt Ideal) (biasX x3) y = biasG (shiftW (F := Ideal) (ctlA x3) (ctlB x3)) (y 0).val (y 1) (y 2) (y 3) := by
  unfold biasX
  exact View.read_writes_apply_of_pieces (Val := Elt Ideal) bm.view bm.view.junk
    (fun y : S4x4x128x256.Idx => biasG (shiftW (F := Ideal) (ctlA x3) (ctlB x3)) (y 0).val (y 1) (y 2) (y 3))
    (biasL (F := Ideal) (ctlA x3) (ctlB x3)) (biasL_agree _ _) y (biasL_cover _ _ y)

/-- A block's variant: one at the first block, two at the last. -/
def varOf (j : Fin 4) : ℕ := (if j.val = 0 then 1 else 0) + 2 * (if j.val = 3 then 1 else 0)

theorem bias_at (x3 : Vec Ideal S2 .f32) (off : Fin 4 → ℕ) (inb : ∀ a, off a + S1x1x128x256.size a ≤ S4x4x128x256.size a)
    (j h : Fin 4) (ho : off = ![(if j.val = 0 then 1 else 0) + 2 * (if j.val = 3 then 1 else 0), h.val, 0, 0]) (r : Fin 128) (k : Fin 256) :
    View.readAt (Elt Ideal) bm.view (Rect.unit (s := S4x4x128x256) off S1x1x128x256.size inb).toLoadRect (biasX x3) (ix4 0 0 r k)
      = biasG (shiftW (F := Ideal) (ctlA x3) (ctlB x3)) (varOf j) h r k := by
  subst ho
  have hv : varOf j < 4 := by
    unfold varOf
    split <;> split <;> omega
  have e : (Rect.unit (s := S4x4x128x256) ![(if j.val = 0 then 1 else 0) + 2 * (if j.val = 3 then 1 else 0), h.val, 0, 0] S1x1x128x256.size inb).toLoadRect.idx (ix4 0 0 r k)
      = ix4 (⟨varOf j, hv⟩ : Fin 4) h r k := by
    refine funext fun a => Fin.ext ?_
    fin_cases a <;> simp [LoadRect.idx_apply, ix4, varOf]
  exact (congrArg (bm.view.read (Elt Ideal) (biasX x3)) e).trans (biasX_read x3 _)

end Cert.Proof.KI

end
-- ==== Proof.Block.lean ====
/-
  What the body leaves in a point's two result blocks, at an index.
-/
module

public import proofs.«01_k».proof.Proof.Bias

@[expose] public section

set_option maxRecDepth 16384
set_option maxHeartbeats 1000000

noncomputable section

namespace Cert.Proof.KI

open Cert.KernelIdeal Cert.KernelIdeal.Gen
open Idealize.ShloMosaic
open Idealize.ShloMosaic.TcCoe

/-- The block of a row (or the head of a column). -/
def blkOf (a : Fin 512) : Fin 4 := ⟨a.val / 128, by omega⟩
/-- The row inside its block. -/
def posOf (a : Fin 512) : Fin 128 := ⟨a.val % 128, by omega⟩
/-- The head of a lane. -/
def laneHead (l : Fin 128) : Fin 4 := ⟨l.val / 32, by omega⟩

/-- The scores of a query against its window's keys. -/
def scoreB (x0 x1 : Vec Ideal S1x4x512x512 .bf16) (sh : EReal) (pl j h : Fin 4) (r : Fin 128) (k : Fin 256) : EReal :=
  (∑ d : Fin 128, x0 (ix4 0 pl (rowOf j r) (colOf h d)) * padG x1 pl (winOf j k) (colOf h d)) + biasG sh (varOf j) h r k

/-- The greatest score of a row. -/
def topB (s : Fin 256 → EReal) : EReal := Finset.univ.fold max (⊥ : EReal) s

/-- The output from the weights. -/
def outB (w : Fin 256 → EReal) (x2 : Vec Ideal S1x4x512x512 .bf16) (pl j h : Fin 4) (c : Fin 128) : EReal :=
  (∑ k : Fin 256, w k * padG x2 pl (winOf j k) (colOf h c)) * Ideal.div 1 (∑ k : Fin 256, w k)

/-- The logarithm of the sum of exponentials from the shift and the weights. -/
def lseB (m : EReal) (w : Fin 256 → EReal) : EReal :=
  (m + Ideal.log (∑ k : Fin 256, w k) * (((Real.log 2)⁻¹ : ℝ) : EReal)) * ((Real.log 2 : ℝ) : EReal)

/-- The fixed shift's weights. -/
def wF (s : Fin 256 → EReal) (k : Fin 256) : EReal := Ideal.exp2 (s k)
/-- The row maximum's weights. -/
def wM (s : Fin 256 → EReal) (k : Fin 256) : EReal := Ideal.exp2 (s k - topB s)

section
variable (qv : Vec Ideal S1x1x128x128 .bf16) (kv vv : Vec Ideal S1x256x128 .bf16) (bv : Vec Ideal S1x1x128x256 .f32)
  (x0 x1 x2 : Vec Ideal S1x4x512x512 .bf16) (sh : EReal) (pl j h : Fin 4)

/-- What the four loads of a tile read. -/
structure TileReads : Prop where
  q : ∀ r d, qv (ix4 0 0 r d) = x0 (ix4 0 pl (rowOf j r) (colOf h d))
  k : ∀ k d, kv (ix3 0 k d) = padG x1 pl (winOf j k) (colOf h d)
  v : ∀ k d, vv (ix3 0 k d) = padG x2 pl (winOf j k) (colOf h d)
  b : ∀ r k, bv (ix4 0 0 r k) = biasG sh (varOf j) h r k

variable {qv kv vv bv x0 x1 x2 sh pl j h} (H : TileReads qv kv vv bv x0 x1 x2 sh pl j h)
include H

theorem score_eq (r : Fin 128) (k : Fin 256) : sT qv kv bv (ix2 r k) = scoreB x0 x1 sh pl j h r k := by
  rw [sT_at, H.b]
  unfold scoreB
  refine congrArg (· + _) (Finset.sum_congr rfl fun d _ => ?_)
  rw [H.q, H.k]

theorem top_eq (r : Fin 128) (z : Fin 1) : mxT (sT qv kv bv) (ix2 r z) = topB (scoreB x0 x1 sh pl j h r) := by
  rw [mxT_at]
  unfold topB
  exact congrArg (Finset.univ.fold max (⊥ : EReal)) (funext fun k => score_eq H r k)

theorem wF_eq (r : Fin 128) (k : Fin 256) : (exp2 (sT qv kv bv) : FVec Ideal S128x256 .f32) (ix2 r k) = wF (scoreB x0 x1 sh pl j h r) k :=
  congrArg Ideal.exp2 (score_eq H r k)

theorem wM_eq (r : Fin 128) (k : Fin 256) : pM (sT qv kv bv) (ix2 r k) = wM (scoreB x0 x1 sh pl j h r) k := by
  rw [pM_at, score_eq H r k]
  unfold wM topB
  refine congrArg (fun t => Ideal.exp2 (_ - t)) (congrArg (Finset.univ.fold max (⊥ : EReal)) (funext fun k => score_eq H r k))

theorem out_eq (p : FVec Ideal S128x256 .f32) (w : Fin 128 → Fin 256 → EReal) (hp : ∀ r k, p (ix2 r k) = w r k) (r c : Fin 128) :
    oT p vv (ix4 0 0 r c) = outB (w r) x2 pl j h c := by
  rw [oT_at]
  unfold outB
  simp only [H.v, hp]

end

theorem den_eq (p : FVec Ideal S128x256 .f32) (w : Fin 128 → Fin 256 → EReal) (hp : ∀ r k, p (ix2 r k) = w r k) (r : Fin 128) (z : Fin 1) :
    denT p (ix2 r z) = ∑ k, w r k := by
  rw [denT_at]
  exact Finset.sum_congr rfl fun k _ => hp r k

/-- Four columns mixed over the lanes: the lane's head's. -/
theorem mix_head (a : Fin 4 → FVec Ideal S128x1 .f32) (r l : Fin 128) :
    mixT (a 0) (a 1) (a 2) (a 3) (ix2 r l) = a (laneHead l) (ix2 r 0) := by
  rw [mixT_at]
  have hl := l.isLt
  split
  · rw [show laneHead l = 3 from Fin.ext (show l.val / 32 = 3 by omega)]
  · split
    · rw [show laneHead l = 2 from Fin.ext (show l.val / 32 = 2 by omega)]
    · split
      · rw [show laneHead l = 1 from Fin.ext (show l.val / 32 = 1 by omega)]
      · rw [show laneHead l = 0 from Fin.ext (show l.val / 32 = 0 by omega)]

section
variable (c : Dev nD) (i : grid0.Coords) (S : Stg) (x0 x1 x2 : Vec Ideal S1x4x512x512 .bf16) (x3 : Vec Ideal S2 .f32)

/-- The shift of the bias table. -/
abbrev shB : EReal := shiftW (F := Ideal) (ctlA x3) (ctlB x3)

/-- Plane `r` of pass `k`. -/
def plOf (k : Fin 2) (r : Fin 2) : Fin 4 := ⟨2 * k.val + r.val, by omega⟩

theorem reads_F (k : Fin 2) (r : Fin 2) (j h : Fin 4) (n : Fin 16) (hn : n.val = 4 * j.val + h.val) :
    TileReads (qF S x0 k r n) (kF x1 k r n) (vF x2 k r n) (bF i x3 j h) x0 x1 x2 (shB x3) (plOf k r) j h := by
  have e4 : n.val / 4 = j.val := by omega
  have e5 : n.val % 4 = h.val := by omega
  have hq := offQF_eq n k r
  have hk := offKF_eq n k r
  rw [e4, e5] at hq hk
  exact ⟨fun r' d => q_at S.m0 S.h0 x0 _ _ (plOf k r) j h hq r' d, fun k' d => (win_at x1 _ _ (plOf k r) j h hk k' d).1,
    fun k' d => (win_at x2 _ _ (plOf k r) j h hk k' d).2, fun r' k' => bias_at x3 _ _ j h (offBF_eq h i j) r' k'⟩

theorem reads_M (k : Fin 2) (r : Fin 2) (j h : Fin 4) (n : Fin 16) (hn : n.val = 4 * j.val + h.val) :
    TileReads (qM S x0 k r n) (kM x1 k r n) (vM x2 k r n) (bM i x3 j h) x0 x1 x2 (shB x3) (plOf k r) j h := by
  have e4 : n.val / 4 = j.val := by omega
  have e5 : n.val % 4 = h.val := by omega
  have hq := offQM_eq n k r
  have hk := offKM_eq n k r
  rw [e4, e5] at hq hk
  exact ⟨fun r' d => q_at S.m0 S.h0 x0 _ _ (plOf k r) j h hq r' d, fun k' d => (win_at x1 _ _ (plOf k r) j h hk k' d).1,
    fun k' d => (win_at x2 _ _ (plOf k r) j h hk k' d).2, fun r' k' => bias_at x3 _ _ j h (offBM_eq h i j) r' k'⟩

/-- The output at an index of the block, for weights `W`. -/
def G7 (W : (Fin 256 → EReal) → Fin 256 → EReal) (x0 x1 x2 : Vec Ideal S1x4x512x512 .bf16) (sh : EReal) (pl : Fin 4) (a col : Fin 512) : EReal :=
  outB (W (scoreB x0 x1 sh pl (blkOf a) (blkOf col) (posOf a))) x2 pl (blkOf a) (blkOf col) (posOf col)

/-- The logarithm of the sum of exponentials at an index of the block, for weights `W` and the shift `m`. -/
def G8 (m : (Fin 256 → EReal) → EReal) (W : (Fin 256 → EReal) → Fin 256 → EReal) (x0 x1 : Vec Ideal S1x4x512x512 .bf16) (sh : EReal) (pl : Fin 4) (a : Fin 512) (l : Fin 128) : EReal :=
  lseB (m (scoreB x0 x1 sh pl (blkOf a) (laneHead l) (posOf a))) (W (scoreB x0 x1 sh pl (blkOf a) (laneHead l) (posOf a)))

theorem G7_tile (W : (Fin 256 → EReal) → Fin 256 → EReal) (sh : EReal) (pl j h : Fin 4) (t : FVec Ideal S1x1x128x128 .bf16)
    (ht : ∀ r c, t (ix4 0 0 r c) = outB (W (scoreB x0 x1 sh pl j h r)) x2 pl j h c) (off : Fin 4 → ℕ)
    (inb : ∀ a, off a + S1x1x128x128.size a ≤ S1x4x512x512.size a) (ho : off = ![0, pl.val, 128 * j.val, 128 * h.val]) (x : S1x1x128x128.Idx) :
    t x = (fun y : S1x4x512x512.Idx => G7 W x0 x1 x2 sh (y 1) (y 2) (y 3)) ((Rect.unit (s := S1x4x512x512) off S1x1x128x128.size inb).emb x) := by
  subst ho
  have h0 : (x 0).val < 1 := (x 0).isLt
  have h1 : (x 1).val < 1 := (x 1).isLt
  have h2 : (x 2).val < 128 := (x 2).isLt
  have h3 : (x 3).val < 128 := (x 3).isLt
  have ex : x = ix4 (n0 := 1) (n1 := 1) (n2 := 128) (n3 := 128) 0 0 ⟨(x 2).val, h2⟩ ⟨(x 3).val, h3⟩ := by
    funext a
    apply Fin.ext
    fin_cases a
    · show (x 0).val = 0
      omega
    · show (x 1).val = 0
      omega
    · rfl
    · rfl
  generalize hy : (Rect.unit (s := S1x4x512x512) ![0, pl.val, 128 * j.val, 128 * h.val] S1x1x128x128.size inb).emb x = y
  have e1 : y 1 = pl := Fin.ext (by rw [← hy]; show pl.val + 1 * (x 1).val = pl.val; omega)
  have v2 : (y 2).val = 128 * j.val + (x 2).val := by rw [← hy]; show 128 * j.val + 1 * (x 2).val = _; omega
  have v3 : (y 3).val = 128 * h.val + (x 3).val := by rw [← hy]; show 128 * h.val + 1 * (x 3).val = _; omega
  have b2 : blkOf (y 2) = j := Fin.ext (by show (y 2).val / 128 = j.val; omega)
  have b3 : blkOf (y 3) = h := Fin.ext (by show (y 3).val / 128 = h.val; omega)
  have p2 : posOf (y 2) = ⟨(x 2).val, h2⟩ := Fin.ext (by show (y 2).val % 128 = (x 2).val; omega)
  have p3 : posOf (y 3) = ⟨(x 3).val, h3⟩ := Fin.ext (by show (y 3).val % 128 = (x 3).val; omega)
  refine (congrArg t ex).trans ((ht _ _).trans ?_)
  dsimp only
  unfold G7
  rw [e1, b2, b3, p2, p3]

theorem G8_tile (m : (Fin 256 → EReal) → EReal) (W : (Fin 256 → EReal) → Fin 256 → EReal) (sh : EReal) (pl j : Fin 4) (t : FVec Ideal S1x1x128x128 .f32)
    (ht : ∀ r l, t (ix4 0 0 r l) = lseB (m (scoreB x0 x1 sh pl j (laneHead l) r)) (W (scoreB x0 x1 sh pl j (laneHead l) r))) (off : Fin 4 → ℕ)
    (inb : ∀ a, off a + S1x1x128x128.size a ≤ S1x4x512x128.size a) (ho : off = ![0, pl.val, 128 * j.val, 0]) (x : S1x1x128x128.Idx) :
    t x = (fun y : S1x4x512x128.Idx => G8 m W x0 x1 sh (y 1) (y 2) (y 3)) ((Rect.unit (s := S1x4x512x128) off S1x1x128x128.size inb).emb x) := by
  subst ho
  have h0 : (x 0).val < 1 := (x 0).isLt
  have h1 : (x 1).val < 1 := (x 1).isLt
  have h2 : (x 2).val < 128 := (x 2).isLt
  have h3 : (x 3).val < 128 := (x 3).isLt
  have ex : x = ix4 (n0 := 1) (n1 := 1) (n2 := 128) (n3 := 128) 0 0 ⟨(x 2).val, h2⟩ ⟨(x 3).val, h3⟩ := by
    funext a
    apply Fin.ext
    fin_cases a
    · show (x 0).val = 0
      omega
    · show (x 1).val = 0
      omega
    · rfl
    · rfl
  generalize hy : (Rect.unit (s := S1x4x512x128) ![0, pl.val, 128 * j.val, 0] S1x1x128x128.size inb).emb x = y
  have e1 : y 1 = pl := Fin.ext (by rw [← hy]; show pl.val + 1 * (x 1).val = pl.val; omega)
  have v2 : (y 2).val = 128 * j.val + (x 2).val := by rw [← hy]; show 128 * j.val + 1 * (x 2).val = _; omega
  have e3 : y 3 = (⟨(x 3).val, h3⟩ : Fin 128) := Fin.ext (by rw [← hy]; show 0 + 1 * (x 3).val = (x 3).val; omega)
  have b2 : blkOf (y 2) = j := Fin.ext (by show (y 2).val / 128 = j.val; omega)
  have p2 : posOf (y 2) = ⟨(x 2).val, h2⟩ := Fin.ext (by show (y 2).val % 128 = (x 2).val; omega)
  refine (congrArg t ex).trans ((ht _ _).trans ?_)
  dsimp only
  unfold G8
  rw [e1, b2, e3, p2]

/-- The logarithm's tile, from the four heads' shifts and sums. -/
theorem lse_tile (mm : FVec Ideal S128x128 .f32) (p : Fin 4 → FVec Ideal S128x256 .f32) (w : Fin 4 → Fin 128 → Fin 256 → EReal) (m : Fin 4 → Fin 128 → EReal)
    (hp : ∀ h r k, p h (ix2 r k) = w h r k) (hm : ∀ r l, mm (ix2 r l) = m (laneHead l) r) (r l : Fin 128) :
    lT mm (mixT (denT (p 0)) (denT (p 1)) (denT (p 2)) (denT (p 3))) (ix4 0 0 r l) = lseB (m (laneHead l) r) (w (laneHead l) r) := by
  rw [lT_at, hm]
  unfold lseB
  refine congrArg (fun z : EReal => (_ + Ideal.log z * _) * _) ?_
  exact (mix_head (fun h => denT (p h)) r l).trans (den_eq (p (laneHead l)) (w (laneHead l)) (hp (laneHead l)) r 0)

theorem out7_at (y : S1x4x512x512.Idx) :
    out7 c i S x0 x1 x2 x3 y = if fixW (F := Ideal) (ctlA x3) = 1#1 then G7 wF x0 x1 x2 (shB x3) (y 1) (y 2) (y 3)
      else G7 wM x0 x1 x2 (shB x3) (y 1) (y 2) (y 3) := by
  unfold out7
  split
  · have hp : ∀ k : Fin 2, ∀ p ∈ (tripF c i S x0 x1 x2 x3 k).1, ∀ x, p.2 x = (fun y : S1x4x512x512.Idx => G7 wF x0 x1 x2 (shB x3) (y 1) (y 2) (y 3)) (p.1.emb x) := by
      intro k
      refine piecesF7 c i S x0 x1 x2 x3 k (fun y : S1x4x512x512.Idx => G7 wF x0 x1 x2 (shB x3) (y 1) (y 2) (y 3)) fun r j h n hn x => ?_
      have H := reads_F i S x0 x1 x2 x3 k r j h n hn
      refine G7_tile x0 x1 x2 wF (shB x3) (plOf k r) j h _ (fun r' c' => out_eq H _ _ (wF_eq H) r' c') _ _ ?_ x
      have e4 : n.val / 4 = j.val := by omega
      have e5 : n.val % 4 = h.val := by omega
      have hq := offQF_eq n k r
      rwa [e4, e5] at hq
    refine View.read_writes_apply_of_pieces (Val := Elt Ideal) S.m4.view S.m4.view.junk
      (fun y : S1x4x512x512.Idx => G7 wF x0 x1 x2 (shB x3) (y 1) (y 2) (y 3)) (pcsF c i S x0 x1 x2 x3).1 ?_ y (coverF7 c i S x0 x1 x2 x3 y)
    rw [pcsF_eq]
    intro p hm x
    rcases List.mem_append.mp hm with h | h
    · exact hp _ p h x
    · rcases List.mem_append.mp h with h | h
      · exact hp _ p h x
      · exact absurd h List.not_mem_nil
  · have hp : ∀ k : Fin 2, ∀ p ∈ (tripM c i S x0 x1 x2 x3 k).1, ∀ x, p.2 x = (fun y : S1x4x512x512.Idx => G7 wM x0 x1 x2 (shB x3) (y 1) (y 2) (y 3)) (p.1.emb x) := by
      intro k
      refine piecesM7 c i S x0 x1 x2 x3 k (fun y : S1x4x512x512.Idx => G7 wM x0 x1 x2 (shB x3) (y 1) (y 2) (y 3)) fun r j h n hn x => ?_
      have H := reads_M i S x0 x1 x2 x3 k r j h n hn
      refine G7_tile x0 x1 x2 wM (shB x3) (plOf k r) j h _ (fun r' c' => out_eq H _ _ (wM_eq H) r' c') _ _ ?_ x
      have e4 : n.val / 4 = j.val := by omega
      have e5 : n.val % 4 = h.val := by omega
      have hq := offQM_eq n k r
      rwa [e4, e5] at hq
    refine View.read_writes_apply_of_pieces (Val := Elt Ideal) S.m4.view S.m4.view.junk
      (fun y : S1x4x512x512.Idx => G7 wM x0 x1 x2 (shB x3) (y 1) (y 2) (y 3)) (pcsM c i S x0 x1 x2 x3).1 ?_ y (coverM7 c i S x0 x1 x2 x3 y)
    rw [pcsM_eq]
    intro p hm x
    rcases List.mem_append.mp hm with h | h
    · exact hp _ p h x
    · rcases List.mem_append.mp h with h | h
      · exact hp _ p h x
      · exact absurd h List.not_mem_nil

theorem out8_at (y : S1x4x512x128.Idx) :
    out8 c i S x0 x1 x2 x3 y = if fixW (F := Ideal) (ctlA x3) = 1#1 then G8 (fun _ => (ctlB x3 : EReal)) wF x0 x1 (shB x3) (y 1) (y 2) (y 3)
      else G8 topB wM x0 x1 (shB x3) (y 1) (y 2) (y 3) := by
  unfold out8
  split
  · have hp : ∀ k : Fin 2, ∀ p ∈ (tripF c i S x0 x1 x2 x3 k).2, ∀ x, p.2 x = (fun y : S1x4x512x128.Idx => G8 (fun _ => (ctlB x3 : EReal)) wF x0 x1 (shB x3) (y 1) (y 2) (y 3)) (p.1.emb x) := by
      intro k
      refine piecesF8 c i S x0 x1 x2 x3 k (fun y : S1x4x512x128.Idx => G8 (fun _ => (ctlB x3 : EReal)) wF x0 x1 (shB x3) (y 1) (y 2) (y 3)) fun r j n0 n1 n2 n3 g0 g1 g2 g3 x => ?_
      have H : ∀ h : Fin 4, TileReads _ _ _ _ x0 x1 x2 (shB x3) (plOf k r) j h := fun h =>
        reads_F i S x0 x1 x2 x3 k r j h (![n0, n1, n2, n3] h) (by fin_cases h <;> simp [g0, g1, g2, g3])
      refine G8_tile x0 x1 (fun _ => (ctlB x3 : EReal)) wF (shB x3) (plOf k r) j _ (fun r' l => ?_) _ _ (offLF_eq j k r) x
      refine lse_tile _ (fun h => pF i S x0 x1 x3 k r j h (![n0, n1, n2, n3] h)) (fun h r1 => wF (scoreB x0 x1 (shB x3) (plOf k r) j h r1)) (fun _ _ => (ctlB x3 : EReal))
        (fun h r1 k1 => wF_eq (H h) r1 k1) (fun r1 l1 => ?_) r' l
      exact Memref.IsWhole.readAt_unread S.h3 x3 _ _
    refine View.read_writes_apply_of_pieces (Val := Elt Ideal) S.m5.view S.m5.view.junk
      (fun y : S1x4x512x128.Idx => G8 (fun _ => (ctlB x3 : EReal)) wF x0 x1 (shB x3) (y 1) (y 2) (y 3)) (pcsF c i S x0 x1 x2 x3).2 ?_ y (coverF8 c i S x0 x1 x2 x3 y)
    rw [pcsF_eq]
    intro p hm x
    rcases List.mem_append.mp hm with h | h
    · exact hp _ p h x
    · rcases List.mem_append.mp h with h | h
      · exact hp _ p h x
      · exact absurd h List.not_mem_nil
  · have hp : ∀ k : Fin 2, ∀ p ∈ (tripM c i S x0 x1 x2 x3 k).2, ∀ x, p.2 x = (fun y : S1x4x512x128.Idx => G8 topB wM x0 x1 (shB x3) (y 1) (y 2) (y 3)) (p.1.emb x) := by
      intro k
      refine piecesM8 c i S x0 x1 x2 x3 k (fun y : S1x4x512x128.Idx => G8 topB wM x0 x1 (shB x3) (y 1) (y 2) (y 3)) fun r j n0 n1 n2 n3 g0 g1 g2 g3 x => ?_
      have H : ∀ h : Fin 4, TileReads _ _ _ _ x0 x1 x2 (shB x3) (plOf k r) j h := fun h =>
        reads_M i S x0 x1 x2 x3 k r j h (![n0, n1, n2, n3] h) (by fin_cases h <;> simp [g0, g1, g2, g3])
      refine G8_tile x0 x1 topB wM (shB x3) (plOf k r) j _ (fun r' l => ?_) _ _ (offLM_eq j k r) x
      refine lse_tile _ (fun h => pMx i S x0 x1 x3 k r j h (![n0, n1, n2, n3] h)) (fun h r1 => wM (scoreB x0 x1 (shB x3) (plOf k r) j h r1)) (fun h r1 => topB (scoreB x0 x1 (shB x3) (plOf k r) j h r1))
        (fun h r1 k1 => wM_eq (H h) r1 k1) (fun r1 l1 => ?_) r' l
      exact (mix_head (fun h => mxT (sM i S x0 x1 x3 k r j h (![n0, n1, n2, n3] h))) r1 l1).trans (top_eq (H (laneHead l1)) r1 0)
    refine View.read_writes_apply_of_pieces (Val := Elt Ideal) S.m5.view S.m5.view.junk
      (fun y : S1x4x512x128.Idx => G8 topB wM x0 x1 (shB x3) (y 1) (y 2) (y 3)) (pcsM c i S x0 x1 x2 x3).2 ?_ y (coverM8 c i S x0 x1 x2 x3 y)
    rw [pcsM_eq]
    intro p hm x
    rcases List.mem_append.mp hm with h | h
    · exact hp _ p h x
    · rcases List.mem_append.mp h with h | h
      · exact hp _ p h x
      · exact absurd h List.not_mem_nil

end

end Cert.Proof.KI

end
-- ==== Proof.Arrays.lean ====
/-
  The blocks the body is given, from the arguments of @main.
-/
module

public import proofs.«01_k».proof.Proof.Block
public import proofs.«01_k».proof.Proof.Launch

@[expose] public section

set_option maxRecDepth 16384
set_option maxHeartbeats 1000000

noncomputable section

namespace Cert.Proof.KI

open Cert.KernelIdeal Cert.KernelIdeal.Gen
open Idealize.ShloMosaic
open Idealize.ShloMosaic.TcCoe Idealize.SL.Sem

variable (m : (ℓ : Loc nD τ sig) → Buf (Elt Ideal) ℓ) (c : Dev nD)

theorem idxs : ∀ t : Fin grid0.N, win0_0.index t = ![(grid0.coords t 0).val, 0, 0, 0] ∧ win0_1.index t = ![(grid0.coords t 0).val, 0, 0, 1]
    ∧ win0_2.index t = ![(grid0.coords t 0).val, 0, 0, 2] ∧ win0_3.index t = ![0] ∧ win0_4.index t = ![(grid0.coords t 0).val, 0, 0, 0]
    ∧ win0_5.index t = ![(grid0.coords t 0).val, 0, 0, 0] := by decide +kernel

/-- The batch of a point. -/
def bat (t : Fin cfg0.N) : Fin 8 := ⟨(grid0.coords t 0).val, (grid0.coords t 0).isLt⟩

/-- Row `a` of plane `pl` in the sequence. -/
def seqOf (pl : Fin 4) (a : Fin 512) : Fin 2048 := ⟨a.val * 4 + pl.val, by omega⟩

/-- The planes of an argument: row `a` of plane `pl` is row `4 a + pl` of the sequence, the heads side by side. -/
def planesV (x : FVec Ideal S8x2048x4x128 .f32) : FVec Ideal S8x4x512x512 .f32 :=
  transpose S8x4x512x512 [0, 2, 1, 3] (shapeCast S8x512x4x512 x shapeCasts_S8x2048x4x128_S8x512x4x512) transposes_S8x512x4x512_S8x4x512x512_0_2_1_3
/-- The scaled queries. -/
def scaleV (x : FVec Ideal S8x2048x4x128 .f32) : FVec Ideal S8x2048x4x128 .f32 :=
  Host.divf (mulf x (broadcastInDim S8x2048x4x128 ![] bcast_S_S8x2048x4x128 (constant S_ .f32 0x3DB504F3#32)))
    (broadcastInDim S8x2048x4x128 ![] bcast_S_S8x2048x4x128 (Host.log (constant S_ .f32 0x40000000#32)))
def cat3 (a b d : FVec Ideal S8x4x512x512 .f32) : FVec Ideal S8x4x512x1536 .bf16 :=
  truncf .bf16 (concatenate S8x4x512x1536 3 [⟨S8x4x512x512, a⟩, ⟨S8x4x512x512, b⟩, ⟨S8x4x512x512, d⟩] concatenates_S8x4x512x512_S8x4x512x512_S8x4x512x512_S8x4x512x1536_d3) bitsLt_bf16_f32

theorem cat3_congr {a b d a' b' d' : FVec Ideal S8x4x512x512 .f32} (ha : a = a') (hb : b = b') (hd : d = d') : cat3 a b d = cat3 a' b' d' := by
  subst ha hb hd
  rfl

theorem v12_eq : V (F := Ideal) m c main_v12 = cat3 (planesV (scaleV (m ((c : Thread nD τ).loc main_arg0))))
    (planesV (m ((c : Thread nD τ).loc main_arg1))) (planesV (m ((c : Thread nD τ).loc main_arg2))) := by
  show StableHlo.after hostOps0 _ _ = _
  unfold hostOps0
  after_results_simp <;> (try dsimp only [Matrix.cons_val])
  refine cat3_congr ?_ ?_ ?_ <;> (after_results_simp; rfl)

def cat2 (a b : FVec Ideal S1 .f32) : FVec Ideal S2 .f32 := concatenate S2 0 [⟨S1, a⟩, ⟨S1, b⟩] concatenates_S1_S1_S2_d0
/-- The largest magnitude of a row. -/
def topV (x : FVec Ideal S128 .f32) : FVec Ideal S_ .f32 := Host.reduce FloatOps.maximumf (Host.absf x) (constant S_ .f32 0xFF800000#32) reducesTo_S128_S_d0 h_S_
/-- The logits' bound. -/
def bndV (x3 x4 : FVec Ideal S1x128 .f32) : FVec Ideal S1 .f32 :=
  shapeCast S1 (mulf (mulf (mulf (constant S_ .f32 0x43000000#32)
    (topV (mulf (shapeCast S128 x3 shapeCasts_S1x128_S128) (broadcastInDim S128 ![] bcast_S_S128 (constant S_ .f32 0x3E0293EE#32)))))
    (topV (shapeCast S128 x4 shapeCasts_S1x128_S128))) (constant S_ .f32 0x3F820000#32)) shapeCasts_S_S1
/-- Whether the bound is small enough for the fixed shift. -/
def fixV (b : FVec Ideal S1 .f32) : FVec Ideal S1 .f32 :=
  shapeCast S1 (uitofp .f32 (Host.reduce IntOp.andi (cmpf .ole b (broadcastInDim S1 ![] bcast_S_S1 (constant S_ .f32 0x42200000#32)))
    (constantI S_ 1 1#1) reducesTo_S1_S_d0 h_S_)) shapeCasts_S_S1

theorem v30_eq : V (F := Ideal) m c main_v30 = cat2 (fixV (bndV (m ((c : Thread nD τ).loc main_arg3)) (m ((c : Thread nD τ).loc main_arg4))))
    (bndV (m ((c : Thread nD τ).loc main_arg3)) (m ((c : Thread nD τ).loc main_arg4))) := by
  show StableHlo.after hostOps0 _ _ = _
  unfold hostOps0
  after_results_simp <;> (try dsimp only [Matrix.cons_val])
  refine congrArg₂ cat2 ?_ ?_ <;> (after_results_simp; rfl)

theorem planesV_at (x : FVec Ideal S8x2048x4x128 .f32) (B : Fin 8) (pl : Fin 4) (r : Fin 512) (h : Fin 4) (d : Fin 128) :
    planesV x (ix4 B pl r (colOf h d)) = x (ix4 B (seqOf pl r) h d) := by
  pointwise [planesV, colOf, seqOf]

theorem scaleV_at (x : FVec Ideal S8x2048x4x128 .f32) (y : S8x2048x4x128.Idx) :
    scaleV x y = Ideal.div (x y * ((11863283/134217728 : ℝ) : EReal)) ((Real.log 2 : ℝ) : EReal) := by
  have h1 : Ideal.ofBits .f32 1035273459#32 = ((11863283/134217728 : ℝ) : EReal) := by
    simp [Ideal.ofBits, Ideal.ieee, -EReal.coe_mul]
    norm_num
  have h2 : Ideal.ofBits .f32 1073741824#32 = ((2 : ℝ) : EReal) := by
    simp [Ideal.ofBits, Ideal.ieee, -EReal.coe_mul]
    try norm_num
  pointwise [scaleV]
  rw [h1, h2]
  refine congrArg (Ideal.div _) ?_
  show (if (2 : ℝ) ≤ 0 then ⊥ else ((Real.log 2 : ℝ) : EReal)) = _
  rw [if_neg (by norm_num)]

theorem cat3_q (a b d : FVec Ideal S8x4x512x512 .f32) (B : Fin 8) (pl : Fin 4) (r col : Fin 512) :
    cat3 a b d (ix4 B pl r (⟨col.val, by omega⟩ : Fin 1536)) = a (ix4 B pl r col) := by
  pointwise [cat3]

theorem cat3_k (a b d : FVec Ideal S8x4x512x512 .f32) (B : Fin 8) (pl : Fin 4) (r col : Fin 512) :
    cat3 a b d (ix4 B pl r (⟨512 + col.val, by omega⟩ : Fin 1536)) = b (ix4 B pl r col) := by
  pointwise [cat3]

theorem cat3_v (a b d : FVec Ideal S8x4x512x512 .f32) (B : Fin 8) (pl : Fin 4) (r col : Fin 512) :
    cat3 a b d (ix4 B pl r (⟨1024 + col.val, by omega⟩ : Fin 1536)) = d (ix4 B pl r col) := by
  pointwise [cat3]
  rw [dif_neg (by omega), dif_neg (by omega)]
  exact congrArg (fun e => d (ix4 B pl r e)) (Fin.ext (by show 1024 + col.val - 512 - 512 = col.val; omega))

theorem blk0_at (t : Fin cfg0.N) (pl : Fin 4) (r col : Fin 512) : iblk m c 0 t (ix4 0 pl r col)
    = V (F := Ideal) m c main_v12 (ix4 (bat t) pl r (⟨col.val, by omega⟩ : Fin 1536)) := by
  unfold iblk
  refine congrArg (V (F := Ideal) m c main_v12) ?_
  blk_ext [idxs t, bat]

theorem blk1_at (t : Fin cfg0.N) (pl : Fin 4) (r col : Fin 512) : iblk m c 1 t (ix4 0 pl r col)
    = V (F := Ideal) m c main_v12 (ix4 (bat t) pl r (⟨512 + col.val, by omega⟩ : Fin 1536)) := by
  unfold iblk
  refine congrArg (V (F := Ideal) m c main_v12) ?_
  blk_ext [idxs t, bat]

theorem blk2_at (t : Fin cfg0.N) (pl : Fin 4) (r col : Fin 512) : iblk m c 2 t (ix4 0 pl r col)
    = V (F := Ideal) m c main_v12 (ix4 (bat t) pl r (⟨1024 + col.val, by omega⟩ : Fin 1536)) := by
  unfold iblk
  refine congrArg (V (F := Ideal) m c main_v12) ?_
  blk_ext [idxs t, bat]

theorem ctl_at (y : S2.Idx) : ctl m c y = V (F := Ideal) m c main_v30 y := by
  unfold ctl iblk
  refine congrArg (V (F := Ideal) m c main_v30) ?_
  blk_ext [idxs t0_0]

theorem col_eq (col : Fin 512) : colOf (blkOf col) (posOf col) = col :=
  Fin.ext (by show 128 * (col.val / 128) + col.val % 128 = col.val; omega)

/-- The block of a batch, for the queries, and for the keys or the values. -/
def qB (x : FVec Ideal S8x2048x4x128 .f32) (B : Fin 8) : Vec Ideal S1x4x512x512 .bf16 :=
  fun y => scaleV x (ix4 B (seqOf (y 1) (y 2)) (blkOf (y 3)) (posOf (y 3)))
def kB (x : FVec Ideal S8x2048x4x128 .f32) (B : Fin 8) : Vec Ideal S1x4x512x512 .bf16 :=
  fun y => x (ix4 B (seqOf (y 1) (y 2)) (blkOf (y 3)) (posOf (y 3)))

theorem ix_eq (y : S1x4x512x512.Idx) : y = ix4 0 (y 1) (y 2) (y 3) := by
  blk_ext

theorem blk0_full (t : Fin cfg0.N) (pl : Fin 4) (r col : Fin 512) : iblk m c 0 t (ix4 0 pl r col)
    = scaleV (m ((c : Thread nD τ).loc main_arg0)) (ix4 (bat t) (seqOf pl r) (blkOf col) (posOf col)) := by
  refine (blk0_at m c t pl r col).trans ?_
  rw [v12_eq, cat3_q]
  exact (congrArg (fun e => planesV _ (ix4 (bat t) pl r e)) (col_eq col).symm).trans (planesV_at _ _ _ _ _ _)

theorem blk0_eq (t : Fin cfg0.N) : iblk m c 0 t = qB (m ((c : Thread nD τ).loc main_arg0)) (bat t) :=
  funext fun (y : S1x4x512x512.Idx) => (congrArg (iblk m c 0 t) (ix_eq y)).trans (blk0_full m c t (y 1) (y 2) (y 3))

theorem blk1_full (t : Fin cfg0.N) (pl : Fin 4) (r col : Fin 512) : iblk m c 1 t (ix4 0 pl r col)
    = m ((c : Thread nD τ).loc main_arg1) (ix4 (bat t) (seqOf pl r) (blkOf col) (posOf col)) := by
  refine (blk1_at m c t pl r col).trans ?_
  rw [v12_eq, cat3_k]
  exact (congrArg (fun e => planesV _ (ix4 (bat t) pl r e)) (col_eq col).symm).trans (planesV_at _ _ _ _ _ _)

theorem blk1_eq (t : Fin cfg0.N) : iblk m c 1 t = kB (m ((c : Thread nD τ).loc main_arg1)) (bat t) :=
  funext fun (y : S1x4x512x512.Idx) => (congrArg (iblk m c 1 t) (ix_eq y)).trans (blk1_full m c t (y 1) (y 2) (y 3))

theorem blk2_full (t : Fin cfg0.N) (pl : Fin 4) (r col : Fin 512) : iblk m c 2 t (ix4 0 pl r col)
    = m ((c : Thread nD τ).loc main_arg2) (ix4 (bat t) (seqOf pl r) (blkOf col) (posOf col)) := by
  refine (blk2_at m c t pl r col).trans ?_
  rw [v12_eq, cat3_v]
  exact (congrArg (fun e => planesV _ (ix4 (bat t) pl r e)) (col_eq col).symm).trans (planesV_at _ _ _ _ _ _)

theorem blk2_eq (t : Fin cfg0.N) : iblk m c 2 t = kB (m ((c : Thread nD τ).loc main_arg2)) (bat t) :=
  funext fun (y : S1x4x512x512.Idx) => (congrArg (iblk m c 2 t) (ix_eq y)).trans (blk2_full m c t (y 1) (y 2) (y 3))

/-- The control words. -/
def ctlC (g k : FVec Ideal S1x128 .f32) : FVec Ideal S2 .f32 := cat2 (fixV (bndV g k)) (bndV g k)

theorem ctl_eq : ctl m c = ctlC (m ((c : Thread nD τ).loc main_arg3)) (m ((c : Thread nD τ).loc main_arg4)) :=
  funext fun y => (ctl_at m c y).trans (congrFun (v30_eq m c) y)

/-- The two result arrays. -/
def O7 (q k v : FVec Ideal S8x2048x4x128 .f32) (C : FVec Ideal S2 .f32) : S8x4x512x512.Idx → EReal := fun y =>
  if fixW (F := Ideal) (ctlA C) = 1#1 then G7 wF (qB q (y 0)) (kB k (y 0)) (kB v (y 0)) (shB C) (y 1) (y 2) (y 3)
  else G7 wM (qB q (y 0)) (kB k (y 0)) (kB v (y 0)) (shB C) (y 1) (y 2) (y 3)
def O8 (q k : FVec Ideal S8x2048x4x128 .f32) (C : FVec Ideal S2 .f32) : S8x4x512x128.Idx → EReal := fun y =>
  if fixW (F := Ideal) (ctlA C) = 1#1 then G8 (fun _ => (ctlB (F := Ideal) C : EReal)) wF (qB q (y 0)) (kB k (y 0)) (shB C) (y 1) (y 2) (y 3)
  else G8 topB wM (qB q (y 0)) (kB k (y 0)) (shB C) (y 1) (y 2) (y 3)

theorem O7_ix (q k v : FVec Ideal S8x2048x4x128 .f32) (C : FVec Ideal S2 .f32) (B : Fin 8) (pl : Fin 4) (a col : Fin 512) :
    O7 q k v C (ix4 B pl a col) = if fixW (F := Ideal) (ctlA C) = 1#1 then G7 wF (qB q B) (kB k B) (kB v B) (shB C) pl a col
      else G7 wM (qB q B) (kB k B) (kB v B) (shB C) pl a col := rfl
theorem O8_ix (q k : FVec Ideal S8x2048x4x128 .f32) (C : FVec Ideal S2 .f32) (B : Fin 8) (pl : Fin 4) (a : Fin 512) (l : Fin 128) :
    O8 q k C (ix4 B pl a l) = if fixW (F := Ideal) (ctlA C) = 1#1 then G8 (fun _ => (ctlB (F := Ideal) C : EReal)) wF (qB q B) (kB k B) (shB C) pl a l
      else G8 topB wM (qB q B) (kB k B) (shB C) pl a l := rfl

theorem arr4_eq : (dats (F := Ideal) m 0 c).arrAt 4 cfg0.N = O7 (m ((c : Thread nD τ).loc main_arg0)) (m ((c : Thread nD τ).loc main_arg1))
    (m ((c : Thread nD τ).loc main_arg2)) (ctlC (m ((c : Thread nD τ).loc main_arg3)) (m ((c : Thread nD τ).loc main_arg4))) := by
  refine (dats m 0 c).arrAt_eq_of_covers 4 _ (by decide +kernel) fun t hf y => ?_
  blk_simp
  rw [after0_4, blk0_eq, blk1_eq, blk2_eq, ctl_eq]
  have he : (win0_4.blk t).view.emb y = ix4 (bat t) (y 1 : Fin 4) (y 2 : Fin 512) (y 3 : Fin 512) := by
    blk_ext [idxs t, bat]
  refine Eq.trans ?_ (congrArg (O7 (m ((c : Thread nD τ).loc main_arg0)) (m ((c : Thread nD τ).loc main_arg1))
    (m ((c : Thread nD τ).loc main_arg2)) (ctlC (m ((c : Thread nD τ).loc main_arg3)) (m ((c : Thread nD τ).loc main_arg4)))) he.symm)
  generalize m ((c : Thread nD τ).loc main_arg0) = q
  generalize m ((c : Thread nD τ).loc main_arg1) = k
  generalize m ((c : Thread nD τ).loc main_arg2) = v
  generalize ctlC (m ((c : Thread nD τ).loc main_arg3)) (m ((c : Thread nD τ).loc main_arg4)) = C
  exact (out7_at c (grid0.coords t) (stgs t) (qB q (bat t)) (kB k (bat t)) (kB v (bat t)) C y).trans
    (O7_ix q k v C (bat t) (y 1) (y 2) (y 3)).symm

theorem arr5_eq : (dats (F := Ideal) m 0 c).arrAt 5 cfg0.N = O8 (m ((c : Thread nD τ).loc main_arg0)) (m ((c : Thread nD τ).loc main_arg1))
    (ctlC (m ((c : Thread nD τ).loc main_arg3)) (m ((c : Thread nD τ).loc main_arg4))) := by
  refine (dats m 0 c).arrAt_eq_of_covers 5 _ (by decide +kernel) fun t hf y => ?_
  blk_simp
  rw [after0_5, blk0_eq, blk1_eq, ctl_eq]
  have he : (win0_5.blk t).view.emb y = ix4 (bat t) (y 1 : Fin 4) (y 2 : Fin 512) (y 3 : Fin 128) := by
    blk_ext [idxs t, bat]
  refine Eq.trans ?_ (congrArg (O8 (m ((c : Thread nD τ).loc main_arg0)) (m ((c : Thread nD τ).loc main_arg1))
    (ctlC (m ((c : Thread nD τ).loc main_arg3)) (m ((c : Thread nD τ).loc main_arg4)))) he.symm)
  generalize m ((c : Thread nD τ).loc main_arg0) = q
  generalize m ((c : Thread nD τ).loc main_arg1) = k
  generalize ctlC (m ((c : Thread nD τ).loc main_arg3)) (m ((c : Thread nD τ).loc main_arg4)) = C
  exact (out8_at c (grid0.coords t) (stgs t) (qB q (bat t)) (kB k (bat t)) (iblk m c 2 t) C y).trans
    (O8_ix q k C (bat t) (y 1) (y 2) (y 3)).symm

end Cert.Proof.KI

end
-- ==== Proof.Ref.lean ====
/-
  The reference of the attention, read at an index.
-/
module

public import proofs.«01_k».proof.Proof.Arrays
public import proofs.«01_k».proof.Proof.Gen.ReferenceIdeal.Read

@[expose] public section

set_option maxRecDepth 16384
set_option maxHeartbeats 1000000

noncomputable section

namespace Cert.Proof.RI

open Cert.ReferenceIdeal Cert.ReferenceIdeal.Read
open Idealize.ShloMosaic
open Idealize.ShloMosaic.TcCoe Idealize.SL.Sem
open Cert.Proof.KI (seqOf blkOf posOf laneHead)

variable [Cert.ReferenceIdeal.Facts]

/-- The number of a batch's plane. -/
def pln (B : Fin 8) (pl : Fin 4) : Fin 32 := ⟨B.val * 4 + pl.val, by omega⟩

/-- The distance of two rows of a plane. -/
def distR (r k : Fin 512) : ℕ := (r.val - k.val) + (k.val - r.val)

theorem dist_bits (r k : Fin 512) : IntOp.absi (IntOp.subi (BitVec.ofNat 32 r.val) (BitVec.ofNat 32 k.val)) = BitVec.ofNat 32 (distR r k) := by
  have h1 : ∀ n : Fin 512, IntOp.absi (BitVec.ofNat 32 n.val) = BitVec.ofNat 32 n.val := by decide +kernel
  have h2 : ∀ n : Fin 512, IntOp.absi (0#32 - BitVec.ofNat 32 n.val) = BitVec.ofNat 32 n.val := by decide +kernel
  have hr := r.isLt
  have hk := k.isLt
  unfold IntOp.subi
  rcases Nat.le_total k.val r.val with h | h
  · obtain ⟨n, hn⟩ := Nat.exists_eq_add_of_le h
    have e : BitVec.ofNat 32 r.val - BitVec.ofNat 32 k.val = BitVec.ofNat 32 n := by
      apply BitVec.eq_of_toNat_eq
      simp only [BitVec.toNat_sub, BitVec.toNat_ofNat]
      omega
    have d : distR r k = n := by
      unfold distR
      omega
    rw [e, d]
    exact h1 ⟨n, by omega⟩
  · obtain ⟨n, hn⟩ := Nat.exists_eq_add_of_le h
    have e : BitVec.ofNat 32 r.val - BitVec.ofNat 32 k.val = 0#32 - BitVec.ofNat 32 n := by
      apply BitVec.eq_of_toNat_eq
      simp only [BitVec.toNat_sub, BitVec.toNat_ofNat]
      omega
    have d : distR r k = n := by
      unfold distR
      omega
    rw [e, d]
    exact h2 ⟨n, by omega⟩

theorem dist_at (r k : Fin 512) : val_main_v21 (F := Ideal) (ix2 r k) = BitVec.ofNat 32 (distR r k) := by
  refine Eq.trans ?_ (dist_bits r k)
  pointwise [val_main_v21, val_main_v20, val_main_v19, val_main_v18, val_main_v17, val_main_v16, val_main_v15, val_main_v14]

theorem distR_lt (r k : Fin 512) : distR r k < 512 := by
  unfold distR
  omega

theorem near_at (r k : Fin 512) : val_main_v23 (F := Ideal) (ix2 r k) = if distR r k ≤ 64 then 1#1 else 0#1 := by
  unfold val_main_v23 val_main_v22 val_main_c
  have h := dist_at r k
  generalize val_main_v21 (F := Ideal) = d at h
  pointwise
  rw [h]
  have e : ∀ n : Fin 512, IntOp.cmpi .sle (BitVec.ofNat 32 n.val) 64#32 = if n.val ≤ 64 then 1#1 else 0#1 := by decide +kernel
  exact e ⟨_, distR_lt r k⟩

/-- The slopes of the heads. -/
def slopeR : Fin 4 → EReal := ![((13316085 / 134217728 : ℝ) : EReal), ((1 / 16 : ℝ) : EReal), ((1321123 / 33554432 : ℝ) : EReal), ((13316085 / 536870912 : ℝ) : EReal)]

theorem slope_at (h : Fin 4) : val_main_v4 (F := Ideal) (ix1 h) = slopeR h := by
  have h0 : Ideal.ofBits .f32 1036726261#32 = ((13316085 / 134217728 : ℝ) : EReal) := by
    simp [Ideal.ofBits, Ideal.ieee, -EReal.coe_mul]
    norm_num
  have h1 : Ideal.ofBits .f32 1031798784#32 = ((1 / 16 : ℝ) : EReal) := by
    simp [Ideal.ofBits, Ideal.ieee, -EReal.coe_mul]
    norm_num
  have h2 : Ideal.ofBits .f32 1025590552#32 = ((1321123 / 33554432 : ℝ) : EReal) := by
    simp [Ideal.ofBits, Ideal.ieee, -EReal.coe_mul]
    norm_num
  have h3 : Ideal.ofBits .f32 1019949045#32 = ((13316085 / 536870912 : ℝ) : EReal) := by
    simp [Ideal.ofBits, Ideal.ieee, -EReal.coe_mul]
    norm_num
  pointwise [val_main_v4, val_main_v3, val_main_v2, val_main_v1, val_main_v0, val_main_cst, val_main_cst_0, val_main_cst_1, val_main_cst_2]
  rw [h0, h1, h2, h3]
  fin_cases h <;> rfl

theorem pen_at (h : Fin 4) (r k : Fin 512) : val_main_v34 (F := Ideal) (ix3 h r k) = slopeR h * (((distR r k * 4 : ℕ) : ℝ) : EReal) := by
  unfold val_main_v34 val_main_v33 val_main_v32 val_main_v31 val_main_v30 val_main_v29 val_main_v28 val_main_c_4 val_main_v27
  have e := dist_at r k
  generalize val_main_v21 (F := Ideal) = d at e
  have es := slope_at h
  generalize val_main_v4 (F := Ideal) = s at es
  pointwise
  rw [e, es]
  have hm : ∀ n : Fin 512, (IntOp.muli (BitVec.ofNat 32 n.val) 4#32).toInt = ((n.val * 4 : ℕ) : ℤ) := by decide +kernel
  refine congrArg (slopeR h * ·) ?_
  show ((((IntOp.muli (BitVec.ofNat 32 (distR r k)) 4#32).toInt : ℤ) : ℝ) : EReal) = _
  rw [hm ⟨_, distR_lt r k⟩]
  rfl

theorem q_at (x : FVec Ideal S8x2048x4x128 .f32) (B : Fin 8) (pl : Fin 4) (r : Fin 512) (h : Fin 4) (d : Fin 128) :
    val_main_v7 (F := Ideal) x (ix4 (pln B pl) r h d) = x (ix4 B (seqOf pl r) h d) := by
  pointwise [val_main_v7, val_main_v6, val_main_v5, pln, seqOf]

/-- The score of a key. -/
def refS (q k : FVec Ideal S8x2048x4x128 .f32) (B : Fin 8) (pl h : Fin 4) (r kk : Fin 512) : EReal :=
  if distR r kk ≤ 64 then (∑ d : Fin 128, q (ix4 B (seqOf pl r) h d) * k (ix4 B (seqOf pl kk) h d)) * ((11863283 / 134217728 : ℝ) : EReal)
    - slopeR h * (((distR r kk * 4 : ℕ) : ℝ) : EReal) else ⊥

theorem score_at (q k : FVec Ideal S8x2048x4x128 .f32) (B : Fin 8) (pl h : Fin 4) (r kk : Fin 512) :
    val_main_v38 (F := Ideal) q k (ix4 (pln B pl) h r kk) = refS q k B pl h r kk := by
  have h1 : Ideal.ofBits .f32 1035273459#32 = ((11863283/134217728 : ℝ) : EReal) := by
    simp [Ideal.ofBits, Ideal.ieee, -EReal.coe_mul]
    norm_num
  have h2 : Ideal.ofBits .f32 4286578688#32 = ⊥ := by
    simp [Ideal.ofBits, Ideal.ieee]
  have e := near_at r kk
  have ep := pen_at h r kk
  have eq := fun d => q_at q B pl r h d
  have ek : ∀ d, val_main_v10 (F := Ideal) k (ix4 (pln B pl) kk h d) = k (ix4 B (seqOf pl kk) h d) := fun d => q_at k B pl kk h d
  unfold val_main_v38 val_main_call0_v1 val_main_call0_v2 val_main_v37 val_main_v36 val_main_v35 val_main_v26 val_main_v25 val_main_cst_3 val_main_v24
  generalize val_main_v23 (F := Ideal) = w at e
  generalize val_main_v34 (F := Ideal) = p at ep
  generalize val_main_v7 (F := Ideal) q = q' at eq
  generalize val_main_v10 (F := Ideal) k = k' at ek
  generalize pln B pl = n at *
  pointwise [val_main_call0_v0, val_main_cst_5]
  simp only [e, ep, eq, ek, h1, h2]
  unfold refS
  split <;> rfl

/-- The output of the reference from the scores and the values of a row, and its logarithm of the sum of exponentials. -/
def topR (s : Fin 512 → EReal) : EReal := Finset.univ.fold max (⊥ : EReal) s
def refO (s v : Fin 512 → EReal) : EReal := Ideal.div (∑ x, Ideal.exp (s x - topR s) * v x) (∑ x, Ideal.exp (s x - topR s))
def refL (s : Fin 512 → EReal) : EReal := topR s + Ideal.log (∑ x, Ideal.exp (s x - topR s))

theorem top_row (q k : FVec Ideal S8x2048x4x128 .f32) (n : Fin 32) (h : Fin 4) (a : Fin 512) :
    val_main_v39 (F := Ideal) q k (ix3 n h a) = topR (fun x => val_main_v38 (F := Ideal) q k (ix4 n h a x)) := by
  have h2 : Ideal.ofBits .f32 4286578688#32 = ⊥ := by
    simp [Ideal.ofBits, Ideal.ieee]
  simp only [topR, ← h2]
  unfold val_main_v39 val_main_cst_6
  generalize val_main_v38 (F := Ideal) q k = s
  pointwise

theorem exp_row (q k : FVec Ideal S8x2048x4x128 .f32) (n : Fin 32) (h : Fin 4) (a x : Fin 512) :
    val_main_v43 (F := Ideal) q k (ix4 n h a x)
      = Ideal.exp (val_main_v38 (F := Ideal) q k (ix4 n h a x) - topR (fun x => val_main_v38 (F := Ideal) q k (ix4 n h a x))) := by
  rw [← top_row]
  unfold val_main_v43 val_main_v42 val_main_v41 val_main_v40
  generalize val_main_v38 (F := Ideal) q k = s
  generalize val_main_v39 (F := Ideal) q k = t
  pointwise

theorem den_row (q k : FVec Ideal S8x2048x4x128 .f32) (n : Fin 32) (h : Fin 4) (a : Fin 512) :
    val_main_v44 (F := Ideal) q k (ix3 n h a) = ∑ x : Fin 512, val_main_v43 (F := Ideal) q k (ix4 n h a x) := by
  unfold val_main_v44 val_main_cst_7
  generalize val_main_v43 (F := Ideal) q k = s
  pointwise

theorem out_row (q k v : FVec Ideal S8x2048x4x128 .f32) (B : Fin 8) (pl : Fin 4) (a col : Fin 512) :
    val_main_v53 (F := Ideal) q k v (ix4 B pl a col) = Ideal.div (∑ x : Fin 512, val_main_v43 (F := Ideal) q k (ix4 (pln B pl) (blkOf col) a x)
      * val_main_v13 (F := Ideal) v (ix4 (pln B pl) x (blkOf col) (posOf col))) (val_main_v44 (F := Ideal) q k (ix3 (pln B pl) (blkOf col) a)) := by
  unfold val_main_v53 val_main_v52 val_main_v51 val_main_v48 val_main_v47 val_main_v46 val_main_v45
  generalize val_main_v43 (F := Ideal) q k = s
  generalize val_main_v44 (F := Ideal) q k = t
  generalize val_main_v13 (F := Ideal) v = v'
  pointwise [pln, blkOf, posOf]

theorem out_at (q k v : FVec Ideal S8x2048x4x128 .f32) (B : Fin 8) (pl : Fin 4) (a col : Fin 512) :
    val_main_v53 (F := Ideal) q k v (ix4 B pl a col) = refO (refS q k B pl (blkOf col) a) (fun x => v (ix4 B (seqOf pl x) (blkOf col) (posOf col))) := by
  have ev : ∀ x, val_main_v13 (F := Ideal) v (ix4 (pln B pl) x (blkOf col) (posOf col)) = v (ix4 B (seqOf pl x) (blkOf col) (posOf col)) :=
    fun x => q_at v B pl x _ _
  rw [out_row, den_row]
  simp only [exp_row, ev, score_at]
  rfl

theorem log_row (q k : FVec Ideal S8x2048x4x128 .f32) (i : S32x4x512.Idx) :
    val_main_v50 (F := Ideal) q k i = val_main_v39 (F := Ideal) q k i + Ideal.log (val_main_v44 (F := Ideal) q k i) := by
  rw [val_main_v50_apply, val_main_v49_apply]
  generalize val_main_v44 (F := Ideal) q k i = t
  generalize val_main_v39 (F := Ideal) q k i = u
  rfl

theorem lse_row (q k : FVec Ideal S8x2048x4x128 .f32) (B : Fin 8) (pl h : Fin 4) (a : Fin 512) :
    val_main_v50 (F := Ideal) q k (ix3 (pln B pl) h a) = refL (refS q k B pl h a) := by
  rw [log_row, den_row, top_row]
  simp only [exp_row, score_at]
  unfold refL
  exact rfl

theorem lse_at (q k : FVec Ideal S8x2048x4x128 .f32) (B : Fin 8) (pl : Fin 4) (a : Fin 512) (l : Fin 128) :
    val_main_v57 (F := Ideal) q k (ix4 B pl a l) = refL (refS q k B pl (laneHead l) a) := by
  refine Eq.trans ?_ (lse_row q k B pl (laneHead l) a)
  rw [val_main_v57_apply, val_main_v56_apply, val_main_v55_apply, val_main_v54_apply]
  generalize val_main_v50 (F := Ideal) q k = s
  refine congrArg s (funext fun e => Fin.ext ?_)
  have hB := B.isLt
  have hp := pl.isLt
  have ha := a.isLt
  have hl := l.isLt
  match e with
  | ⟨0, _⟩ =>
    show ((((((B.val * 4 + pl.val) * 512 + a.val) * 128 + l.val) / 262144 * 4 + (((B.val * 4 + pl.val) * 512 + a.val) * 128 + l.val) / 65536 % 4) * 512
      + (((B.val * 4 + pl.val) * 512 + a.val) * 128 + l.val) / 128 % 512) * 4 + (((B.val * 4 + pl.val) * 512 + a.val) * 128 + l.val) / 32 % 4) / 2048 = B.val * 4 + pl.val
    omega
  | ⟨1, _⟩ =>
    show ((((((B.val * 4 + pl.val) * 512 + a.val) * 128 + l.val) / 262144 * 4 + (((B.val * 4 + pl.val) * 512 + a.val) * 128 + l.val) / 65536 % 4) * 512
      + (((B.val * 4 + pl.val) * 512 + a.val) * 128 + l.val) / 128 % 512) * 4 + (((B.val * 4 + pl.val) * 512 + a.val) * 128 + l.val) / 32 % 4) % 4 = l.val / 32
    omega
  | ⟨2, _⟩ =>
    show ((((((B.val * 4 + pl.val) * 512 + a.val) * 128 + l.val) / 262144 * 4 + (((B.val * 4 + pl.val) * 512 + a.val) * 128 + l.val) / 65536 % 4) * 512
      + (((B.val * 4 + pl.val) * 512 + a.val) * 128 + l.val) / 128 % 512) * 4 + (((B.val * 4 + pl.val) * 512 + a.val) * 128 + l.val) / 32 % 4) / 4 % 512 = a.val
    omega

end Cert.Proof.RI

end
-- ==== Proof.Softmax.lean ====
/-
  The softmax of a row, under the base-2 exponential and any finite shift, over a window of the keys or over all of them.
-/
module

public import proofs.«01_k».proof.Proof.Ref

@[expose] public section

noncomputable section

namespace Cert.Proof.Soft

open Idealize.ShloMosaic
open Cert.Proof.RI (topR refO refL)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum {ι : Type} (s : Finset ι) (a : ℝ) (ha : 0 ≤ a) (f : ι → EReal) : ∑ i ∈ s, (a : EReal) * f i = (a : EReal) * ∑ i ∈ s, f i := by
  classical
  induction s using Finset.induction_on with
  | empty => simp
  | insert b s hb ih =>
    rw [Finset.sum_insert hb, Finset.sum_insert hb, ih, EReal.left_distrib_of_nonneg_of_ne_top (by exact_mod_cast ha) (EReal.coe_ne_top a)]

theorem fold_max {n : ℕ} (s : Fin n → EReal) (M : EReal) (h1 : ∀ x, s x ≤ M) (h2 : ∃ x, s x = M) : Finset.univ.fold max (⊥ : EReal) s = M := by
  obtain ⟨x, hx⟩ := h2
  refine le_antisymm ((Finset.fold_max_le _).mpr ⟨bot_le, fun x _ => h1 x⟩) ((Finset.le_fold_max _).mpr (Or.inr ⟨x, Finset.mem_univ x, hx.ge⟩))

/-- A row: the keys in reach, their scores, and the window's keys among them. -/
structure Row where
  near : Fin 512 → Prop
  valid : Fin 256 → Prop
  [dn : DecidablePred near]
  [dv : DecidablePred valid]
  key : Fin 256 → Fin 512
  slot : Fin 512 → Fin 256
  key_near : ∀ k, valid k → near (key k)
  slot_valid : ∀ x, near x → valid (slot x)
  slot_key : ∀ k, valid k → slot (key k) = k
  key_slot : ∀ x, near x → key (slot x) = x
  ρ : Fin 512 → ℝ
  self : Fin 512
  self_near : near self

attribute [instance] Row.dn Row.dv

namespace Row

variable (Z : Row)

/-- The reference's scores. -/
def R (x : Fin 512) : EReal := if Z.near x then (Z.ρ x : EReal) else ⊥
/-- The weight of a key under the shift `τ`. -/
def p (τ : ℝ) (x : Fin 512) : ℝ := if Z.near x then Real.exp (Z.ρ x - τ) else 0

theorem sum_eq {M : Type} [AddCommMonoid M] (f : Fin 256 → M) (g : Fin 512 → M) (hf : ∀ k, ¬ Z.valid k → f k = 0)
    (hg : ∀ x, ¬ Z.near x → g x = 0) (h : ∀ k, Z.valid k → f k = g (Z.key k)) : ∑ k, f k = ∑ x, g x := by
  have ef : ∑ k, f k = ∑ k ∈ Finset.univ.filter Z.valid, f k :=
    (Finset.sum_subset (Finset.filter_subset _ _) fun k _ hk => hf k (by simpa using hk)).symm
  have eg : ∑ x, g x = ∑ x ∈ Finset.univ.filter Z.near, g x :=
    (Finset.sum_subset (Finset.filter_subset _ _) fun x _ hx => hg x (by simpa using hx)).symm
  rw [ef, eg]
  refine Finset.sum_nbij' Z.key Z.slot ?_ ?_ ?_ ?_ ?_
  · intro k hk
    simpa using Z.key_near k (by simpa using hk)
  · intro x hx
    simpa using Z.slot_valid x (by simpa using hx)
  · intro k hk
    exact Z.slot_key k (by simpa using hk)
  · intro x hx
    exact Z.key_slot x (by simpa using hx)
  · intro k hk
    exact h k (by simpa using hk)

/-- The greatest score is reached. -/
theorem exists_top : ∃ x, Z.near x ∧ ∀ y, Z.near y → Z.ρ y ≤ Z.ρ x := by
  obtain ⟨x, hx, h⟩ := Finset.exists_max_image (Finset.univ.filter Z.near) Z.ρ ⟨Z.self, by simpa using Z.self_near⟩
  exact ⟨x, by simpa using hx, fun y hy => h y (by simpa using hy)⟩

def top : ℝ := Z.ρ Z.exists_top.choose

theorem topR_eq : topR Z.R = (Z.top : EReal) := by
  have h := Z.exists_top.choose_spec
  refine fold_max _ _ (fun x => ?_) ⟨Z.exists_top.choose, by rw [R, if_pos h.1]; rfl⟩
  unfold R
  split
  · rename_i hx
    exact EReal.coe_le_coe_iff.mpr (h.2 x hx)
  · exact bot_le

theorem exp_eq (x : Fin 512) : Ideal.exp (Z.R x - topR Z.R) = (Z.p Z.top x : EReal) := by
  rw [topR_eq]
  unfold R p
  split
  · rw [← EReal.coe_sub, Ideal.exp_coe]
  · rw [sub_eq_add_neg, EReal.bot_add]
    simp

theorem p_shift (τ : ℝ) (x : Fin 512) : Z.p τ x = Real.exp (Z.top - τ) * Z.p Z.top x := by
  unfold p
  split
  · rw [← Real.exp_add]
    congr 1
    ring
  · simp

def den : ℝ := ∑ x, Z.p Z.top x

theorem den_pos : 0 < Z.den := by
  refine Finset.sum_pos' (fun x _ => ?_) ⟨Z.self, Finset.mem_univ _, ?_⟩
  · unfold p
    split
    · exact (Real.exp_pos _).le
    · exact le_rfl
  · unfold p
    rw [if_pos Z.self_near]
    exact Real.exp_pos _

variable (τ : ℝ) (w : Fin 256 → EReal) (hw : ∀ k, w k = if Z.valid k then ((Real.exp (Z.ρ (Z.key k) - τ) : ℝ) : EReal) else 0)
include hw

theorem w_key (k : Fin 256) (hk : Z.valid k) : w k = (Z.p τ (Z.key k) : EReal) := by
  rw [hw, if_pos hk, p, if_pos (Z.key_near k hk)]

theorem w_off (k : Fin 256) (hk : ¬ Z.valid k) : w k = 0 := by
  rw [hw, if_neg hk]

theorem den_eq : ∑ k, w k = ((Real.exp (Z.top - τ) * Z.den : ℝ) : EReal) := by
  rw [Z.sum_eq w (fun x => (Z.p τ x : EReal)) (Z.w_off τ w hw) (fun x hx => by rw [p, if_neg hx]; rfl) (Z.w_key τ w hw), ← coe_sum]
  unfold den
  rw [Finset.mul_sum]
  simp only [← p_shift]

theorem out_eq (V : Fin 512 → EReal) (VW : Fin 256 → EReal) (hV : ∀ k, Z.valid k → VW k = V (Z.key k)) :
    (∑ k, w k * VW k) * Ideal.div 1 (∑ k, w k) = refO Z.R V := by
  have hc := Real.exp_pos (Z.top - τ)
  have hd := Z.den_pos
  have hn : ∑ k, w k * VW k = ((Real.exp (Z.top - τ) : ℝ) : EReal) * ∑ x, (Z.p Z.top x : EReal) * V x := by
    rw [← mul_sum _ _ hc.le]
    refine Z.sum_eq _ _ (fun k hk => by rw [Z.w_off τ w hw k hk, zero_mul]) (fun x hx => ?_) (fun k hk => ?_)
    · rw [p, if_neg hx, EReal.coe_zero, zero_mul, mul_zero]
    · rw [Z.w_key τ w hw k hk, hV k hk, p_shift, EReal.coe_mul, mul_assoc]
  unfold refO
  simp only [exp_eq]
  rw [hn, Z.den_eq τ w hw, ← coe_sum]
  show _ = Ideal.div _ (Z.den : EReal)
  rw [Ideal.div_coe (mul_pos hc hd).ne', Ideal.div_coe hd.ne', one_mul, mul_comm ((Real.exp (Z.top - τ) : ℝ) : EReal), mul_assoc, ← EReal.coe_mul]
  refine congrArg (_ * ·) (congrArg _ ?_)
  field_simp

theorem lse_eq : (((τ * (Real.log 2)⁻¹ : ℝ) : EReal) + Ideal.log (∑ k, w k) * (((Real.log 2)⁻¹ : ℝ) : EReal)) * ((Real.log 2 : ℝ) : EReal) = refL Z.R := by
  have hc := Real.exp_pos (Z.top - τ)
  have hd := Z.den_pos
  have hl : Real.log 2 ≠ 0 := (Real.log_pos (by norm_num)).ne'
  unfold refL
  simp only [exp_eq]
  rw [Z.den_eq τ w hw, ← coe_sum, topR_eq]
  show _ = _ + Ideal.log (Z.den : EReal)
  rw [Ideal.log_coe, Ideal.log_coe, if_neg (not_le.mpr (mul_pos hc hd)), if_neg (not_le.mpr hd), Real.log_mul hc.ne' hd.ne', Real.log_exp]
  rw [← EReal.coe_mul, ← EReal.coe_add, ← EReal.coe_mul, ← EReal.coe_add]
  refine congrArg _ ?_
  field_simp
  ring

end Row

end Cert.Proof.Soft

end
-- ==== Proof.Attn.lean ====
/-
  A row of the kernel's attention is the reference's.
-/
module

public import proofs.«01_k».proof.Proof.Softmax

@[expose] public section

set_option maxRecDepth 16384
set_option maxHeartbeats 1000000

noncomputable section

namespace Cert.Proof.Attn

open Idealize.ShloMosaic
open Cert.Proof.KI Cert.Proof.Soft
open Cert.Proof.RI (distR refS slopeR topR refO refL)

/-- The place of a key in the plane, from its place in the window of block `j`, and back. -/
def keyOf (j : Fin 4) (k : Fin 256) : Fin 512 :=
  ⟨if 64 ≤ 128 * j.val + k.val ∧ 128 * j.val + k.val < 576 then 128 * j.val + k.val - 64 else 0, by split <;> omega⟩
def slotOf (j : Fin 4) (x : Fin 512) : Fin 256 :=
  ⟨if 128 * j.val ≤ x.val + 64 ∧ x.val + 64 - 128 * j.val < 256 then x.val + 64 - 128 * j.val else 0, by split <;> omega⟩

theorem ok_iff (j : Fin 4) (r : Fin 128) (k : Fin 256) : okV (varOf j) r k ↔
    (r.val + 64 - k.val) + (k.val - (r.val + 64)) ≤ 64 ∧ 64 ≤ 128 * j.val + k.val ∧ 128 * j.val + k.val < 576 := by
  have hr := r.isLt
  have hk := k.isLt
  unfold okV distN
  fin_cases j <;> simp [varOf] <;> omega

theorem dist_key (a : Fin 512) (k : Fin 256) (h : okV (varOf (blkOf a)) (posOf a) k) :
    distN (posOf a) k = distR a (keyOf (blkOf a) k) := by
  rw [ok_iff] at h
  have e1 : (blkOf a).val = a.val / 128 := rfl
  have e2 : (posOf a).val = a.val % 128 := rfl
  have e3 : (keyOf (blkOf a) k).val = 128 * (blkOf a).val + k.val - 64 := if_pos h.2
  unfold distN distR
  omega

theorem rowOf_eq (a : Fin 512) : rowOf (blkOf a) (posOf a) = a :=
  Fin.ext (by show 128 * (a.val / 128) + a.val % 128 = a.val; omega)
theorem blk_col (h : Fin 4) (d : Fin 128) : blkOf (colOf h d) = h :=
  Fin.ext (by show (128 * h.val + d.val) / 128 = h.val; omega)
theorem pos_col (h : Fin 4) (d : Fin 128) : posOf (colOf h d) = d :=
  Fin.ext (by show (128 * h.val + d.val) % 128 = d.val; omega)

/-- The slopes as reals. -/
def slR : Fin 4 → ℝ := ![13316085 / 134217728, 1 / 16, 1321123 / 33554432, 13316085 / 536870912]

theorem slopeR_eq (h : Fin 4) : slopeR h = (slR h : EReal) := by
  fin_cases h <;> rfl

theorem slopeV_eq (h : Fin 4) : slopeV h = ((-(slR h * 4) * (Real.log 2)⁻¹ : ℝ) : EReal) := by
  have e : ∀ {x y : ℝ}, x = y → (x : EReal) = (y : EReal) := fun h => congrArg _ h
  fin_cases h
  · show ((-((13316085/33554432)*(Real.log 2)⁻¹) : ℝ) : EReal) = _
    exact e (by show _ = -((13316085 / 134217728 : ℝ) * 4) * (Real.log 2)⁻¹; ring)
  · show ((-((1/4)*(Real.log 2)⁻¹) : ℝ) : EReal) = _
    exact e (by show _ = -((1 / 16 : ℝ) * 4) * (Real.log 2)⁻¹; ring)
  · show ((-((1321123/8388608)*(Real.log 2)⁻¹) : ℝ) : EReal) = _
    exact e (by show _ = -((1321123 / 33554432 : ℝ) * 4) * (Real.log 2)⁻¹; ring)
  · show ((-((13316085/134217728)*(Real.log 2)⁻¹) : ℝ) : EReal) = _
    exact e (by show _ = -((13316085 / 536870912 : ℝ) * 4) * (Real.log 2)⁻¹; ring)

section
variable (qr kr : Cert.KernelIdeal.S8x2048x4x128.Idx → ℝ) (B : Fin 8) (pl h : Fin 4) (a : Fin 512)

/-- The row of query `a`. -/
def rowZ : Row where
  near x := distR a x ≤ 64
  valid k := okV (varOf (blkOf a)) (posOf a) k
  key := keyOf (blkOf a)
  slot := slotOf (blkOf a)
  key_near k hk := by
    rw [← dist_key a k hk]
    exact hk.1
  slot_valid x hx := by
    rw [ok_iff]
    unfold distR at hx
    have e1 : (blkOf a).val = a.val / 128 := rfl
    have e2 : (posOf a).val = a.val % 128 := rfl
    have e3 : (slotOf (blkOf a) x).val = x.val + 64 - 128 * (blkOf a).val := if_pos (by omega)
    omega
  slot_key k hk := by
    rw [ok_iff] at hk
    have e3 : (keyOf (blkOf a) k).val = 128 * (blkOf a).val + k.val - 64 := if_pos hk.2
    have e4 : (slotOf (blkOf a) (keyOf (blkOf a) k)).val = (keyOf (blkOf a) k).val + 64 - 128 * (blkOf a).val := if_pos (by omega)
    exact Fin.ext (by omega)
  key_slot x hx := by
    unfold distR at hx
    have e1 : (blkOf a).val = a.val / 128 := rfl
    have e3 : (slotOf (blkOf a) x).val = x.val + 64 - 128 * (blkOf a).val := if_pos (by omega)
    have e4 : (keyOf (blkOf a) (slotOf (blkOf a) x)).val = 128 * (blkOf a).val + (slotOf (blkOf a) x).val - 64 := if_pos (by omega)
    exact Fin.ext (by omega)
  ρ x := (∑ d : Fin 128, qr (ix4 B (seqOf pl a) h d) * kr (ix4 B (seqOf pl x) h d)) * (11863283 / 134217728) - slR h * ((distR a x * 4 : ℕ) : ℝ)
  self := a
  self_near := by
    unfold distR
    omega

variable (q k : FVec Ideal Cert.KernelIdeal.S8x2048x4x128 .f32) (hq : ∀ y, q y = (qr y : EReal)) (hk : ∀ y, k y = (kr y : EReal))

/-- A window's entry of a valid key. -/
theorem win_key (x : FVec Ideal Cert.KernelIdeal.S8x2048x4x128 .f32) (kk : Fin 256) (hv : okV (varOf (blkOf a)) (posOf a) kk) (d : Fin 128) :
    padG (kB x B) pl (winOf (blkOf a) kk) (colOf h d) = x (ix4 B (seqOf pl (keyOf (blkOf a) kk)) h d) := by
  rw [ok_iff] at hv
  have hw : 64 ≤ (winOf (blkOf a) kk).val ∧ (winOf (blkOf a) kk).val < 576 := hv.2
  unfold padG
  rw [dif_pos hw]
  show x (ix4 B (seqOf pl _) (blkOf (colOf h d)) (posOf (colOf h d))) = _
  rw [blk_col, pos_col]
  refine congrArg (fun e => x (ix4 B (seqOf pl e) h d)) (Fin.ext ?_)
  show 128 * (blkOf a).val + kk.val - 64 = if _ then _ else _
  rw [if_pos hv.2]

include hk in
theorem win_real (kk : Fin 256) (d : Fin 128) : ∃ r : ℝ, padG (kB k B) pl (winOf (blkOf a) kk) (colOf h d) = (r : EReal) := by
  unfold padG
  split
  · exact ⟨_, hk _⟩
  · exact ⟨0, rfl⟩

include hq in
theorem query_at (d : Fin 128) : qB q B (ix4 0 pl (rowOf (blkOf a) (posOf a)) (colOf h d))
    = ((qr (ix4 B (seqOf pl a) h d) * (11863283 / 134217728) * (Real.log 2)⁻¹ : ℝ) : EReal) := by
  have hl : Real.log 2 ≠ 0 := (Real.log_pos (by norm_num)).ne'
  rw [rowOf_eq]
  show scaleV q (ix4 B (seqOf pl a) (blkOf (colOf h d)) (posOf (colOf h d))) = _
  rw [blk_col, pos_col, scaleV_at, hq, Ideal.div_coe hl, ← EReal.coe_mul, ← EReal.coe_mul, one_div]

include hq hk in
theorem score_eq (sh : ℝ) (kk : Fin 256) : scoreB (qB q B) (kB k B) (sh : EReal) pl (blkOf a) h (posOf a) kk
    = if okV (varOf (blkOf a)) (posOf a) kk then
        (((rowZ qr kr B pl h a).ρ (keyOf (blkOf a) kk) * (Real.log 2)⁻¹ - sh : ℝ) : EReal) else ⊥ := by
  unfold scoreB biasG
  simp only [query_at qr B pl h a q hq]
  split
  · rename_i hv
    simp only [win_key B pl h a k kk hv, hk, ← EReal.coe_mul]
    rw [← coe_sum, slopeV_eq, ← EReal.coe_mul, ← EReal.coe_sub, ← EReal.coe_add]
    refine congrArg _ ?_
    show _ = ((∑ d : Fin 128, qr (ix4 B (seqOf pl a) h d) * kr (ix4 B (seqOf pl (keyOf (blkOf a) kk)) h d)) * (11863283 / 134217728)
      - slR h * ((distR a (keyOf (blkOf a) kk) * 4 : ℕ) : ℝ)) * (Real.log 2)⁻¹ - sh
    rw [dist_key a kk hv, Finset.sum_mul, sub_mul, Finset.sum_mul]
    push_cast
    have : ∀ d : Fin 128, qr (ix4 B (seqOf pl a) h d) * (11863283 / 134217728) * (Real.log 2)⁻¹ * kr (ix4 B (seqOf pl (keyOf (blkOf a) kk)) h d)
      = qr (ix4 B (seqOf pl a) h d) * kr (ix4 B (seqOf pl (keyOf (blkOf a) kk)) h d) * (11863283 / 134217728) * (Real.log 2)⁻¹ := fun d => by ring
    simp only [this]
    ring
  · exact EReal.add_bot _

include hq hk in
theorem refS_eq : refS q k B pl h a = (rowZ qr kr B pl h a).R := by
  funext x
  unfold refS Row.R
  show (if distR a x ≤ 64 then _ else _) = (if distR a x ≤ 64 then _ else _)
  split
  · simp only [hq, hk, ← EReal.coe_mul]
    rw [← coe_sum, slopeR_eq, ← EReal.coe_mul, ← EReal.coe_mul, ← EReal.coe_sub]
    rfl
  · rfl

theorem exp2_eq (x : ℝ) : Ideal.exp2 (x : EReal) = ((Real.exp (x * Real.log 2) : ℝ) : EReal) := by
  rw [Ideal.exp2_coe]
  refine congrArg _ ?_
  show (2 : ℝ) ^ x = _
  rw [Real.rpow_def_of_pos (by norm_num), mul_comm]

include hq hk in
theorem wF_eq (sh : ℝ) (kk : Fin 256) : wF (scoreB (qB q B) (kB k B) (sh : EReal) pl (blkOf a) h (posOf a)) kk
    = if (rowZ qr kr B pl h a).valid kk then ((Real.exp ((rowZ qr kr B pl h a).ρ ((rowZ qr kr B pl h a).key kk) - sh * Real.log 2) : ℝ) : EReal) else 0 := by
  have hl : Real.log 2 ≠ 0 := (Real.log_pos (by norm_num)).ne'
  unfold wF
  rw [score_eq qr kr B pl h a q k hq hk]
  show Ideal.exp2 (if okV _ _ _ then _ else _) = if okV _ _ _ then _ else _
  split
  · rw [exp2_eq]
    refine congrArg (fun z : ℝ => ((Real.exp z : ℝ) : EReal)) ?_
    show ((rowZ qr kr B pl h a).ρ (keyOf (blkOf a) kk) * (Real.log 2)⁻¹ - sh) * Real.log 2 = (rowZ qr kr B pl h a).ρ (keyOf (blkOf a) kk) - sh * Real.log 2
    field_simp
  · rfl

include hq hk in
theorem top_eq : topB (scoreB (qB q B) (kB k B) ((0 : ℝ) : EReal) pl (blkOf a) h (posOf a))
    = (((rowZ qr kr B pl h a).top * (Real.log 2)⁻¹ : ℝ) : EReal) := by
  have hl : 0 < Real.log 2 := Real.log_pos (by norm_num)
  have hs := (rowZ qr kr B pl h a).exists_top.choose_spec
  refine fold_max _ _ (fun kk => ?_) ⟨(rowZ qr kr B pl h a).slot (rowZ qr kr B pl h a).exists_top.choose, ?_⟩
  · rw [score_eq qr kr B pl h a q k hq hk]
    split
    · rename_i hv
      refine EReal.coe_le_coe_iff.mpr ?_
      rw [sub_zero]
      exact mul_le_mul_of_nonneg_right (hs.2 _ ((rowZ qr kr B pl h a).key_near kk hv)) (inv_nonneg.mpr hl.le)
    · exact bot_le
  · refine (score_eq qr kr B pl h a q k hq hk 0 _).trans ((if_pos ((rowZ qr kr B pl h a).slot_valid _ hs.1)).trans ?_)
    rw [sub_zero]
    refine congrArg (fun z : Fin 512 => (((rowZ qr kr B pl h a).ρ z * (Real.log 2)⁻¹ : ℝ) : EReal)) ?_
    exact (rowZ qr kr B pl h a).key_slot _ hs.1

include hq hk in
theorem wM_eq (kk : Fin 256) : wM (scoreB (qB q B) (kB k B) ((0 : ℝ) : EReal) pl (blkOf a) h (posOf a)) kk
    = if (rowZ qr kr B pl h a).valid kk then ((Real.exp ((rowZ qr kr B pl h a).ρ ((rowZ qr kr B pl h a).key kk) - (rowZ qr kr B pl h a).top) : ℝ) : EReal) else 0 := by
  have hl : Real.log 2 ≠ 0 := (Real.log_pos (by norm_num)).ne'
  unfold wM
  rw [top_eq qr kr B pl h a q k hq hk, score_eq qr kr B pl h a q k hq hk]
  show Ideal.exp2 ((if okV _ _ _ then _ else _) - _) = if okV _ _ _ then _ else _
  split
  · rw [← EReal.coe_sub, exp2_eq]
    refine congrArg (fun z : ℝ => ((Real.exp z : ℝ) : EReal)) ?_
    show ((rowZ qr kr B pl h a).ρ (keyOf (blkOf a) kk) * (Real.log 2)⁻¹ - 0 - (rowZ qr kr B pl h a).top * (Real.log 2)⁻¹) * Real.log 2
      = (rowZ qr kr B pl h a).ρ (keyOf (blkOf a) kk) - (rowZ qr kr B pl h a).top
    field_simp
    ring
  · rw [sub_eq_add_neg, EReal.bot_add]
    rfl

variable (v : FVec Ideal Cert.KernelIdeal.S8x2048x4x128 .f32)

include hq hk in
theorem outF (sh : ℝ) (d : Fin 128) : outB (wF (scoreB (qB q B) (kB k B) (sh : EReal) pl (blkOf a) h (posOf a))) (kB v B) pl (blkOf a) h d
    = refO (refS q k B pl h a) (fun x => v (ix4 B (seqOf pl x) h d)) := by
  rw [refS_eq qr kr B pl h a q k hq hk]
  exact (rowZ qr kr B pl h a).out_eq _ _ (wF_eq qr kr B pl h a q k hq hk sh) _ _ fun kk hv => win_key B pl h a v kk hv d

include hq hk in
theorem outM (d : Fin 128) : outB (wM (scoreB (qB q B) (kB k B) ((0 : ℝ) : EReal) pl (blkOf a) h (posOf a))) (kB v B) pl (blkOf a) h d
    = refO (refS q k B pl h a) (fun x => v (ix4 B (seqOf pl x) h d)) := by
  rw [refS_eq qr kr B pl h a q k hq hk]
  exact (rowZ qr kr B pl h a).out_eq _ _ (wM_eq qr kr B pl h a q k hq hk) _ _ fun kk hv => win_key B pl h a v kk hv d

include hq hk in
theorem lseF (sh : ℝ) : lseB (sh : EReal) (wF (scoreB (qB q B) (kB k B) (sh : EReal) pl (blkOf a) h (posOf a))) = refL (refS q k B pl h a) := by
  have hl : Real.log 2 ≠ 0 := (Real.log_pos (by norm_num)).ne'
  rw [refS_eq qr kr B pl h a q k hq hk]
  have e : (sh : EReal) = ((sh * Real.log 2 * (Real.log 2)⁻¹ : ℝ) : EReal) := congrArg _ (by field_simp)
  refine Eq.trans ?_ ((rowZ qr kr B pl h a).lse_eq (sh * Real.log 2) _ (wF_eq qr kr B pl h a q k hq hk sh))
  unfold lseB
  rw [← e]

include hq hk in
theorem lseM : lseB (topB (scoreB (qB q B) (kB k B) ((0 : ℝ) : EReal) pl (blkOf a) h (posOf a)))
    (wM (scoreB (qB q B) (kB k B) ((0 : ℝ) : EReal) pl (blkOf a) h (posOf a))) = refL (refS q k B pl h a) := by
  rw [refS_eq qr kr B pl h a q k hq hk]
  refine Eq.trans ?_ ((rowZ qr kr B pl h a).lse_eq _ _ (wM_eq qr kr B pl h a q k hq hk))
  unfold lseB
  rw [top_eq qr kr B pl h a q k hq hk]

end

end Cert.Proof.Attn

end
-- ==== Proof.Control.lean ====
/-
  The control words, the precondition, and the two result arrays against the reference's.
-/
module

public import proofs.«01_k».proof.Proof.Attn
public import proofs.«01_k».proof.Pre_finite_qk

@[expose] public section

set_option maxRecDepth 16384
set_option maxHeartbeats 1000000

noncomputable section

namespace Cert.Proof.Attn

open Idealize.ShloMosaic
open Cert.KernelIdeal
open Cert.Proof.KI Cert.Proof.Soft

theorem bits40 : Ideal.ofBits .f32 1109393408#32 = ((40 : ℝ) : EReal) := by
  simp [Ideal.ofBits, Ideal.ieee, -EReal.coe_mul]
  norm_num

theorem abs_nonneg' (x : EReal) : 0 ≤ (FloatOps.absf (F := Ideal) (φ := .f32) x : EReal) := by
  show 0 ≤ max x (-x)
  rcases le_total 0 x with h | h
  · exact le_max_of_le_left h
  · exact le_max_of_le_right (EReal.neg_nonneg.mpr h)

theorem top_nonneg (f : Fin 128 → EReal) (h : ∀ i, 0 ≤ f i) : 0 ≤ Finset.univ.fold max (Ideal.ofBits .f32 4286578688#32) f :=
  (Finset.le_fold_max _).mpr (Or.inr ⟨0, Finset.mem_univ _, h 0⟩)

theorem bndV_nonneg (g k : FVec Ideal S1x128 .f32) : (0 : EReal) ≤ bndV g k (ix1 0) := by
  have h : bndV g k (ix1 0) = Ideal.ofBits FTy.f32 1124073472#32 *
          Finset.fold max (Ideal.ofBits FTy.f32 4286578688#32)
            (fun x => FloatOps.absf (F := Ideal) (φ := .f32) (g (ix2 0 x) * Ideal.ofBits FTy.f32 1040356334#32)) Finset.univ *
        Finset.fold max (Ideal.ofBits FTy.f32 4286578688#32) (fun x => FloatOps.absf (F := Ideal) (φ := .f32) (k (ix2 0 x))) Finset.univ *
      Ideal.ofBits FTy.f32 1065484288#32 := by
    pointwise [bndV, topV]
  have h1 : (0 : EReal) ≤ Ideal.ofBits .f32 1124073472#32 := by
    rw [show Ideal.ofBits .f32 1124073472#32 = ((128 : ℝ) : EReal) by simp [Ideal.ofBits, Ideal.ieee, -EReal.coe_mul]; norm_num]
    exact_mod_cast (by norm_num : (0 : ℝ) ≤ 128)
  have h2 : (0 : EReal) ≤ Ideal.ofBits .f32 1065484288#32 := by
    rw [show Ideal.ofBits .f32 1065484288#32 = ((65 / 64 : ℝ) : EReal) by simp [Ideal.ofBits, Ideal.ieee, -EReal.coe_mul]; norm_num]
    exact_mod_cast (by norm_num : (0 : ℝ) ≤ 65 / 64)
  rw [h]
  exact mul_nonneg (mul_nonneg (mul_nonneg h1 (top_nonneg _ fun i => abs_nonneg' _)) (top_nonneg _ fun i => abs_nonneg' _)) h2

theorem fixV_at (b : FVec Ideal S1 .f32) (h : ¬ b (ix1 0) ≤ ((40 : ℝ) : EReal)) : fixV b (ix1 0) = (0 : EReal) := by
  have e : fixV b (ix1 0) = FloatOps.uitofp FTy.f32 (Finset.fold IntOp.andi (1#1)
      (fun k => BitVec.ofBool (decide (b (ix1 k) ≤ Ideal.ofBits FTy.f32 1109393408#32))) Finset.univ) := by
    pointwise [fixV]
  have e1 : Finset.fold IntOp.andi (1#1) (fun k : Fin 1 => BitVec.ofBool (decide (b (ix1 k) ≤ Ideal.ofBits FTy.f32 1109393408#32))) Finset.univ = 0#1 := by
    have u : (Finset.univ : Finset (Fin 1)) = {0} := rfl
    rw [u, Finset.fold_singleton, bits40, decide_eq_false h]
    rfl
  rw [e, e1]
  show (((0#1 : BitVec 1).toNat : ℝ) : EReal) = 0
  simp

theorem fixW_zero : fixW (F := Ideal) (0 : EReal) ≠ 1#1 := by
  have e : Ideal.ofBits .f32 0x3F000000#32 = ((1 / 2 : ℝ) : EReal) := by
    simp [Ideal.ofBits, Ideal.ieee, -EReal.coe_mul]
    norm_num
  show BitVec.ofBool (decide ((0 : EReal) > Ideal.ofBits .f32 0x3F000000#32)) ≠ 1#1
  rw [e, decide_eq_false (by
    refine not_lt.mpr ?_
    exact_mod_cast (by norm_num : (0 : ℝ) ≤ 1 / 2))]
  decide

theorem ctlB_eq (g k : FVec Ideal S1x128 .f32) : ctlB (F := Ideal) (ctlC g k) = bndV g k (ix1 0) := by
  unfold ctlB ctlC
  pointwise [cat2]

theorem ctlA_eq (g k : FVec Ideal S1x128 .f32) : ctlA (F := Ideal) (ctlC g k) = fixV (bndV g k) (ix1 0) := by
  unfold ctlA ctlC
  pointwise [cat2]

/-- The fixed shift is a real number. -/
theorem shift_real (g k : FVec Ideal S1x128 .f32) (h : fixW (F := Ideal) (ctlA (ctlC g k)) = 1#1) :
    ∃ r : ℝ, ctlB (F := Ideal) (ctlC g k) = (r : EReal) := by
  rw [ctlA_eq] at h
  rw [ctlB_eq]
  have h0 := bndV_nonneg g k
  by_cases hb : bndV g k (ix1 0) ≤ ((40 : ℝ) : EReal)
  · exact ⟨_, (EReal.coe_toReal (ne_of_lt (lt_of_le_of_lt hb (EReal.coe_lt_top _))) (ne_of_gt (lt_of_lt_of_le EReal.bot_lt_zero h0))).symm⟩
  · rw [fixV_at _ hb] at h
    exact absurd h fixW_zero

theorem real_of_abs (x : EReal) (h : (FloatOps.absf (F := Ideal) (φ := .f32) x : EReal) < ⊤) : x = (x.toReal : EReal) := by
  have h' : max x (-x) < ⊤ := h
  rw [max_lt_iff] at h'
  refine (EReal.coe_toReal (ne_of_lt h'.1) ?_).symm
  rintro rfl
  simp at h'

theorem finite_of_pre [Cert.Pre_finite_qk.Facts] (q k v : FVec Ideal S8x2048x4x128 .f32) (g e : FVec Ideal S1x128 .f32)
    (h : Cert.Pre_finite_qk.fn (F := Ideal) q k v g e = fun _ => 1#1) (y : S8x2048x4x128.Idx) : q y = ((q y).toReal : EReal) ∧ k y = ((k y).toReal : EReal) := by
  have h' := congrFun h y
  have hi : Ideal.ofBits .f32 0x7F800000#32 = ⊤ := by
    simp [Ideal.ofBits, Ideal.ieee]
  have e' : Cert.Pre_finite_qk.fn (F := Ideal) q k v g e y
      = IntOp.andi (BitVec.ofBool (decide ((FloatOps.absf (F := Ideal) (φ := .f32) (q y) : EReal) < Ideal.ofBits .f32 0x7F800000#32)))
        (BitVec.ofBool (decide ((FloatOps.absf (F := Ideal) (φ := .f32) (k y) : EReal) < Ideal.ofBits .f32 0x7F800000#32))) := by
    unfold Cert.Pre_finite_qk.fn
    pointwise
  rw [e', hi] at h'
  have hand : ∀ a b : BitVec 1, IntOp.andi a b = 1#1 → a = 1#1 ∧ b = 1#1 := by decide
  have hbit : ∀ a : Bool, BitVec.ofBool a = 1#1 → a = true := by decide
  obtain ⟨h1, h2⟩ := hand _ _ h'
  exact ⟨real_of_abs _ (of_decide_eq_true (hbit _ h1)), real_of_abs _ (of_decide_eq_true (hbit _ h2))⟩

section
variable [Cert.ReferenceIdeal.Facts] (q k v : FVec Ideal S8x2048x4x128 .f32) (g e : FVec Ideal S1x128 .f32)
  (hf : ∀ y, q y = ((q y).toReal : EReal) ∧ k y = ((k y).toReal : EReal))
include hf

theorem O7_eq : O7 q k v (ctlC g e) = Cert.ReferenceIdeal.Read.val_main_v53 (F := Ideal) q k v := by
  refine funext fun (y : S8x4x512x512.Idx) => ?_
  have hy : y = ix4 (y 0 : Fin 8) (y 1 : Fin 4) (y 2 : Fin 512) (y 3 : Fin 512) := by blk_ext
  refine (congrArg _ hy).trans (Eq.trans ?_ (congrArg (Cert.ReferenceIdeal.Read.val_main_v53 (F := Ideal) q k v) hy.symm))
  refine (O7_ix q k v _ (y 0) (y 1) (y 2) (y 3)).trans (Eq.trans ?_ (Cert.Proof.RI.out_at q k v (y 0) (y 1) (y 2) (y 3)).symm)
  split
  · rename_i h
    obtain ⟨r, hr⟩ := shift_real g e h
    have hs : shB (ctlC g e) = (r : EReal) := by
      unfold shB shiftW
      rw [h]
      exact hr
    rw [hs]
    exact outF _ _ (y 0) (y 1) (blkOf (y 3)) (y 2) q k (fun y => (hf y).1) (fun y => (hf y).2) v r (posOf (y 3))
  · rename_i h
    have hs : shB (ctlC g e) = ((0 : ℝ) : EReal) := by
      unfold shB shiftW
      refine (if_neg h).trans ?_
      show Ideal.ofBits .f32 0x00000000#32 = _
      simp [Ideal.ofBits, Ideal.ieee]
    rw [hs]
    exact outM _ _ (y 0) (y 1) (blkOf (y 3)) (y 2) q k (fun y => (hf y).1) (fun y => (hf y).2) v (posOf (y 3))

theorem O8_eq : O8 q k (ctlC g e) = Cert.ReferenceIdeal.Read.val_main_v57 (F := Ideal) q k := by
  refine funext fun (y : S8x4x512x128.Idx) => ?_
  have hy : y = ix4 (y 0 : Fin 8) (y 1 : Fin 4) (y 2 : Fin 512) (y 3 : Fin 128) := by blk_ext
  refine (congrArg _ hy).trans (Eq.trans ?_ (congrArg (Cert.ReferenceIdeal.Read.val_main_v57 (F := Ideal) q k) hy.symm))
  refine (O8_ix q k _ (y 0) (y 1) (y 2) (y 3)).trans (Eq.trans ?_ (Cert.Proof.RI.lse_at q k (y 0) (y 1) (y 2) (y 3)).symm)
  split
  · rename_i h
    obtain ⟨r, hr⟩ := shift_real g e h
    have hs : shB (ctlC g e) = (r : EReal) := by
      unfold shB shiftW
      rw [h]
      exact hr
    rw [hs, hr]
    exact lseF _ _ (y 0) (y 1) (laneHead (y 3)) (y 2) q k (fun y => (hf y).1) (fun y => (hf y).2) r
  · rename_i h
    have hs : shB (ctlC g e) = ((0 : ℝ) : EReal) := by
      unfold shB shiftW
      refine (if_neg h).trans ?_
      show Ideal.ofBits .f32 0x00000000#32 = _
      simp [Ideal.ofBits, Ideal.ieee]
    rw [hs]
    exact lseM _ _ (y 0) (y 1) (laneHead (y 3)) (y 2) q k (fun y => (hf y).1) (fun y => (hf y).2)

end

end Cert.Proof.Attn

end
-- ==== Proof.lean ====
/- The claims about the attention call, the call of the layer's second half and the merge, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Reference2Ideal
public import proofs.«01_k».proof.Proof.Gen.Reference2Ideal.Run
public import proofs.«01_k».proof.Proof.Gen.Reference2Ideal.Read
public import proofs.«01_k».proof.Proof.Launch
public import proofs.«01_k».proof.Proof.LaunchK
public import proofs.«01_k».proof.Proof.Mlp
public import proofs.«01_k».proof.Proof.MergeArr
public import proofs.«01_k».proof.Proof.Control
public import Idealize.ShloMosaic.Adequacy
public import Idealize.ShloMosaic.Init

@[expose] public section

noncomputable section

namespace Cert.Proof

open Idealize.ShloMosaic Idealize.ShloMosaic.TcCoe Idealize.SL.Sem

/-- The attention kernel's frame over the machine's floats. -/
theorem frame_kernel [Cert.Kernel.Facts] : Cert.quiescent_Kernel := fun m ρ _ =>
  θ_run_with_sems (Cert.Kernel.Gen.frame_of m ρ (K0.dats m) fun _ _ => rfl) (K0.run_main (F := Bits) m ρ)

/-- The attention kernel's frame over the extended reals. -/
theorem frame_kernelIdeal [Cert.KernelIdeal.Facts] : Cert.quiescent_KernelIdeal := fun m ρ _ =>
  θ_run_with_sems (Cert.KernelIdeal.Gen.frame_of m ρ (KI.dats m) fun _ _ => rfl) (KI.run_main (F := Ideal) m ρ)

/-- The attention reference's frame: its run, and the program declares no semaphore. -/
theorem frame_referenceIdeal [Cert.ReferenceIdeal.Facts] : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The same for the second reference. -/
theorem frame_reference2Ideal [Cert.Reference2Ideal.Facts] : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The same for the third reference. -/
theorem frame_reference3Ideal [Cert.Reference3Ideal.Facts] : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The constants the kernel prints, named by the reals they round. -/
theorem preserves : Cert.preserves_Kernel_KernelIdeal :=
  ⟨IdealRules.named_const.statement Cert.KernelIdeal.κ "slope0" .f32 0xBF129195#32 _ rfl,
   IdealRules.named_const.statement Cert.KernelIdeal.κ "mask" .f32 0xF149F2CA#32 _ rfl,
   IdealRules.named_const.statement Cert.KernelIdeal.κ "slope1" .f32 0xBEB8AA3B#32 _ rfl,
   IdealRules.named_const.statement Cert.KernelIdeal.κ "slope2" .f32 0xBE68A9CD#32 _ rfl,
   IdealRules.named_const.statement Cert.KernelIdeal.κ "slope3" .f32 0xBE129195#32 _ rfl,
   IdealRules.named_const.statement Cert.KernelIdeal.κ "log2e" .f32 0x3FB8AA3B#32 _ rfl,
   IdealRules.named_const.statement Cert.KernelIdeal.κ "ln2" .f32 0x3F317218#32 _ rfl⟩

/-- The second call ends where its reference ends. -/
theorem algebraic_mlp [Cert.Kernel2Ideal.Facts] [Cert.Reference2Ideal.Facts] :
    Cert.algebraic_Kernel2Ideal_Reference2Ideal := fun m ρ m' ρ' _ hagree =>
  ⟨_, (θ_run Cert.Kernel2Ideal.defs _ _).mono (fun r h c => ⟨(h c).1.trans (Mlp.arr_eq m c), (h c).2⟩)
      (Cert.Kernel2Ideal.Value.run_blocks (F := Ideal) m ρ),
    (θ_run Cert.Reference2Ideal.defs _ _).mono
      (fun r h c => ⟨by
        rw [(h c).1, Cert.Reference2Ideal.Read.val_main_v19_eq, (hagree c).1, (hagree c).2.1, (hagree c).2.2.1, (hagree c).2.2.2],
        (h c).2⟩)
      (Cert.Reference2Ideal.Value.run (F := Ideal) m' ρ')⟩

/-- The precondition's shapes are what its operations take. -/
theorem pre_facts : Cert.Pre_finite_qk.Facts := ⟨by decide⟩

/-- The attention call ends where its reference ends, both results, at finite queries and keys. -/
theorem algebraic_attn [Cert.KernelIdeal.Facts] [Cert.ReferenceIdeal.Facts] [Cert.Pre_finite_qk.Facts] :
    Cert.algebraic_KernelIdeal_ReferenceIdeal_pre_finite_qk := fun m ρ m' ρ' hpre hagree =>
  ⟨_, _, (θ_run Cert.KernelIdeal.defs _ _).mono
      (fun r h c => ⟨((h.1 c).1 4).trans ((KI.arr4_eq m c).trans (Attn.O7_eq _ _ _ _ _ (Attn.finite_of_pre _ _ _ _ _ (hpre c)))),
        ((h.1 c).1 5).trans ((KI.arr5_eq m c).trans (Attn.O8_eq _ _ _ _ (Attn.finite_of_pre _ _ _ _ _ (hpre c)))),
        ((h.1 c).2 Cert.KernelIdeal.main_arg0 (by decide)).trans (Cert.KernelIdeal.Gen.V_main_arg0 m c),
        ((h.1 c).2 Cert.KernelIdeal.main_arg1 (by decide)).trans (Cert.KernelIdeal.Gen.V_main_arg1 m c),
        ((h.1 c).2 Cert.KernelIdeal.main_arg2 (by decide)).trans (Cert.KernelIdeal.Gen.V_main_arg2 m c),
        ((h.1 c).2 Cert.KernelIdeal.main_arg3 (by decide)).trans (Cert.KernelIdeal.Gen.V_main_arg3 m c),
        ((h.1 c).2 Cert.KernelIdeal.main_arg4 (by decide)).trans (Cert.KernelIdeal.Gen.V_main_arg4 m c)⟩)
      (KI.run_main (F := Ideal) m ρ),
    (θ_run Cert.ReferenceIdeal.defs _ _).mono
      (fun r h c => ⟨by
          rw [(h c).1, Cert.ReferenceIdeal.Read.val_main_v53_eq, (hagree c).1, (hagree c).2.1, (hagree c).2.2.1],
        by rw [(h c).2.1, Cert.ReferenceIdeal.Read.val_main_v57_eq, (hagree c).1, (hagree c).2.1],
        (h c).2.2⟩)
      (Cert.ReferenceIdeal.Value.run (F := Ideal) m' ρ')⟩

/-- The same of the merge's precondition. -/
theorem pre3_facts : Cert.Pre_finite_l.Facts := ⟨by decide⟩

theorem finite_of_pre3 [Cert.Pre_finite_l.Facts] (x0 : FVec Ideal Cert.Pre_finite_l.S8x2048x1024 .f32) (x1 : FVec Ideal Cert.Pre_finite_l.S1024 .f32)
    (x2 : FVec Ideal Cert.Pre_finite_l.S8x2048x512 .f32) (x3 x4 x5 : FVec Ideal Cert.Pre_finite_l.S8x2048x4x128 .f32) (x6 x7 x8 : FVec Ideal Cert.Pre_finite_l.S8x2048x4 .f32)
    (x9 : FVec Ideal Cert.Pre_finite_l.S8x2048x512 .f32) (x10 : FVec Ideal Cert.Pre_finite_l.S1024x8960 .f32) (x11 : FVec Ideal Cert.Pre_finite_l.S3x1024 .f32)
    (x12 : FVec Ideal Cert.Pre_finite_l.S3x512x1024 .f32) (x13 : FVec Ideal Cert.Pre_finite_l.S1024x1024 .f32)
    (h : Cert.Pre_finite_l.fn (F := Ideal) x0 x1 x2 x3 x4 x5 x6 x7 x8 x9 x10 x11 x12 x13 = fun _ => 1#1) (y : Cert.Pre_finite_l.S8x2048x4.Idx) :
    (∃ r : ℝ, x6 y = (r : EReal)) ∧ (∃ r : ℝ, x7 y = (r : EReal)) ∧ ∃ r : ℝ, x8 y = (r : EReal) := by
  have h' := congrFun h y
  have hi : Ideal.ofBits .f32 0x7F800000#32 = ⊤ := by
    simp [Ideal.ofBits, Ideal.ieee]
  have e' : Cert.Pre_finite_l.fn (F := Ideal) x0 x1 x2 x3 x4 x5 x6 x7 x8 x9 x10 x11 x12 x13 y
      = IntOp.andi (IntOp.andi (BitVec.ofBool (decide ((FloatOps.absf (F := Ideal) (φ := .f32) (x6 y) : EReal) < Ideal.ofBits .f32 0x7F800000#32)))
        (BitVec.ofBool (decide ((FloatOps.absf (F := Ideal) (φ := .f32) (x7 y) : EReal) < Ideal.ofBits .f32 0x7F800000#32))))
        (BitVec.ofBool (decide ((FloatOps.absf (F := Ideal) (φ := .f32) (x8 y) : EReal) < Ideal.ofBits .f32 0x7F800000#32))) := by
    unfold Cert.Pre_finite_l.fn
    pointwise
  rw [e', hi] at h'
  have hand : ∀ a b : BitVec 1, IntOp.andi a b = 1#1 → a = 1#1 ∧ b = 1#1 := by decide
  have hbit : ∀ a : Bool, BitVec.ofBool a = 1#1 → a = true := by decide
  obtain ⟨h12, h3⟩ := hand _ _ h'
  obtain ⟨h1, h2⟩ := hand _ _ h12
  exact ⟨⟨_, Attn.real_of_abs _ (of_decide_eq_true (hbit _ h1))⟩, ⟨_, Attn.real_of_abs _ (of_decide_eq_true (hbit _ h2))⟩,
    ⟨_, Attn.real_of_abs _ (of_decide_eq_true (hbit _ h3))⟩⟩

/-- The merge ends where its reference ends, at finite log denominators. -/
theorem algebraic_merge [Cert.Kernel3Ideal.Facts] [Cert.Reference3Ideal.Facts] [Cert.Pre_finite_l.Facts] :
    Cert.algebraic_Kernel3Ideal_Reference3Ideal_pre_finite_l := fun m ρ m' ρ' hpre hagree =>
  ⟨_, (θ_run Cert.Kernel3Ideal.defs _ _).mono
      (fun r h c => ⟨(h c).1.trans (KM.arr_eq m c (fun y => (finite_of_pre3 _ _ _ _ _ _ _ _ _ _ _ _ _ _ (hpre c) y).1)
        (fun y => (finite_of_pre3 _ _ _ _ _ _ _ _ _ _ _ _ _ _ (hpre c) y).2.1) (fun y => (finite_of_pre3 _ _ _ _ _ _ _ _ _ _ _ _ _ _ (hpre c) y).2.2)), (h c).2⟩)
      (Cert.Kernel3Ideal.Value.run_blocks (F := Ideal) m ρ),
    (θ_run Cert.Reference3Ideal.defs _ _).mono
      (fun r h c => ⟨by
        obtain ⟨e0, e1, e2, e3, e4, e5, e6, e7, e8, e9, e10, e11, e12, e13⟩ := hagree c
        rw [(h c).1, Cert.Reference3Ideal.Read.val_main_v55_eq, e0, e1, e2, e3, e4, e5, e6, e7, e8, e9, e10, e11, e12, e13],
        (h c).2⟩)
      (Cert.Reference3Ideal.Value.run (F := Ideal) m' ρ')⟩

theorem claim : Cert.Claim :=
  haveI := pre_facts
  haveI := pre3_facts
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, pre_facts, pre3_facts,
    frame_kernel, frame_kernelIdeal, fun m ρ _ => frame_kernelIdeal m ρ trivial,
    frame_referenceIdeal, fun m ρ _ => frame_referenceIdeal m ρ trivial,
    fun m ρ _ => Cert.Kernel2.Gen.frame m ρ, fun m ρ _ => Cert.Kernel2Ideal.Gen.frame m ρ, frame_reference2Ideal,
    fun m ρ _ => Cert.Kernel3.Gen.frame m ρ, fun m ρ _ => Cert.Kernel3Ideal.Gen.frame m ρ, fun m ρ _ => Cert.Kernel3Ideal.Gen.frame m ρ,
    frame_reference3Ideal, fun m ρ _ => frame_reference3Ideal m ρ trivial,
    preserves, algebraic_attn, trivial, algebraic_mlp, trivial, algebraic_merge⟩

end Cert.Proof

end
